-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaReferenceIdeal (m : (ℓ : Loc Cert.GlaReferenceIdeal.nD Cert.GlaReferenceIdeal.τ Cert.GlaReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5)
      ∧ r.2.mem ((c.tc : Thread Cert.Gla.nD Cert.Gla.τ).loc Cert.Gla.main_arg6) = m ((c.tc : Thread Cert.Gla.nD Cert.Gla.τ).loc Cert.Gla.main_arg6)
      ∧ r.2.mem ((c.tc : Thread Cert.Gla.nD Cert.Gla.τ).loc Cert.Gla.main_arg7) = m ((c.tc : Thread Cert.Gla.nD Cert.Gla.τ).loc Cert.Gla.main_arg7)
      ∧ r.2.mem ((c.tc : Thread Cert.Gla.nD Cert.Gla.τ).loc Cert.Gla.main_arg8) = m ((c.tc : Thread Cert.Gla.nD Cert.Gla.τ).loc Cert.Gla.main_arg8))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
      ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7)
      ∧ r.2.mem ((c.tc : Thread Cert.GlaIdeal.nD Cert.GlaIdeal.τ).loc Cert.GlaIdeal.main_arg8) = m ((c.tc : Thread Cert.GlaIdeal.nD Cert.GlaIdeal.τ).loc Cert.GlaIdeal.main_arg8))
      ∧ r.2.sem = fun _ => 0)

def quiescent_GlaReferenceIdeal [hGlaReferenceIdeal : Cert.GlaReferenceIdeal.Facts] : Prop :=
  ∀ (m : (ℓ : Loc Cert.GlaReferenceIdeal.nD Cert.GlaReferenceIdeal.τ Cert.GlaReferenceIdeal.sig) → Buf (Elt Ideal) ℓ) (g : Dev Cert.GlaReferenceIdeal.nD → PrngReg), Pre_GlaReferenceIdeal m →
    θ_run (Cert.GlaReferenceIdeal.defs (F := Ideal)) (onTc (τ := Cert.GlaReferenceIdeal.τ) (Cert.GlaReferenceIdeal.main (F := Ideal))) ⟨m, fun _ => 0, g⟩ (fun r => (∀ c : Dev Cert.GlaReferenceIdeal.nD,
      r.2.mem ((c.tc : Thread Cert.GlaReferenceIdeal.nD Cert.GlaReferenceIdeal.τ).loc Cert.GlaReferenceIdeal.main_arg0) = m ((c.tc : Thread Cert.GlaReferenceIdeal.nD Cert.GlaReferenceIdeal.τ).loc Cert.GlaReferenceIdeal.main_arg0)
      ∧ r.2.mem ((c.tc : Thread Cert.GlaReferenceIdeal.nD Cert.GlaReferenceIdeal.τ).loc Cert.GlaReferenceIdeal.main_arg1) = m ((c.tc : Thread Cert.GlaReferenceIdeal.nD Cert.GlaReferenceIdeal.τ).loc Cert.GlaReferenceIdeal.main_arg1)
      ∧ r.2.mem ((c.tc : Thread Cert.GlaReferenceIdeal.nD Cert.GlaReferenceIdeal.τ).loc Cert.GlaReferenceIdeal.main_arg2) = m ((c.tc : Thread Cert.GlaReferenceIdeal.nD Cert.GlaReferenceIdeal.τ).loc Cert.GlaReferenceIdeal.main_arg2)
      ∧ r.2.mem ((c.tc : Thread Cert.GlaReferenceIdeal.nD Cert.GlaReferenceIdeal.τ).loc Cert.GlaReferenceIdeal.main_arg3) = m ((c.tc : Thread Cert.GlaReferenceIdeal.nD Cert.GlaReferenceIdeal.τ).loc Cert.GlaReferenceIdeal.main_arg3)
      ∧ r.2.mem ((c.tc : Thread Cert.GlaReferenceIdeal.nD Cert.GlaReferenceIdeal.τ).loc Cert.GlaReferenceIdeal.main_arg4) = m ((c.tc : Thread Cert.GlaReferenceIdeal.nD Cert.GlaReferenceIdeal.τ).loc Cert.GlaReferenceIdeal.main_arg4)
      ∧ r.2.mem ((c.tc : Thread Cert.GlaReferenceIdeal.nD Cert.GlaReferenceIdeal.τ).loc Cert.GlaReferenceIdeal.main_arg5) = m ((c.tc : Thread Cert.GlaReferenceIdeal.nD Cert.GlaReferenceIdeal.τ).loc Cert.GlaReferenceIdeal.main_arg5)
      ∧ r.2.mem ((c.tc : Thread Cert.GlaReferenceIdeal.nD Cert.GlaReferenceIdeal.τ).loc Cert.GlaReferenceIdeal.main_arg6) = m ((c.tc : Thread Cert.GlaReferenceIdeal.nD Cert.GlaReferenceIdeal.τ).loc Cert.GlaReferenceIdeal.main_arg6)
      ∧ r.2.mem ((c.tc : Thread Cert.GlaReferenceIdeal.nD Cert.GlaReferenceIdeal.τ).loc Cert.GlaReferenceIdeal.main_arg7) = m ((c.tc : Thread Cert.GlaReferenceIdeal.nD Cert.GlaReferenceIdeal.τ).loc Cert.GlaReferenceIdeal.main_arg7)
      ∧ r.2.mem ((c.tc : Thread Cert.GlaReferenceIdeal.nD Cert.GlaReferenceIdeal.τ).loc Cert.GlaReferenceIdeal.main_arg8) = m ((c.tc : Thread Cert.GlaReferenceIdeal.nD Cert.GlaReferenceIdeal.τ).loc Cert.GlaReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Gla_GlaIdeal : Prop :=
  True

def algebraic_GlaIdeal_GlaReferenceIdeal [hGlaIdeal : Cert.GlaIdeal.Facts] [hGlaReferenceIdeal : Cert.GlaReferenceIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaReferenceIdeal.nD Cert.GlaReferenceIdeal.τ Cert.GlaReferenceIdeal.sig) → Buf (Elt Ideal) ℓ) (g' : Dev Cert.GlaReferenceIdeal.nD → PrngReg), Pre_GlaIdeal m →
    (∀ c : Dev Cert.GlaIdeal.nD,
      m' ((c.tc : Thread Cert.GlaReferenceIdeal.nD Cert.GlaReferenceIdeal.τ).loc Cert.GlaReferenceIdeal.main_arg0) = m ((c.tc : Thread Cert.GlaIdeal.nD Cert.GlaIdeal.τ).loc Cert.GlaIdeal.main_arg0)
      ∧ m' ((c.tc : Thread Cert.GlaReferenceIdeal.nD Cert.GlaReferenceIdeal.τ).loc Cert.GlaReferenceIdeal.main_arg1) = m ((c.tc : Thread Cert.GlaIdeal.nD Cert.GlaIdeal.τ).loc Cert.GlaIdeal.main_arg1)
      ∧ m' ((c.tc : Thread Cert.GlaReferenceIdeal.nD Cert.GlaReferenceIdeal.τ).loc Cert.GlaReferenceIdeal.main_arg2) = m ((c.tc : Thread Cert.GlaIdeal.nD Cert.GlaIdeal.τ).loc Cert.GlaIdeal.main_arg2)
      ∧ m' ((c.tc : Thread Cert.GlaReferenceIdeal.nD Cert.GlaReferenceIdeal.τ).loc Cert.GlaReferenceIdeal.main_arg3) = m ((c.tc : Thread Cert.GlaIdeal.nD Cert.GlaIdeal.τ).loc Cert.GlaIdeal.main_arg3)
      ∧ m' ((c.tc : Thread Cert.GlaReferenceIdeal.nD Cert.GlaReferenceIdeal.τ).loc Cert.GlaReferenceIdeal.main_arg4) = m ((c.tc : Thread Cert.GlaIdeal.nD Cert.GlaIdeal.τ).loc Cert.GlaIdeal.main_arg4)
      ∧ m' ((c.tc : Thread Cert.GlaReferenceIdeal.nD Cert.GlaReferenceIdeal.τ).loc Cert.GlaReferenceIdeal.main_arg5) = m ((c.tc : Thread Cert.GlaIdeal.nD Cert.GlaIdeal.τ).loc Cert.GlaIdeal.main_arg5)
      ∧ m' ((c.tc : Thread Cert.GlaReferenceIdeal.nD Cert.GlaReferenceIdeal.τ).loc Cert.GlaReferenceIdeal.main_arg6) = m ((c.tc : Thread Cert.GlaIdeal.nD Cert.GlaIdeal.τ).loc Cert.GlaIdeal.main_arg6)
      ∧ m' ((c.tc : Thread Cert.GlaReferenceIdeal.nD Cert.GlaReferenceIdeal.τ).loc Cert.GlaReferenceIdeal.main_arg7) = m ((c.tc : Thread Cert.GlaIdeal.nD Cert.GlaIdeal.τ).loc Cert.GlaIdeal.main_arg7)
      ∧ m' ((c.tc : Thread Cert.GlaReferenceIdeal.nD Cert.GlaReferenceIdeal.τ).loc Cert.GlaReferenceIdeal.main_arg8) = m ((c.tc : Thread Cert.GlaIdeal.nD Cert.GlaIdeal.τ).loc Cert.GlaIdeal.main_arg8)) →
    ∃ (v0 : (c : Dev Cert.GlaIdeal.nD) → Buf (Elt Ideal) ((c.tc : Thread Cert.GlaIdeal.nD Cert.GlaIdeal.τ).loc Cert.GlaIdeal.main_v13_0)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v13_0) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
          ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
          ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7)
          ∧ r.2.mem ((c.tc : Thread Cert.GlaIdeal.nD Cert.GlaIdeal.τ).loc Cert.GlaIdeal.main_arg8) = m ((c.tc : Thread Cert.GlaIdeal.nD Cert.GlaIdeal.τ).loc Cert.GlaIdeal.main_arg8))
      ∧ θ_run (Cert.GlaReferenceIdeal.defs (F := Ideal)) (onTc (τ := Cert.GlaReferenceIdeal.τ) (Cert.GlaReferenceIdeal.main (F := Ideal))) ⟨m', fun _ => 0, g'⟩ (fun r => ∀ c : Dev Cert.GlaReferenceIdeal.nD,
          r.2.mem ((c.tc : Thread Cert.GlaReferenceIdeal.nD Cert.GlaReferenceIdeal.τ).loc Cert.GlaReferenceIdeal.main_v85) = v0 c
          ∧ r.2.mem ((c.tc : Thread Cert.GlaReferenceIdeal.nD Cert.GlaReferenceIdeal.τ).loc Cert.GlaReferenceIdeal.main_arg0) = m' ((c.tc : Thread Cert.GlaReferenceIdeal.nD Cert.GlaReferenceIdeal.τ).loc Cert.GlaReferenceIdeal.main_arg0)
          ∧ r.2.mem ((c.tc : Thread Cert.GlaReferenceIdeal.nD Cert.GlaReferenceIdeal.τ).loc Cert.GlaReferenceIdeal.main_arg1) = m' ((c.tc : Thread Cert.GlaReferenceIdeal.nD Cert.GlaReferenceIdeal.τ).loc Cert.GlaReferenceIdeal.main_arg1)
          ∧ r.2.mem ((c.tc : Thread Cert.GlaReferenceIdeal.nD Cert.GlaReferenceIdeal.τ).loc Cert.GlaReferenceIdeal.main_arg2) = m' ((c.tc : Thread Cert.GlaReferenceIdeal.nD Cert.GlaReferenceIdeal.τ).loc Cert.GlaReferenceIdeal.main_arg2)
          ∧ r.2.mem ((c.tc : Thread Cert.GlaReferenceIdeal.nD Cert.GlaReferenceIdeal.τ).loc Cert.GlaReferenceIdeal.main_arg3) = m' ((c.tc : Thread Cert.GlaReferenceIdeal.nD Cert.GlaReferenceIdeal.τ).loc Cert.GlaReferenceIdeal.main_arg3)
          ∧ r.2.mem ((c.tc : Thread Cert.GlaReferenceIdeal.nD Cert.GlaReferenceIdeal.τ).loc Cert.GlaReferenceIdeal.main_arg4) = m' ((c.tc : Thread Cert.GlaReferenceIdeal.nD Cert.GlaReferenceIdeal.τ).loc Cert.GlaReferenceIdeal.main_arg4)
          ∧ r.2.mem ((c.tc : Thread Cert.GlaReferenceIdeal.nD Cert.GlaReferenceIdeal.τ).loc Cert.GlaReferenceIdeal.main_arg5) = m' ((c.tc : Thread Cert.GlaReferenceIdeal.nD Cert.GlaReferenceIdeal.τ).loc Cert.GlaReferenceIdeal.main_arg5)
          ∧ r.2.mem ((c.tc : Thread Cert.GlaReferenceIdeal.nD Cert.GlaReferenceIdeal.τ).loc Cert.GlaReferenceIdeal.main_arg6) = m' ((c.tc : Thread Cert.GlaReferenceIdeal.nD Cert.GlaReferenceIdeal.τ).loc Cert.GlaReferenceIdeal.main_arg6)
          ∧ r.2.mem ((c.tc : Thread Cert.GlaReferenceIdeal.nD Cert.GlaReferenceIdeal.τ).loc Cert.GlaReferenceIdeal.main_arg7) = m' ((c.tc : Thread Cert.GlaReferenceIdeal.nD Cert.GlaReferenceIdeal.τ).loc Cert.GlaReferenceIdeal.main_arg7)
          ∧ r.2.mem ((c.tc : Thread Cert.GlaReferenceIdeal.nD Cert.GlaReferenceIdeal.τ).loc Cert.GlaReferenceIdeal.main_arg8) = m' ((c.tc : Thread Cert.GlaReferenceIdeal.nD Cert.GlaReferenceIdeal.τ).loc Cert.GlaReferenceIdeal.main_arg8))

def Claim : Prop :=
  ∃ (hKernel : Cert.Kernel.Facts) (hKernelIdeal : Cert.KernelIdeal.Facts) (hReferenceIdeal : Cert.ReferenceIdeal.Facts) (hGla : Cert.Gla.Facts) (hGlaIdeal : Cert.GlaIdeal.Facts) (hGlaReferenceIdeal : Cert.GlaReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Gla (hGla := hGla)
    ∧ quiescent_GlaIdeal (hGlaIdeal := hGlaIdeal)
    ∧ quiescent_GlaReferenceIdeal (hGlaReferenceIdeal := hGlaReferenceIdeal)
    ∧ preserves_Kernel_KernelIdeal
    ∧ algebraic_KernelIdeal_ReferenceIdeal (hKernelIdeal := hKernelIdeal) (hReferenceIdeal := hReferenceIdeal)
    ∧ preserves_Gla_GlaIdeal
    ∧ algebraic_GlaIdeal_GlaReferenceIdeal (hGlaIdeal := hGlaIdeal) (hGlaReferenceIdeal := hGlaReferenceIdeal)
-- ==== Kernel.lean ====
abbrev S8x4096x1024 : Shape := ⟨3, ![8, 4096, 1024]⟩
abbrev S1024 : Shape := ⟨1, ![1024]⟩
abbrev S11x1024x512 : Shape := ⟨3, ![11, 1024, 512]⟩
abbrev S3x2816 : Shape := ⟨2, ![3, 2816]⟩
abbrev S2816 : Shape := ⟨1, ![2816]⟩
abbrev S2816x1024 : Shape := ⟨2, ![2816, 1024]⟩
abbrev S1x2816 : Shape := ⟨2, ![1, 2816]⟩
abbrev S1x1024 : Shape := ⟨2, ![1, 1024]⟩
abbrev S32768x1024 : Shape := ⟨2, ![32768, 1024]⟩
abbrev S1024x1024 : Shape := ⟨2, ![1024, 1024]⟩
abbrev S16x2816 : Shape := ⟨2, ![16, 2816]⟩
abbrev S1024x2816 : Shape := ⟨2, ![1024, 2816]⟩
abbrev S1024x1 : Shape := ⟨2, ![1024, 1]⟩
abbrev S1x1024x512 : Shape := ⟨3, ![1, 1024, 512]⟩
abbrev S1024x512 : Shape := ⟨2, ![1024, 512]⟩
abbrev S1x1024x256 : Shape := ⟨3, ![1, 1024, 256]⟩
abbrev S1024x256 : Shape := ⟨2, ![1024, 256]⟩
abbrev S16x1024 : Shape := ⟨2, ![16, 1024]⟩
abbrev S3x1024 : Shape := ⟨2, ![3, 1024]⟩
abbrev S1040x1024 : Shape := ⟨2, ![1040, 1024]⟩
abbrev S1024x768 : Shape := ⟨2, ![1024, 768]⟩
abbrev S16x768 : Shape := ⟨2, ![16, 768]⟩
abbrev S3x768 : Shape := ⟨2, ![3, 768]⟩
abbrev S1x768 : Shape := ⟨2, ![1, 768]⟩
abbrev S1040x768 : Shape := ⟨2, ![1040, 768]⟩

abbrev nBuf : Space → Nat
  | .hbm => 12
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S11x1024x512, .bf16⟩
  | .hbm, ⟨3, _⟩ => ⟨S3x2816, .f32⟩
  | .hbm, ⟨4, _⟩ => ⟨S2816, .f32⟩
  | .hbm, ⟨5, _⟩ => ⟨S2816x1024, .bf16⟩
  | .hbm, ⟨6, _⟩ => ⟨S1024, .f32⟩
  | .hbm, ⟨7, _⟩ => ⟨S1x2816, .f32⟩
  | .hbm, ⟨8, _⟩ => ⟨S1x1024, .f32⟩
  | .hbm, ⟨9, _⟩ => ⟨S1x1024, .f32⟩
  | .hbm, ⟨10, _⟩ => ⟨S32768x1024, .f32⟩
  | .hbm, ⟨11, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S11x1024x512, .bf16⟩
  | .local _ .vmem, ⟨4, _⟩ => ⟨S3x2816, .f32⟩
  | .local _ .vmem, ⟨5, _⟩ => ⟨S1x2816, .f32⟩
  | .local _ .vmem, ⟨6, _⟩ => ⟨S2816x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S16x2816, .f32⟩
  | .local _ .vmem, ⟨11, _⟩ => ⟨S1024x1024, .bf16⟩
  | .local _ .vmem, ⟨12, _⟩ => ⟨S1024x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S11x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8x4096x1024 : Shape := ⟨3, ![8, 4096, 1024]⟩
abbrev S1024 : Shape := ⟨1, ![1024]⟩
abbrev S11x1024x512 : Shape := ⟨3, ![11, 1024, 512]⟩
abbrev S3x2816 : Shape := ⟨2, ![3, 2816]⟩
abbrev S2816 : Shape := ⟨1, ![2816]⟩
abbrev S2816x1024 : Shape := ⟨2, ![2816, 1024]⟩
abbrev S1024x11x512 : Shape := ⟨3, ![1024, 11, 512]⟩
abbrev S1024x5632 : Shape := ⟨2, ![1024, 5632]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩
abbrev S8x4098x2816 : Shape := ⟨3, ![8, 4098, 2816]⟩
abbrev S1x2816 : Shape := ⟨2, ![1, 2816]⟩
abbrev S1x1x2816 : Shape := ⟨3, ![1, 1, 2816]⟩
abbrev S32768x1024 : Shape := ⟨2, ![32768, 1024]⟩

abbrev nBuf : Space → Nat
  | .hbm => 85
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S11x1024x512, .bf16⟩
  | .hbm, ⟨3, _⟩ => ⟨S3x2816, .f32⟩
  | .hbm, ⟨4, _⟩ => ⟨S2816, .f32⟩
  | .hbm, ⟨5, _⟩ => ⟨S2816x1024, .bf16⟩
  | .hbm, ⟨6, _⟩ => ⟨S1024, .f32⟩
  | .hbm, ⟨7, _⟩ => ⟨S11x1024x512, .f32⟩
  | .hbm, ⟨8, _⟩ => ⟨S1024x11x512, .f32⟩
  | .hbm, ⟨9, _⟩ => ⟨S1024x5632, .f32⟩
  | .hbm, ⟨10, _⟩ => ⟨S8x4096x1024, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S1x1x1024, .f32⟩
  | .hbm, ⟨24, _⟩ => ⟨S8x4096x1024, .f32⟩
  | .hbm, ⟨25, _⟩ => ⟨S8x4096x1024, .f32⟩
  | .hbm, ⟨26, _⟩ => ⟨S2816x1024, .f32⟩
  | .hbm, ⟨27, _⟩ => ⟨S8x4096x5632, .f32⟩
  | .hbm, ⟨28, _⟩ => ⟨S8x4096x2816, .f32⟩
  | .hbm, ⟨29, _⟩ => ⟨S8x4096x2816, .f32⟩
  | .hbm, ⟨30, _⟩ => ⟨S_, .i32⟩
  | .hbm, ⟨31, _⟩ => ⟨S_, .f32⟩
  | .hbm, ⟨32, _⟩ => ⟨S8x4098x2816, .f32⟩
  | .hbm, ⟨33, _⟩ => ⟨S8x4096x2816, .f32⟩
  | .hbm, ⟨34, _⟩ => ⟨S1x2816, .f32⟩
  | .hbm, ⟨35, _⟩ => ⟨S2816, .f32⟩
  | .hbm, ⟨36, _⟩ => ⟨S1x1x2816, .f32⟩
  | .hbm, ⟨37, _⟩ => ⟨S8x4096x2816, .f32⟩
  | .hbm, ⟨38, _⟩ => ⟨S8x4096x2816, .f32⟩
  | .hbm, ⟨39, _⟩ => ⟨S1x1x2816, .f32⟩
  | .hbm, ⟨40, _⟩ => ⟨S8x4096x2816, .f32⟩
  | .hbm, ⟨41, _⟩ => ⟨S8x4096x2816, .f32⟩
  | .hbm, ⟨42, _⟩ => ⟨S8x4096x2816, .f32⟩
  | .hbm, ⟨43, _⟩ => ⟨S1x2816, .f32⟩
  | .hbm, ⟨44, _⟩ => ⟨S2816, .f32⟩
  | .hbm, ⟨45, _⟩ => ⟨S1x1x2816, .f32⟩
  | .hbm, ⟨46, _⟩ => ⟨S8x4096x2816, .f32⟩
  | .hbm, ⟨47, _⟩ => ⟨S8x4096x2816, .f32⟩
  | .hbm, ⟨48, _⟩ => ⟨S8x4096x2816, .f32⟩
  | .hbm, ⟨49, _⟩ => ⟨S8x4096x2816, .f32⟩
  | .hbm, ⟨50, _⟩ => ⟨S1x2816, .f32⟩
  | .hbm, ⟨51, _⟩ => ⟨S2816, .f32⟩
  | .hbm, ⟨52, _⟩ => ⟨S1x1x2816, .f32⟩
  | .hbm, ⟨53, _⟩ => ⟨S8x4096x2816, .f32⟩
  | .hbm, ⟨54, _⟩ => ⟨S8x4096x2816, .f32⟩
  | .hbm, ⟨55, _⟩ => ⟨S8x4096x2816, .f32⟩
  | .hbm, ⟨56, _⟩ => ⟨S_, .f32⟩
  | .hbm, ⟨57, _⟩ => ⟨S8x4096x2816, .f32⟩
  | .hbm, ⟨58, _⟩ => ⟨S8x4096x2816, .f32⟩
  | .hbm, ⟨59, _⟩ => ⟨S8x4096x2816, .f32⟩
  | .hbm, ⟨60, _⟩ => ⟨S_, .f32⟩
  | .hbm, ⟨61, _⟩ => ⟨S8x4096x2816, .f32⟩
  | .hbm, ⟨62, _⟩ => ⟨S8x4096x2816, .f32⟩
  | .hbm, ⟨63, _⟩ => ⟨S8x4096x2816, .f32⟩
  | .hbm, ⟨64, _⟩ => ⟨S8x4096x2816, .f32⟩
  | .hbm, ⟨65, _⟩ => ⟨S8x4096x2816, .f32⟩
  | .hbm, ⟨66, _⟩ => ⟨S8x4096x1024, .f32⟩
  | .hbm, ⟨67, _⟩ => ⟨S8x4096x1024, .f32⟩
  | .hbm, ⟨68, _⟩ => ⟨S8x4096x1024, .f32⟩
  | .hbm, ⟨69, _⟩ => ⟨S_, .f32⟩
  | .hbm, ⟨70, _⟩ => ⟨S8x4096, .f32⟩
  | .hbm, ⟨71, _⟩ => ⟨S8x4096x1, .f32⟩
  | .hbm, ⟨72, _⟩ => ⟨S_, .f32⟩
  | .hbm, ⟨73, _⟩ => ⟨S8x4096x1, .f32⟩
  | .hbm, ⟨74, _⟩ => ⟨S8x4096x1, .f32⟩
  | .hbm, ⟨75, _⟩ => ⟨S_, .f32⟩
  | .hbm, ⟨76, _⟩ => ⟨S8x4096x1, .f32⟩
  | .hbm, ⟨77, _⟩ => ⟨S8x4096x1, .f32⟩
  | .hbm, ⟨78, _⟩ => ⟨S8x4096x1, .f32⟩
  | .hbm, ⟨79, _⟩ => ⟨S8x4096x1024, .f32⟩
  | .hbm, ⟨80, _⟩ => ⟨S8x4096x1024, .f32⟩
  | .hbm, ⟨81, _⟩ => ⟨S1x1x1024, .f32⟩
  | .hbm, ⟨82, _⟩ => ⟨S8x4096x1024, .f32⟩
  | .hbm, ⟨83, _⟩ => ⟨S8x4096x1024, .f32⟩
  | .hbm, ⟨84, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_2 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_3 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_4 : Ref sig .tc := ⟨.hbm, 69, rfl⟩
abbrev main_v55 : Ref sig .tc := ⟨.hbm, 70, rfl⟩
abbrev main_v56 : Ref sig .tc := ⟨.hbm, 71, rfl⟩
abbrev main_cst_5 : Ref sig .tc := ⟨.hbm, 72, rfl⟩
abbrev main_v57 : Ref sig .tc := ⟨.hbm, 73, rfl⟩
abbrev main_v58 : Ref sig .tc := ⟨.hbm, 74, rfl⟩
abbrev main_cst_6 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== Gla.lean ====
abbrev S8x4096x1024 : Shape := ⟨3, ![8, 4096, 1024]⟩
abbrev S1024 : Shape := ⟨1, ![1024]⟩
abbrev S1x1024x3088 : Shape := ⟨3, ![1, 1024, 3088]⟩
abbrev S16x512 : Shape := ⟨2, ![16, 512]⟩
abbrev S512 : Shape := ⟨1, ![512]⟩
abbrev S256 : Shape := ⟨1, ![256]⟩
abbrev S1x1024x1024 : Shape := ⟨3, ![1, 1024, 1024]⟩
abbrev S2x1024x5632 : Shape := ⟨3, ![2, 1024, 5632]⟩
abbrev S2x2816x1024 : Shape := ⟨3, ![2, 2816, 1024]⟩
abbrev S1x1024x16 : Shape := ⟨3, ![1, 1024, 16]⟩
abbrev S1024x16 : Shape := ⟨2, ![1024, 16]⟩
abbrev S_ : Shape := ⟨0, ![]⟩
abbrev S1024x128 : Shape := ⟨2, ![1024, 128]⟩
abbrev S128x512 : Shape := ⟨2, ![128, 512]⟩
abbrev S1x512 : Shape := ⟨2, ![1, 512]⟩
abbrev S1x256 : Shape := ⟨2, ![1, 256]⟩
abbrev S4x256 : Shape := ⟨2, ![4, 256]⟩
abbrev S1x1024 : Shape := ⟨2, ![1, 1024]⟩
abbrev S32768x1024 : Shape := ⟨2, ![32768, 1024]⟩
abbrev S11x1024x512 : Shape := ⟨3, ![11, 1024, 512]⟩
abbrev S2816x1024 : Shape := ⟨2, ![2816, 1024]⟩
abbrev S1024x1024 : Shape := ⟨2, ![1024, 1024]⟩
abbrev S1x1024x512 : Shape := ⟨3, ![1, 1024, 512]⟩
abbrev S1x256x1024 : Shape := ⟨3, ![1, 256, 1024]⟩
abbrev S256x1024 : Shape := ⟨2, ![256, 1024]⟩
abbrev S6x1024x512 : Shape := ⟨3, ![6, 1024, 512]⟩
abbrev S4x128x256 : Shape := ⟨3, ![4, 128, 256]⟩
abbrev S1024x512 : Shape := ⟨2, ![1024, 512]⟩
abbrev S256x1 : Shape := ⟨2, ![256, 1]⟩
abbrev S256x128 : Shape := ⟨2, ![256, 128]⟩
abbrev S256x512 : Shape := ⟨2, ![256, 512]⟩
abbrev S64x64 : Shape := ⟨2, ![64, 64]⟩
abbrev S1x128x256 : Shape := ⟨3, ![1, 128, 256]⟩
abbrev S128x256 : Shape := ⟨2, ![128, 256]⟩
abbrev S64x512 : Shape := ⟨2, ![64, 512]⟩
abbrev S63x512 : Shape := ⟨2, ![63, 512]⟩
abbrev S2x512 : Shape := ⟨2, ![2, 512]⟩
abbrev S62x512 : Shape := ⟨2, ![62, 512]⟩
abbrev S4x512 : Shape := ⟨2, ![4, 512]⟩
abbrev S60x512 : Shape := ⟨2, ![60, 512]⟩
abbrev S8x512 : Shape := ⟨2, ![8, 512]⟩
abbrev S56x512 : Shape := ⟨2, ![56, 512]⟩
abbrev S48x512 : Shape := ⟨2, ![48, 512]⟩
abbrev S32x512 : Shape := ⟨2, ![32, 512]⟩
abbrev S64x128 : Shape := ⟨2, ![64, 128]⟩
abbrev S1x128 : Shape := ⟨2, ![1, 128]⟩
abbrev S128x128 : Shape := ⟨2, ![128, 128]⟩
abbrev S64x256 : Shape := ⟨2, ![64, 256]⟩
abbrev S64x192 : Shape := ⟨2, ![64, 192]⟩
abbrev S192x256 : Shape := ⟨2, ![192, 256]⟩
abbrev S64 : Shape := ⟨1, ![64]⟩
abbrev S64x1 : Shape := ⟨2, ![64, 1]⟩
abbrev S512x1024 : Shape := ⟨2, ![512, 1024]⟩

abbrev nBuf : Space → Nat
  | .hbm => 29
  | .vmem => 31
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1x1024x3088, .f32⟩
  | .hbm, ⟨3, _⟩ => ⟨S16x512, .f32⟩
  | .hbm, ⟨4, _⟩ => ⟨S512, .f32⟩
  | .hbm, ⟨5, _⟩ => ⟨S256, .f32⟩
  | .hbm, ⟨6, _⟩ => ⟨S1x1024x1024, .f32⟩
  | .hbm, ⟨7, _⟩ => ⟨S2x1024x5632, .f32⟩
  | .hbm, ⟨8, _⟩ => ⟨S2x2816x1024, .f32⟩
  | .hbm, ⟨9, _⟩ => ⟨S1x1024x16, .f32⟩
  | .hbm, ⟨10, _⟩ => ⟨S1024x16, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S_, .i32⟩
  | .hbm, ⟨15, _⟩ => ⟨S_, .f32⟩
  | .hbm, ⟨16, _⟩ => ⟨S128x512, .f32⟩
  | .hbm, ⟨17, _⟩ => ⟨S1024x128, .bf16⟩
  | .hbm, ⟨18, _⟩ => ⟨S128x512, .bf16⟩
  | .hbm, ⟨19, _⟩ => ⟨S1x512, .f32⟩
  | .hbm, ⟨20, _⟩ => ⟨S1x256, .f32⟩
  | .hbm, ⟨21, _⟩ => ⟨S4x256, .f32⟩
  | .hbm, ⟨22, _⟩ => ⟨S1024, .f32⟩
  | .hbm, ⟨23, _⟩ => ⟨S1x1024, .f32⟩
  | .hbm, ⟨24, _⟩ => ⟨S1x1024, .f32⟩
  | .hbm, ⟨25, _⟩ => ⟨S32768x1024, .f32⟩
  | .hbm, ⟨26, _⟩ => ⟨S32768x1024, .f32⟩
  | .hbm, ⟨27, _⟩ => ⟨S11x1024x512, .bf16⟩
  | .hbm, ⟨28, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x512, .f32⟩
  | .local _ .vmem, ⟨4, _⟩ => ⟨S1x1024x512, .f32⟩
  | .local _ .vmem, ⟨5, _⟩ => ⟨S1024x128, .bf16⟩
  | .local _ .vmem, ⟨6, _⟩ => ⟨S128x512, .bf16⟩
  | .local _ .vmem, ⟨7, _⟩ => ⟨S1x512, .f32⟩
  | .local _ .vmem, ⟨8, _⟩ => ⟨S1x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x1024x512, .f32⟩
  | .local _ .vmem, ⟨12, _⟩ => ⟨S1x1024x512, .f32⟩
  | .local _ .vmem, ⟨13, _⟩ => ⟨S1x256x1024, .f32⟩
  | .local _ .vmem, ⟨14, _⟩ => ⟨S1x256x1024, .f32⟩
  | .local _ .vmem, ⟨15, _⟩ => ⟨S1024x1024, .f32⟩
  | .local _ .vmem, ⟨16, _⟩ => ⟨S1024x1024, .f32⟩
  | .local _ .vmem, ⟨17, _⟩ => ⟨S1x1024x512, .bf16⟩
  | .local _ .vmem, ⟨18, _⟩ => ⟨S1x1024x512, .bf16⟩
  | .local _ .vmem, ⟨19, _⟩ => ⟨S256x1024, .bf16⟩
  | .local _ .vmem, ⟨20, _⟩ => ⟨S256x1024, .bf16⟩
  | .local _ .vmem, ⟨21, _⟩ => ⟨S6x1024x512, .bf16⟩
  | .local _ .vmem, ⟨22, _⟩ => ⟨S1024x1024, .bf16⟩
  | .local _ .vmem, ⟨23, _⟩ => ⟨S4x128x256, .f32⟩
  | .local _ .vmem, ⟨24, _⟩ => ⟨S1024x1024, .bf16⟩
  | .local _ .vmem, ⟨25, _⟩ => ⟨S1024x512, .f32⟩
  | .local _ .vmem, ⟨26, _⟩ => ⟨S1024x512, .f32⟩
  | .local _ .vmem, ⟨27, _⟩ => ⟨S1024x1024, .bf16⟩
  | .local _ .vmem, ⟨28, _⟩ => ⟨S1024x512, .f32⟩
  | .local _ .vmem, ⟨29, _⟩ => ⟨S1024x1024, .f32⟩
  | .local _ .vmem, ⟨30, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v13_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_scratch9 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![38], ![false]⟩

def k0_cond1 (i : grid0.Coords) : BitVec 1 :=
  let arg0 : BitVec 32 := BitVec.ofNat 32 (i 0).val
  let c6_i32 : BitVec 32 := 6#32
  let v0 : BitVec 1 := Scalar.cmpi .slt arg0 c6_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c6_i32_2 : BitVec 32 := 6#32
  let v6 : BitVec 1 := Scalar.cmpi .slt arg0 c6_i32_2
  let v7 : BitVec 32 := Scalar.extui v6
  let c0_i32_3 : BitVec 32 := 0#32
  let v8 : BitVec 1 := Scalar.cmpi .ne v7 c0_i32_3
  v8

def k0_off1 (i : grid0.Coords) : Fin 3 → Nat :=
  let arg0 : BitVec 32 := BitVec.ofNat 32 (i 0).val
  let v15 : Index := Scalar.indexCast arg0
  let c0_7 : Index := 0#32
  let c0_8 : Index := 0#32
  ![v15.toNat, 0, 0]
def k0_cond3 (i : grid0.Coords) : BitVec 1 :=
  let arg0 : BitVec 32 := BitVec.ofNat 32 (i 0).val
  let c4_i32 : BitVec 32 := 4#32
  let v9 : BitVec 1 := Scalar.cmpi .slt arg0 c4_i32
  let v10 : BitVec 32 := Scalar.extui v9
  let c0_i32_4 : BitVec 32 := 0#32
  let v11 : BitVec 1 := Scalar.cmpi .ne v10 c0_i32_4
  v11

def k0_mult1 (i : grid0.Coords) : BitVec 32 :=
  let arg0 : BitVec 32 := BitVec.ofNat 32 (i 0).val
  let c256_i32 : BitVec 32 := 256#32
  let v15 : BitVec 32 := Scalar.muli arg0 c256_i32
  v15
def k0_off2 (i : grid0.Coords) : Fin 2 → Nat :=
  let arg0 : BitVec 32 := BitVec.ofNat 32 (i 0).val
  let c256_i32 : BitVec 32 := 256#32
  let v15 : BitVec 32 := Scalar.muli arg0 c256_i32
  let v16 : BitVec 32 := v15
  let v17 : Index := Scalar.indexCast v16
  let c0_7 : Index := 0#32
  ![v17.toNat, 0]
def k0_cond4 (i : grid0.Coords) : BitVec 1 :=
  let arg0 : BitVec 32 := BitVec.ofNat 32 (i 0).val
  let c6_i32_0 : BitVec 32 := 6#32
  let v3 : BitVec 1 := Scalar.cmpi .sge arg0 c6_i32_0
  let v4 : BitVec 32 := Scalar.extui v3
  let c0_i32_1 : BitVec 32 := 0#32
  let v5 : BitVec 1 := Scalar.cmpi .ne v4 c0_i32_1
  v5

def k0_cond5 (i : grid0.Coords) : BitVec 1 :=
  let arg0 : BitVec 32 := BitVec.ofNat 32 (i 0).val
  let c6_i32_2 : BitVec 32 := 6#32
  let v6 : BitVec 32 := Scalar.subi arg0 c6_i32_2
  let c11_i32 : BitVec 32 := 11#32
  let v7 : BitVec 1 := Scalar.cmpi .slt v6 c11_i32
  let v8 : BitVec 32 := Scalar.extui v7
  let c0_i32_3 : BitVec 32 := 0#32
  let v9 : BitVec 1 := Scalar.cmpi .ne v8 c0_i32_3
  v9

def k0_cond6 (i : grid0.Coords) : BitVec 1 :=
  let arg0 : BitVec 32 := BitVec.ofNat 32 (i 0).val
  let c6_i32_4 : BitVec 32 := 6#32
  let v10 : BitVec 32 := Scalar.subi arg0 c6_i32_4
  let c11_i32_5 : BitVec 32 := 11#32
  let v11 : BitVec 1 := Scalar.cmpi .slt v10 c11_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let c6_i32 : BitVec 32 := 6#32
  let v0 : BitVec 32 := Scalar.subi arg0 c6_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c5_i32 : BitVec 32 := 5#32
  let v0 : BitVec 32 := Scalar.minsi arg0 c5_i32
  let c0_i32 : BitVec 32 := 0#32
  let v1 : BitVec 32 := Scalar.addi c0_i32 v0
  let c0_i32_0 : BitVec 32 := 0#32
  let c0_i32_1 : BitVec 32 := 0#32
  let c0_i32_2 : BitVec 32 := 0#32
  ![c0_i32_0.toNat, c0_i32_1.toNat, v1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 3 → Nat :=
  let arg0 : BitVec 32 := BitVec.ofNat 32 (i 0).val
  let c6_i32 : BitVec 32 := 6#32
  let v0 : BitVec 32 := Scalar.subi arg0 c6_i32
  let c0_i32 : BitVec 32 := 0#32
  let c10_i32 : BitVec 32 := 10#32
  let v1 : BitVec 32 := Scalar.maxsi c0_i32 v0
  let v2 : BitVec 32 := Scalar.minsi c10_i32 v1
  let c1_i32 : BitVec 32 := 1#32
  let c0_i32_0 : BitVec 32 := 0#32
  let c0_i32_1 : BitVec 32 := 0#32
  ![c1_i32.toNat, c0_i32_0.toNat, v2.toNat]

def cc0_transform_9 (i : grid0.Coords) : Fin 3 → Nat :=
  let arg0 : BitVec 32 := BitVec.ofNat 32 (i 0).val
  let c6_i32 : BitVec 32 := 6#32
  let v0 : BitVec 32 := Scalar.subi arg0 c6_i32
  let c0_i32 : BitVec 32 := 0#32
  let c10_i32 : BitVec 32 := 10#32
  let v1 : BitVec 32 := Scalar.maxsi c0_i32 v0
  let v2 : BitVec 32 := Scalar.minsi c10_i32 v1
  let c1_i32 : BitVec 32 := 1#32
  let c0_i32_0 : BitVec 32 := 0#32
  let c0_i32_1 : BitVec 32 := 0#32
  ![c1_i32.toNat, v2.toNat, c0_i32_0.toNat]

def cc0_transform_10 (i : grid0.Coords) : Fin 2 → Nat :=
  let arg0 : BitVec 32 := BitVec.ofNat 32 (i 0).val
  let c6_i32 : BitVec 32 := 6#32
  let v0 : BitVec 32 := Scalar.subi arg0 c6_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 3 → Nat :=
  let arg0 : BitVec 32 := BitVec.ofNat 32 (i 0).val
  let c6_i32 : BitVec 32 := 6#32
  let v0 : BitVec 32 := Scalar.subi arg0 c6_i32
  let c0_i32 : BitVec 32 := 0#32
  let c10_i32 : BitVec 32 := 10#32
  let v1 : BitVec 32 := Scalar.maxsi c0_i32 v0
  let v2 : BitVec 32 := Scalar.minsi c10_i32 v1
  let c0_i32_0 : BitVec 32 := 0#32
  let c0_i32_1 : BitVec 32 := 0#32
  let c0_i32_2 : BitVec 32 := 0#32
  ![v2.toNat, c0_i32_0.toNat, c0_i32_1.toNat]

def cc0_transform_12 (i : grid0.Coords) : Fin 2 → Nat :=
  let arg0 : BitVec 32 := BitVec.ofNat 32 (i 0).val
  let c6_i32 : BitVec 32 := 6#32
  let v0 : BitVec 32 := Scalar.subi arg0 c6_i32
  let c0_i32 : BitVec 32 := 0#32
  let c10_i32 : BitVec 32 := 10#32
  let v1 : BitVec 32 := Scalar.maxsi c0_i32 v0
  let v2 : BitVec 32 := Scalar.minsi c10_i32 v1
  let c0_i32_0 : BitVec 32 := 0#32
  let c0_i32_1 : BitVec 32 := 0#32
  ![v2.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== GlaReferenceIdeal.lean ====
abbrev S8x4096x1024 : Shape := ⟨3, ![8, 4096, 1024]⟩
abbrev S1024 : Shape := ⟨1, ![1024]⟩
abbrev S1x1024x3088 : Shape := ⟨3, ![1, 1024, 3088]⟩
abbrev S16x512 : Shape := ⟨2, ![16, 512]⟩
abbrev S512 : Shape := ⟨1, ![512]⟩
abbrev S256 : Shape := ⟨1, ![256]⟩
abbrev S1x1024x1024 : Shape := ⟨3, ![1, 1024, 1024]⟩
abbrev S2x1024x5632 : Shape := ⟨3, ![2, 1024, 5632]⟩
abbrev S2x2816x1024 : Shape := ⟨3, ![2, 2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x3088 : Shape := ⟨2, ![1024, 3088]⟩
abbrev S8x4096x3088 : Shape := ⟨3, ![8, 4096, 3088]⟩
abbrev S8x4096x512 : Shape := ⟨3, ![8, 4096, 512]⟩
abbrev S8x4096x16 : Shape := ⟨3, ![8, 4096, 16]⟩
abbrev S1x1x512 : Shape := ⟨3, ![1, 1, 512]⟩
abbrev S8x64x64x4x128 : Shape := ⟨5, ![8, 64, 64, 4, 128]⟩
abbrev S8x4x64x64x128 : Shape := ⟨5, ![8, 4, 64, 64, 128]⟩
abbrev S8x64x64x4x256 : Shape := ⟨5, ![8, 64, 64, 4, 256]⟩
abbrev S8x4x64x64x256 : Shape := ⟨5, ![8, 4, 64, 64, 256]⟩
abbrev S8x4x64x1x128 : Shape := ⟨5, ![8, 4, 64, 1, 128]⟩
abbrev S64x64 : Shape := ⟨2, ![64, 64]⟩
abbrev S8x4x64x64x64 : Shape := ⟨5, ![8, 4, 64, 64, 64]⟩
abbrev S8x4x64x128x256 : Shape := ⟨5, ![8, 4, 64, 128, 256]⟩
abbrev S8x4x64x128 : Shape := ⟨4, ![8, 4, 64, 128]⟩
abbrev S8x4x128x256 : Shape := ⟨4, ![8, 4, 128, 256]⟩
abbrev S64x8x4x128x256 : Shape := ⟨5, ![64, 8, 4, 128, 256]⟩
abbrev S64x8x4x128 : Shape := ⟨4, ![64, 8, 4, 128]⟩
abbrev S1x8x4x128x256 : Shape := ⟨5, ![1, 8, 4, 128, 256]⟩
abbrev S1x8x4x128 : Shape := ⟨4, ![1, 8, 4, 128]⟩
abbrev S8x4x128 : Shape := ⟨3, ![8, 4, 128]⟩
abbrev S8x4x128x1 : Shape := ⟨4, ![8, 4, 128, 1]⟩
abbrev S8x4096x4x256 : Shape := ⟨4, ![8, 4096, 4, 256]⟩
abbrev S8x4096x4 : Shape := ⟨3, ![8, 4096, 4]⟩
abbrev S8x4096x4x1 : Shape := ⟨4, ![8, 4096, 4, 1]⟩
abbrev S1x1x1x256 : Shape := ⟨4, ![1, 1, 1, 256]⟩
abbrev S1024x1024 : Shape := ⟨2, ![1024, 1024]⟩
abbrev S32768x1024 : Shape := ⟨2, ![32768, 1024]⟩

abbrev nBuf : Space → Nat
  | .hbm => 173
  | .vmem => 0
  | .smem => 0
  | _ => 0

abbrev hbmTy0_0 (i : Nat) : BufTy := match i % 128 with
  | 0 => ⟨S8x4096x1024, .f32⟩
  | 1 => ⟨S1024, .f32⟩
  | 2 => ⟨S1x1024x3088, .f32⟩
  | 3 => ⟨S16x512, .f32⟩
  | 4 => ⟨S512, .f32⟩
  | 5 => ⟨S256, .f32⟩
  | 6 => ⟨S1x1024x1024, .f32⟩
  | 7 => ⟨S2x1024x5632, .f32⟩
  | 8 => ⟨S2x2816x1024, .f32⟩
  | 9 => ⟨S8x4096x1024, .f32⟩
  | 10 => ⟨S_, .f32⟩
  | 11 => ⟨S8x4096, .f32⟩
  | 12 => ⟨S8x4096x1, .f32⟩
  | 13 => ⟨S_, .f32⟩
  | 14 => ⟨S8x4096x1, .f32⟩
  | 15 => ⟨S8x4096x1, .f32⟩
  | 16 => ⟨S_, .f32⟩
  | 17 => ⟨S8x4096x1, .f32⟩
  | 18 => ⟨S8x4096x1, .f32⟩
  | 19 => ⟨S8x4096x1, .f32⟩
  | 20 => ⟨S8x4096x1024, .f32⟩
  | 21 => ⟨S8x4096x1024, .f32⟩
  | 22 => ⟨S1x1x1024, .f32⟩
  | 23 => ⟨S8x4096x1024, .f32⟩
  | 24 => ⟨S8x4096x1024, .f32⟩
  | 25 => ⟨S1024x3088, .f32⟩
  | 26 => ⟨S8x4096x3088, .f32⟩
  | 27 => ⟨S8x4096x512, .f32⟩
  | 28 => ⟨S8x4096x512, .f32⟩
  | 29 => ⟨S8x4096x1024, .f32⟩
  | 30 => ⟨S8x4096x1024, .f32⟩
  | 31 => ⟨S8x4096x16, .f32⟩
  | 32 => ⟨S8x4096x512, .f32⟩
  | 33 => ⟨S1x1x512, .f32⟩
  | 34 => ⟨S8x4096x512, .f32⟩
  | 35 => ⟨S8x4096x512, .f32⟩
  | 36 => ⟨S8x4096x512, .f32⟩
  | 37 => ⟨S_, .f32⟩
  | 38 => ⟨S8x4096x512, .f32⟩
  | 39 => ⟨S8x4096x512, .f32⟩
  | 40 => ⟨S8x4096x512, .f32⟩
  | 41 => ⟨S8x4096x512, .f32⟩
  | 42 => ⟨S8x4096x512, .i1⟩
  | 43 => ⟨S8x4096x512, .f32⟩
  | 44 => ⟨S8x4096x512, .f32⟩
  | 45 => ⟨S8x4096x512, .f32⟩
  | 46 => ⟨S8x4096x512, .f32⟩
  | 47 => ⟨S8x4096x512, .f32⟩
  | 48 => ⟨S8x4096x512, .f32⟩
  | 49 => ⟨S8x4096x512, .f32⟩
  | 50 => ⟨S8x4096x512, .f32⟩
  | 51 => ⟨S8x4096x512, .f32⟩
  | 52 => ⟨S_, .f32⟩
  | 53 => ⟨S8x4096x512, .f32⟩
  | 54 => ⟨S8x4096x512, .f32⟩
  | 55 => ⟨S8x64x64x4x128, .f32⟩
  | 56 => ⟨S8x4x64x64x128, .f32⟩
  | 57 => ⟨S_, .f32⟩
  | 58 => ⟨S8x4x64x64x128, .f32⟩
  | 59 => ⟨S8x4x64x64x128, .f32⟩
  | 60 => ⟨S8x64x64x4x128, .f32⟩
  | 61 => ⟨S8x4x64x64x128, .f32⟩
  | 62 => ⟨S8x64x64x4x256, .f32⟩
  | 63 => ⟨S8x4x64x64x256, .f32⟩
  | 64 => ⟨S8x64x64x4x128, .f32⟩
  | 65 => ⟨S8x4x64x64x128, .f32⟩
  | 66 => ⟨S_, .f32⟩
  | 67 => ⟨S_, .f32⟩
  | 68 => ⟨S8x4x64x64x128, .f32⟩
  | 69 => ⟨S8x4x64x1x128, .f32⟩
  | 70 => ⟨S8x4x64x64x128, .f32⟩
  | 71 => ⟨S8x4x64x64x128, .f32⟩
  | 72 => ⟨S8x4x64x64x128, .f32⟩
  | 73 => ⟨S8x4x64x64x128, .f32⟩
  | 74 => ⟨S8x4x64x64x128, .f32⟩
  | 75 => ⟨S_, .i1⟩
  | 76 => ⟨S64x64, .i1⟩
  | 77 => ⟨S64x64, .i32⟩
  | 78 => ⟨S_, .i32⟩
  | 79 => ⟨S64x64, .i32⟩
  | 80 => ⟨S64x64, .i32⟩
  | 81 => ⟨S64x64, .i32⟩
  | 82 => ⟨S64x64, .i1⟩
  | 83 => ⟨S_, .i1⟩
  | 84 => ⟨S64x64, .i1⟩
  | 85 => ⟨S64x64, .i1⟩
  | 86 => ⟨S8x4x64x64x64, .f32⟩
  | 87 => ⟨S_, .f32⟩
  | 88 => ⟨S_, .f32⟩
  | 89 => ⟨S8x4x64x64x64, .i1⟩
  | 90 => ⟨S8x4x64x64x64, .f32⟩
  | 91 => ⟨S8x4x64x64x64, .f32⟩
  | 92 => ⟨S8x4x64x64x256, .f32⟩
  | 93 => ⟨S8x4x64x64x128, .f32⟩
  | 94 => ⟨S8x4x64x64x128, .f32⟩
  | 95 => ⟨S8x4x64x64x128, .f32⟩
  | 96 => ⟨S8x4x64x64x128, .f32⟩
  | 97 => ⟨S8x4x64x128x256, .f32⟩
  | 98 => ⟨S8x4x64x128, .f32⟩
  | 99 => ⟨S8x4x64x128, .f32⟩
  | 100 => ⟨S_, .f32⟩
  | 101 => ⟨S8x4x128x256, .f32⟩
  | 102 => ⟨S64x8x4x128x256, .f32⟩
  | 103 => ⟨S64x8x4x128, .f32⟩
  | 104 => ⟨S_, .f32⟩
  | 105 => ⟨S64x8x4x128x256, .f32⟩
  | 106 => ⟨S_, .i32⟩
  | 107 => ⟨S64x8x4x128x256, .f32⟩
  | 108 => ⟨S64x8x4x128, .f32⟩
  | 109 => ⟨S_, .i32⟩
  | 110 => ⟨S8x4x128x256, .f32⟩
  | 111 => ⟨S64x8x4x128x256, .f32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S1x8x4x128x256, .f32⟩
  | 119 => ⟨S8x4x128x256, .f32⟩
  | 120 => ⟨S_, .i32⟩
  | 121 => ⟨S_, .i32⟩
  | 122 => ⟨S_, .i32⟩
  | 123 => ⟨S1x8x4x128, .f32⟩
  | 124 => ⟨S8x4x128, .f32⟩
  | 125 => ⟨S8x4x128x1, .f32⟩
  | 126 => ⟨S8x4x128x256, .f32⟩
  | 127 => ⟨S8x4x128x256, .f32⟩
  | _ => ⟨S8x4096x1024, .f32⟩

abbrev hbmTy0_1 (i : Nat) : BufTy := match i % 128 with
  | 0 => ⟨S8x4x128x256, .f32⟩
  | 1 => ⟨S1x8x4x128x256, .f32⟩
  | 2 => ⟨S_, .i32⟩
  | 3 => ⟨S_, .i32⟩
  | 4 => ⟨S_, .i32⟩
  | 5 => ⟨S_, .i32⟩
  | 6 => ⟨S64x8x4x128x256, .f32⟩
  | 7 => ⟨S_, .i32⟩
  | 8 => ⟨S_, .i32⟩
  | 9 => ⟨S8x4x64x128x256, .f32⟩
  | 10 => ⟨S8x4x64x64x256, .f32⟩
  | 11 => ⟨S8x4x64x64x256, .f32⟩
  | 12 => ⟨S8x64x64x4x256, .f32⟩
  | 13 => ⟨S8x4096x4x256, .f32⟩
  | 14 => ⟨S8x4096x4x256, .f32⟩
  | 15 => ⟨S_, .f32⟩
  | 16 => ⟨S8x4096x4, .f32⟩
  | 17 => ⟨S8x4096x4x1, .f32⟩
  | 18 => ⟨S_, .f32⟩
  | 19 => ⟨S8x4096x4x1, .f32⟩
  | 20 => ⟨S8x4096x4x1, .f32⟩
  | 21 => ⟨S_, .f32⟩
  | 22 => ⟨S8x4096x4x1, .f32⟩
  | 23 => ⟨S8x4096x4x1, .f32⟩
  | 24 => ⟨S8x4096x4x1, .f32⟩
  | 25 => ⟨S8x4096x4x256, .f32⟩
  | 26 => ⟨S8x4096x4x256, .f32⟩
  | 27 => ⟨S1x1x1x256, .f32⟩
  | 28 => ⟨S8x4096x4x256, .f32⟩
  | 29 => ⟨S8x4096x4x256, .f32⟩
  | 30 => ⟨S8x4096x1024, .f32⟩
  | 31 => ⟨S8x4096x1024, .f32⟩
  | 32 => ⟨S8x4096x1024, .f32⟩
  | 33 => ⟨S_, .f32⟩
  | 34 => ⟨S8x4096x1024, .f32⟩
  | 35 => ⟨S8x4096x1024, .f32⟩
  | 36 => ⟨S_, .f32⟩
  | 37 => ⟨S8x4096x1024, .f32⟩
  | 38 => ⟨S8x4096x1024, .f32⟩
  | 39 => ⟨S8x4096x1024, .f32⟩
  | 40 => ⟨S8x4096x1024, .f32⟩
  | 41 => ⟨S1024x1024, .f32⟩
  | 42 => ⟨S8x4096x1024, .f32⟩
  | 43 => ⟨S8x4096x1024, .f32⟩
  | 44 => ⟨S32768x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_call0_cst : Ref sig .tc := ⟨.hbm, 37, rfl⟩
abbrev main_call0_call0_v0 : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_v7 : Ref sig .tc := ⟨.hbm, 45, rfl⟩
abbrev main_call0_call0_v8 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_v1 : Ref sig .tc := ⟨.hbm, 50, rfl⟩
abbrev main_v24 : Ref sig .tc := ⟨.hbm, 51, rfl⟩
abbrev main_cst_2 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_3 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_call1_call0_cst : Ref sig .tc := ⟨.hbm, 66, rfl⟩
abbrev main_call1_call0_v0 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c : Ref sig .tc := ⟨.hbm, 75, rfl⟩
abbrev main_v44 : Ref sig .tc := ⟨.hbm, 76, rfl⟩
abbrev main_call2_v0 : Ref sig .tc := ⟨.hbm, 77, rfl⟩
abbrev main_call2_c : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_c_0 : Ref sig .tc := ⟨.hbm, 83, rfl⟩
abbrev main_call2_v5 : Ref sig .tc := ⟨.hbm, 84, rfl⟩
abbrev main_v45 : Ref sig .tc := ⟨.hbm, 85, rfl⟩
abbrev main_v46 : Ref sig .tc := ⟨.hbm, 86, rfl⟩
abbrev main_cst_4 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_5 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_6 : Ref sig .tc := ⟨.hbm, 104, rfl⟩
abbrev main_v59 : Ref sig .tc := ⟨.hbm, 105, rfl⟩
abbrev main_c_7 : Ref sig .tc := ⟨.hbm, 106, rfl⟩
abbrev main_v60_0 : Ref sig .tc := ⟨.hbm, 107, rfl⟩
abbrev main_v60_1 : Ref sig .tc := ⟨.hbm, 108, rfl⟩
abbrev main_v60_2 : Ref sig .tc := ⟨.hbm, 109, rfl⟩
abbrev main_v60_3 : Ref sig .tc := ⟨.hbm, 110, rfl⟩
abbrev main_v60_4 : Ref sig .tc := ⟨.hbm, 111, rfl⟩
abbrev main_while0c_c_15 : Ref sig .tc := ⟨.hbm, 112, rfl⟩
abbrev main_while0c_v86 : Ref sig .tc := ⟨.hbm, 113, rfl⟩
abbrev main_while0b_call4_c : Ref sig .tc := ⟨.hbm, 114, rfl⟩
abbrev main_while0b_call4_c_0 : Ref sig .tc := ⟨.hbm, 115, rfl⟩
abbrev main_while0b_call4_c_1 : Ref sig .tc := ⟨.hbm, 116, rfl⟩
abbrev main_while0b_call4_c_2 : Ref sig .tc := ⟨.hbm, 117, rfl⟩
abbrev main_while0b_call4_v0 : Ref sig .tc := ⟨.hbm, 118, rfl⟩
abbrev main_while0b_v86 : Ref sig .tc := ⟨.hbm, 119, rfl⟩
abbrev main_while0b_call5_c : Ref sig .tc := ⟨.hbm, 120, rfl⟩
abbrev main_while0b_call5_c_0 : Ref sig .tc := ⟨.hbm, 121, rfl⟩
abbrev main_while0b_call5_c_1 : Ref sig .tc := ⟨.hbm, 122, rfl⟩
abbrev main_while0b_call5_v0 : Ref sig .tc := ⟨.hbm, 123, rfl⟩
abbrev main_while0b_v87 : Ref sig .tc := ⟨.hbm, 124, rfl⟩
abbrev main_while0b_v88 : Ref sig .tc := ⟨.hbm, 125, rfl⟩
abbrev main_while0b_v89 : Ref sig .tc := ⟨.hbm, 126, rfl⟩
abbrev main_while0b_v90 : Ref sig .tc := ⟨.hbm, 127, rfl⟩
abbrev main_while0b_v91 : Ref sig .tc := ⟨.hbm, 128, rfl⟩
abbrev main_while0b_call6_v0 : Ref sig .tc := ⟨.hbm, 129, rfl⟩
abbrev main_while0b_call6_c : Ref sig .tc := ⟨.hbm, 130, rfl⟩
abbrev main_while0b_call6_c_0 : Ref sig .tc := ⟨.hbm, 131, rfl⟩
abbrev main_while0b_call6_c_1 : Ref sig .tc := ⟨.hbm, 132, rfl⟩
abbrev main_while0b_call6_c_2 : Ref sig .tc := ⟨.hbm, 133, rfl⟩
abbrev main_while0b_v92 : Ref sig .tc := ⟨.hbm, 134, rfl⟩
abbrev main_while0b_c_15 : Ref sig .tc := ⟨.hbm, 135, rfl⟩
abbrev main_while0b_v93 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_cst_8 : Ref sig .tc := ⟨.hbm, 143, rfl⟩
abbrev main_v67 : Ref sig .tc := ⟨.hbm, 144, rfl⟩
abbrev main_v68 : Ref sig .tc := ⟨.hbm, 145, rfl⟩
abbrev main_cst_9 : Ref sig .tc := ⟨.hbm, 146, rfl⟩
abbrev main_v69 : Ref sig .tc := ⟨.hbm, 147, rfl⟩
abbrev main_v70 : Ref sig .tc := ⟨.hbm, 148, rfl⟩
abbrev main_cst_10 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_call7_v0 : Ref sig .tc := ⟨.hbm, 159, rfl⟩
abbrev main_call7_v1 : Ref sig .tc := ⟨.hbm, 160, rfl⟩
abbrev main_call7_cst : Ref sig .tc := ⟨.hbm, 161, rfl⟩
abbrev main_call7_v2 : Ref sig .tc := ⟨.hbm, 162, rfl⟩
abbrev main_call7_v3 : Ref sig .tc := ⟨.hbm, 163, rfl⟩
abbrev main_call7_cst_0 : Ref sig .tc := ⟨.hbm, 164, rfl⟩
abbrev main_call7_v4 : Ref sig .tc := ⟨.hbm, 165, rfl⟩
abbrev main_call7_v5 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩

abbrev nD : Nat := 1
abbrev τ : Topo := Topo.v7x

variable {F : FTy → Type} [FloatOps F]

abbrev main_while0_count : Scf.Loop 32 := ⟨0#32, 64#32, 1#32⟩
-- ==== Proof.Spec.lean ====
/- The mathematics of the feed-forward block, on plain numbers: the root-mean-square normalisation of a row, a column of
   the up-projection (its weights kept in chunks of 512 columns), and the gated convolution at one place. -/
module

public import proofs.«01_k».proof.Proof.Gen.KernelIdeal
public import Idealize.ShloMosaic.Lib.Pointwise
public import Idealize.ShloMosaic.Lib.ValueIdx

@[expose] public section

noncomputable section

namespace Cert.ConvFfn

open Idealize.ShloMosaic
open scoped BigOperators

/-- The row `r` divided by the root of its mean square (plus the small constant) and scaled by `g`, at column `k`. -/
def rmsRow (r g : Fin 1024 → EReal) (k : Fin 1024) : EReal :=
  r k * Ideal.rsqrt (Ideal.div (∑ l, r l * r l) (Ideal.ofBits .f32 0x44800000#32) + Ideal.ofBits .f32 0x358637BD#32) * g k

/-- The up-projection's weight in row `k` of column `j`, where the weights are kept in 11 chunks of 512 columns. -/
def wAt (w : (⟨3, ![11, 1024, 512]⟩ : Shape).Idx → EReal) (k : Fin 1024) (j : ℕ) : EReal :=
  if h : j < 5632 then w (ix3 ⟨j / 512, by omega⟩ k ⟨j % 512, by omega⟩) else 0

/-- An entry of chunk `a` is the weight in column `512 a + b`. -/
theorem wAt_chunk (w : (⟨3, ![11, 1024, 512]⟩ : Shape).Idx → EReal) (k : Fin 1024) (j : ℕ) (a : Fin 11) (b : Fin 512)
    (h : j = 512 * a.val + b.val) : w (ix3 a k b) = wAt w k j := by
  have hj : j < 5632 := by omega
  rw [wAt, dif_pos hj]
  congr 1
  refine (ix3_inj ..).mpr ⟨Fin.ext ?_, rfl, Fin.ext ?_⟩
  · show a.val = j / 512
    omega
  · show b.val = j % 512
    omega

/-- Column `j` of the up-projection of the row `h`. -/
def upRow (w : (⟨3, ![11, 1024, 512]⟩ : Shape).Idx → EReal) (h : Fin 1024 → EReal) (j : ℕ) : EReal :=
  ∑ k, h k * wAt w k j

/-- The three-tap convolution: bias `b`, taps `w2`, `w1`, `w0` on the values two rows back, one row back and here. -/
def conv (b w0 w1 w2 u2 u1 u0 : EReal) : EReal := b + w0 * u2 + w1 * u1 + w2 * u0

/-- The exact GELU of `c` (by the error function), times the gate `v`. -/
def gate (c v : EReal) : EReal :=
  Ideal.ofBits .f32 0x3F000000#32 * c
    * (1 + Ideal.erf (c * Ideal.ofBits .f32 0x3F3504F3#32)) * v

end Cert.ConvFfn

end
-- ==== Proof.Chunk.lean ====
/- What the arithmetic of one grid point computes, read at a place of the block: the normalised rows, the up-projection's
   columns, the gated convolution of a chunk of columns, and the closing normalisation. Every statement is about a block
   held in local memory; nothing here mentions the grid. -/
module

public import proofs.«01_k».proof.Proof.Spec
public import proofs.«01_k».proof.Proof.Gen.KernelIdeal.Skeleton
public import Idealize.ShloMosaic.Lib.Pipeline.Value

@[expose] public section

noncomputable section

namespace Cert.ConvFfn

open Cert.KernelIdeal Cert.KernelIdeal.Gen Idealize.ShloMosaic Idealize.ShloMosaic.TcCoe
open scoped BigOperators

/-- A load of a box of a two-dimensional block reads the block at the offset place. -/
theorem ld2 {n0 n1 k0 k1 : ℕ} (v : (⟨2, ![n0, n1]⟩ : Shape).Idx → EReal) (o0 o1 : ℕ)
    (inb : ∀ a : Fin 2, (![o0, o1] : Fin 2 → ℕ) a + (![k0, k1] : Fin 2 → ℕ) a ≤ (![n0, n1] : Fin 2 → ℕ) a)
    (a : Fin k0) (b : Fin k1) (a' : Fin n0) (b' : Fin n1) (ha : a'.val = o0 + a.val) (hb : b'.val = o1 + b.val) :
    v ((Rect.unit (s := ⟨2, ![n0, n1]⟩) ![o0, o1] ![k0, k1] inb).emb (ix2 a b)) = v (ix2 a' b') := by
  congr 1
  funext d
  apply Fin.ext
  match d with
  | ⟨0, _⟩ => show o0 + 1 * a.val = a'.val; omega
  | ⟨1, _⟩ => show o1 + 1 * b.val = b'.val; omega

/-- The normalised block: every row of the input block, normalised. -/
theorem pay4_apply (x : Vec Ideal S1024x1024 .f32) (g : Vec Ideal S1x1024 .f32) (p k : Fin 1024) :
    k0_pay4 x g (ix2 p k) = rmsRow (fun l => x (ix2 p l)) (fun l => g (ix2 0 l)) k := by
  pointwise [k0_pay4, k0_pay3, rmsRow]

/-- The closing product, residual and normalisation. -/
theorem pay1_apply (x : Vec Ideal S1024x1024 .f32) (a : Vec Ideal S1024x2816 .bf16) (wd : Vec Ideal S2816x1024 .bf16)
    (g : Vec Ideal S1x1024 .f32) (p k : Fin 1024) :
    k0_pay1 (k0_pay3 x) a wd g (ix2 p k)
      = rmsRow (fun l => x (ix2 p l) + ∑ j, a (ix2 p j) * wd (ix2 j l)) (fun l => g (ix2 0 l)) k := by
  pointwise [k0_pay1, k0_pay3, rmsRow]

variable (hn : Vec Ideal S1024x1024 .bf16) (w : Vec Ideal S11x1024x512 .bf16)

/-- Columns 0 to 1023 of the up-projection, from its first two chunks. -/
theorem pay7_apply (i0 i1) (p c : Fin 1024) :
    k0_pay7 (k0_pay5 hn (View.ld w (Rect.unit ![0, 0, 0] ![1, 1024, 512] i0)))
       (k0_pay6 hn (View.ld w (Rect.unit ![1, 0, 0] ![1, 1024, 512] i1))) (ix2 p c)
      = upRow w (fun k => hn (ix2 p k)) c.val := by
  pointwise [k0_pay7, k0_pay5, k0_pay6, upRow]
  split_ifs <;> refine Finset.sum_congr rfl fun k _ => congrArg _ (wAt_chunk w k _ _ _ ?_)
  all_goals simp only [Fin.isValue]; omega

/-- Columns 2816 to 3839: the gate of the first chunk. -/
theorem pay8_apply (i0 i1 i2) (p c : Fin 1024) :
    k0_pay8 hn (View.ld w (Rect.unit ![5, 0, 256] ![1, 1024, 256] i0)) hn
        (View.ld w (Rect.unit ![6, 0, 0] ![1, 1024, 512] i1)) hn
        (View.ld w (Rect.unit ![7, 0, 0] ![1, 1024, 256] i2)) (ix2 p c)
      = upRow w (fun k => hn (ix2 p k)) (2816 + c.val) := by
  pointwise [k0_pay8, upRow]
  split_ifs <;> refine Finset.sum_congr rfl fun k _ => congrArg _ (wAt_chunk w k _ _ _ ?_)
  all_goals simp only [Fin.isValue]; omega

/-- Columns 1024 to 2047. -/
theorem pay13_apply (i0 i1) (p c : Fin 1024) :
    k0_pay13 hn (View.ld w (Rect.unit ![2, 0, 0] ![1, 1024, 512] i0)) hn
        (View.ld w (Rect.unit ![3, 0, 0] ![1, 1024, 512] i1)) (ix2 p c)
      = upRow w (fun k => hn (ix2 p k)) (1024 + c.val) := by
  pointwise [k0_pay13, upRow]
  split_ifs <;> refine Finset.sum_congr rfl fun k _ => congrArg _ (wAt_chunk w k _ _ _ ?_)
  all_goals simp only [Fin.isValue]; omega

/-- Columns 3840 to 4863: the gate of the second chunk. -/
theorem pay15_apply (i0 i1 i2) (p c : Fin 1024) :
    k0_pay15 (k0_pay14 hn (View.ld w (Rect.unit ![7, 0, 256] ![1, 1024, 256] i0))) hn
        (View.ld w (Rect.unit ![8, 0, 0] ![1, 1024, 512] i1)) hn
        (View.ld w (Rect.unit ![9, 0, 0] ![1, 1024, 256] i2)) (ix2 p c)
      = upRow w (fun k => hn (ix2 p k)) (3840 + c.val) := by
  pointwise [k0_pay15, k0_pay14, upRow]
  split_ifs <;> refine Finset.sum_congr rfl fun k _ => congrArg _ (wAt_chunk w k _ _ _ ?_)
  all_goals simp only [Fin.isValue]; omega

/-- Columns 2048 to 2815. -/
theorem pay21_apply (i0 i1) (p : Fin 1024) (c : Fin 768) :
    k0_pay21 hn (View.ld w (Rect.unit ![4, 0, 0] ![1, 1024, 512] i0)) hn
        (View.ld w (Rect.unit ![5, 0, 0] ![1, 1024, 256] i1)) (ix2 p c)
      = upRow w (fun k => hn (ix2 p k)) (2048 + c.val) := by
  pointwise [k0_pay21, upRow]
  split_ifs <;> refine Finset.sum_congr rfl fun k _ => congrArg _ (wAt_chunk w k _ _ _ ?_)
  all_goals simp only [Fin.isValue]; omega

/-- Columns 4864 to 5631: the gate of the last chunk. -/
theorem pay22_apply (i0 i1) (p : Fin 1024) (c : Fin 768) :
    k0_pay22 hn (View.ld w (Rect.unit ![9, 0, 256] ![1, 1024, 256] i0)) hn
        (View.ld w (Rect.unit ![10, 0, 0] ![1, 1024, 512] i1)) (ix2 p c)
      = upRow w (fun k => hn (ix2 p k)) (4864 + c.val) := by
  pointwise [k0_pay22, upRow]
  split_ifs <;> refine Finset.sum_congr rfl fun k _ => congrArg _ (wAt_chunk w k _ _ _ ?_)
  all_goals simp only [Fin.isValue]; omega

/-- Row `q` of the 16 carried rows followed by the block's own 1024 rows. -/
def rowsAt {n : ℕ} (h : (⟨2, ![16, n]⟩ : Shape).Idx → EReal) (u : (⟨2, ![1024, n]⟩ : Shape).Idx → EReal) (q : ℕ)
    (c : Fin n) : EReal :=
  if hq : q < 16 then h (ix2 ⟨q, hq⟩ c) else if hu : q - 16 < 1024 then u (ix2 ⟨q - 16, hu⟩ c) else 0

/-- The carried rows followed by the block's, read at a row named in another way. -/
theorem rowsAt_eq {n : ℕ} (h : (⟨2, ![16, n]⟩ : Shape).Idx → EReal) (u : (⟨2, ![1024, n]⟩ : Shape).Idx → EReal)
    (c : Fin n) (q q' : ℕ) (e : q = q') (hu : q < 1040) :
    (if hx : q < 16 then h (ix2 ⟨q, hx⟩ c) else u (ix2 ⟨q - 16, by omega⟩ c)) = rowsAt h u q' c := by
  subst e
  unfold rowsAt
  split
  · rfl
  · rw [dif_pos (by omega)]

/-- The gated convolution of one chunk at a place, over the carried rows and the block's own. -/
def gateAt {n : ℕ} (h : (⟨2, ![16, n]⟩ : Shape).Idx → EReal) (u v : (⟨2, ![1024, n]⟩ : Shape).Idx → EReal)
    (cw : (⟨2, ![3, n]⟩ : Shape).Idx → EReal) (cb : (⟨2, ![1, n]⟩ : Shape).Idx → EReal) (p : Fin 1024) (c : Fin n) : EReal :=
  gate (conv (cb (ix2 0 c)) (cw (ix2 0 c)) (cw (ix2 1 c)) (cw (ix2 2 c)) (rowsAt h u (p.val + 14) c)
    (rowsAt h u (p.val + 15) c) (u (ix2 p c))) (v (ix2 p c))

/-- The first chunk's gated convolution. -/
theorem pay11_apply (h : Vec Ideal S16x1024 .f32) (a b : FVec Ideal S1024x512 .f32) (v : Vec Ideal S1024x1024 .f32)
    (cw : Vec Ideal S3x1024 .f32) (cb : Vec Ideal S1x1024 .f32) (p c : Fin 1024) :
    k0_pay11 (k0_pay7 a b) v (k0_pay9 a b h cw cb) (k0_pay10 cw) (ix2 p c)
      = gateAt h (k0_pay7 (F := Ideal) a b) v cw cb p c := by
  unfold k0_pay9
  generalize k0_pay7 a b = u
  pointwise [k0_pay11, k0_pay10, gateAt, gate, conv]
  rw [rowsAt_eq h u c _ (p.val + 14) (by omega) (by omega), rowsAt_eq h u c _ (p.val + 15) (by omega) (by omega)]
  rfl

/-- The second chunk's gated convolution. -/
theorem pay19_apply (h : Vec Ideal S16x1024 .f32) (u v : FVec Ideal S1024x1024 .f32)
    (cw : Vec Ideal S3x1024 .f32) (cb : Vec Ideal S1x1024 .f32) (p c : Fin 1024) :
    k0_pay19 v (k0_pay17 u h cw cb) (k0_pay18 u h cw cb) (FloatOps.ofBits .f32 0x3F800000#32) (ix2 p c)
      = gateAt h u v cw cb p c := by
  pointwise [k0_pay19, k0_pay17, k0_pay18, k0_pay16, gateAt, gate, conv]
  rw [rowsAt_eq h u c _ (p.val + 14) (by omega) (by omega), rowsAt_eq h u c _ (p.val + 15) (by omega) (by omega)]
  rfl

/-- The last chunk's gated convolution. -/
theorem pay23_apply (h : Vec Ideal S16x768 .f32) (u v : FVec Ideal S1024x768 .f32)
    (cw : Vec Ideal S3x768 .f32) (cb : Vec Ideal S1x768 .f32) (p : Fin 1024) (c : Fin 768) :
    k0_pay23 u v h cw cb (ix2 p c) = gateAt h u v cw cb p c := by
  pointwise [k0_pay23, gateAt, gate, conv]
  rw [rowsAt_eq h u c _ (p.val + 14) (by omega) (by omega), rowsAt_eq h u c _ (p.val + 15) (by omega) (by omega)]
  rfl

/-- The rows the first chunk carries on: its last 16. -/
theorem pay12_apply (u : FVec Ideal S1024x1024 .f32) (q : Fin 16) (c : Fin 1024) :
    k0_pay12 u (ix2 q c) = u (ix2 ⟨1008 + q.val, by omega⟩ c) := by
  pointwise [k0_pay12]

/-- The rows the second chunk carries on: its last 16. -/
theorem pay20_apply (u : FVec Ideal S1024x1024 .f32) (q : Fin 16) (c : Fin 1024) :
    k0_pay20 u (ix2 q c) = u (ix2 ⟨1008 + q.val, by omega⟩ c) := by
  pointwise [k0_pay20]

/-- The rows the last chunk carries on: its last 16. -/
theorem pay24_apply (u : FVec Ideal S1024x768 .f32) (q : Fin 16) (c : Fin 768) :
    k0_pay24 u (ix2 q c) = u (ix2 ⟨1008 + q.val, by omega⟩ c) := by
  pointwise [k0_pay24]

end Cert.ConvFfn

end
-- ==== Proof.Tile.lean ====
/- What one grid point leaves: the block of the result it writes, and the 16 rows it carries to the next point, each read
   back from the point's stores as a function of the input blocks and of the rows carried into the point. -/
module

public import proofs.«01_k».proof.Proof.Chunk
public import proofs.«01_k».proof.Proof.Gen.KernelIdeal.Frame
public import Idealize.ShloMosaic.Lib.Pipeline.ReadBack

@[expose] public section

noncomputable section

namespace Cert.ConvFfn

open Cert.KernelIdeal Cert.KernelIdeal.Gen Idealize.ShloMosaic Idealize.ShloMosaic.TcCoe
open scoped BigOperators

/-- The offset of a whole block is zero. -/
theorem hz : (![0, 0] : Fin 2 → Nat) = fun _ => 0 := funext fun a => by fin_cases a <;> rfl

/-- Column `j` of the up-projection of row `p` of the block. -/
def upT (x : Vec Ideal S1024x1024 .f32) (g : Vec Ideal S1x1024 .f32) (w : Vec Ideal S11x1024x512 .bf16) (p : Fin 1024)
    (j : ℕ) : EReal :=
  upRow w (rmsRow (fun l => x (ix2 p l)) (fun l => g (ix2 0 l))) j

/-- The up-projection's first half of the columns, as a block. -/
def uBlk (x : Vec Ideal S1024x1024 .f32) (g : Vec Ideal S1x1024 .f32) (w : Vec Ideal S11x1024x512 .bf16) :
    (⟨2, ![1024, 2816]⟩ : Shape).Idx → EReal := fun i => upT x g w (i 0) (i 1).val

/-- The up-projection's second half of the columns (the gate), as a block. -/
def vBlk (x : Vec Ideal S1024x1024 .f32) (g : Vec Ideal S1x1024 .f32) (w : Vec Ideal S11x1024x512 .bf16) :
    (⟨2, ![1024, 2816]⟩ : Shape).Idx → EReal := fun i => upT x g w (i 0) (2816 + (i 1).val)

/-- The gated convolution of the block, over the carried rows `h`. -/
def aBlk (h : Vec Ideal S16x2816 .f32) (x : Vec Ideal S1024x1024 .f32) (g : Vec Ideal S1x1024 .f32)
    (w : Vec Ideal S11x1024x512 .bf16) (cw : Vec Ideal S3x2816 .f32) (cb : Vec Ideal S1x2816 .f32) :
    Vec Ideal S1024x2816 .bf16 := fun i => gateAt h (uBlk x g w) (vBlk x g w) cw cb (i 0) (i 1)

/-- The rows carried on: the last 16 of the block's up-projection. -/
def histBlk (x : Vec Ideal S1024x1024 .f32) (g : Vec Ideal S1x1024 .f32) (w : Vec Ideal S11x1024x512 .bf16) :
    Vec Ideal S16x2816 .f32 := fun i => uBlk x g w (ix2 ⟨1008 + (i 0).val, by have : (i 0).val < 16 := (i 0).isLt; omega⟩ (i 1))

/-- The block of the result. -/
def outBlk (h : Vec Ideal S16x2816 .f32) (x : Vec Ideal S1024x1024 .f32) (g : Vec Ideal S1x1024 .f32)
    (w : Vec Ideal S11x1024x512 .bf16) (cw : Vec Ideal S3x2816 .f32) (cb : Vec Ideal S1x2816 .f32)
    (wd : Vec Ideal S2816x1024 .bf16) (gf : Vec Ideal S1x1024 .f32) : Vec Ideal S1024x1024 .f32 := fun i =>
  rmsRow (fun l => x (ix2 (i 0) l) + ∑ j, aBlk h x g w cw cb (ix2 (i 0) j) * wd (ix2 j l)) (fun l => gf (ix2 0 l)) (i 1)

/-- The place of a box of columns: the same row, the column shifted. -/
theorem emb2 {m n0 n1 : ℕ} (o : ℕ) (hn : o + n1 ≤ n0)
    (inb : ∀ a : Fin 2, (![0, o] : Fin 2 → ℕ) a + (![m, n1] : Fin 2 → ℕ) a ≤ (![m, n0] : Fin 2 → ℕ) a) (a : Fin m) (b : Fin n1) :
    (Rect.unit (s := ⟨2, ![m, n0]⟩) ![0, o] ![m, n1] inb).emb (ix2 a b) = ix2 a ⟨o + b.val, by omega⟩ := by
  funext d
  apply Fin.ext
  match d with
  | ⟨0, _⟩ => show 0 + 1 * a.val = a.val; omega
  | ⟨1, _⟩ => show o + 1 * b.val = o + b.val; omega

/-- The gated convolution of a chunk of columns is the whole block's at the shifted column. -/
theorem gateAt_chunk {n : ℕ} (o : ℕ) (ho : o + n ≤ 2816) (h : (⟨2, ![16, 2816]⟩ : Shape).Idx → EReal)
    (u v : (⟨2, ![1024, 2816]⟩ : Shape).Idx → EReal) (cw : (⟨2, ![3, 2816]⟩ : Shape).Idx → EReal)
    (cb : (⟨2, ![1, 2816]⟩ : Shape).Idx → EReal) (h' : (⟨2, ![16, n]⟩ : Shape).Idx → EReal)
    (u' v' : (⟨2, ![1024, n]⟩ : Shape).Idx → EReal) (cw' : (⟨2, ![3, n]⟩ : Shape).Idx → EReal)
    (cb' : (⟨2, ![1, n]⟩ : Shape).Idx → EReal) (p : Fin 1024) (c : Fin n)
    (eh : ∀ q c, h' (ix2 q c) = h (ix2 q ⟨o + c.val, by omega⟩)) (eu : ∀ q c, u' (ix2 q c) = u (ix2 q ⟨o + c.val, by omega⟩))
    (ev : ∀ q c, v' (ix2 q c) = v (ix2 q ⟨o + c.val, by omega⟩)) (ew : ∀ q c, cw' (ix2 q c) = cw (ix2 q ⟨o + c.val, by omega⟩))
    (eb : ∀ q c, cb' (ix2 q c) = cb (ix2 q ⟨o + c.val, by omega⟩)) :
    gateAt h' u' v' cw' cb' p c = gateAt h u v cw cb p ⟨o + c.val, by omega⟩ := by
  simp only [gateAt, rowsAt, eh, eu, ev, ew, eb]

/-- A column of the up-projection of the normalised block is the block's. -/
theorem upRow_pay4 (x : Vec Ideal S1024x1024 .f32) (g : Vec Ideal S1x1024 .f32) (w : Vec Ideal S11x1024x512 .bf16) (p : Fin 1024)
    (j : ℕ) : upRow w (fun k => k0_pay4 x g (ix2 p k)) j = upT x g w p j :=
  congrArg (upRow w · j) (funext fun k => pay4_apply x g p k)

section

variable (h : Vec Ideal S16x2816 .f32) (x0 : Vec Ideal S1024x1024 .f32) (x1 : Vec Ideal S1x1024 .f32)
  (x2 : Vec Ideal S11x1024x512 .bf16) (x3 : Vec Ideal S3x2816 .f32) (x4 : Vec Ideal S1x2816 .f32)

/-- The first chunk of the convolved rows, before the convolution. -/
abbrev u0 : FVec Ideal S1024x1024 .f32 :=
  k0_pay7 (k0_pay5 (k0_pay4 x0 x1) (View.ld x2 (Rect.unit ![0, 0, 0] ![1, 1024, 512] inb_S11x1024x512_S1x1024x512_0_0_0)))
    (k0_pay6 (k0_pay4 x0 x1) (View.ld x2 (Rect.unit ![1, 0, 0] ![1, 1024, 512] inb_S11x1024x512_S1x1024x512_1_0_0)))

/-- The second chunk. -/
abbrev u1 : FVec Ideal S1024x1024 .f32 :=
  k0_pay13 (k0_pay4 x0 x1) (View.ld x2 (Rect.unit ![2, 0, 0] ![1, 1024, 512] inb_S11x1024x512_S1x1024x512_2_0_0))
    (k0_pay4 x0 x1) (View.ld x2 (Rect.unit ![3, 0, 0] ![1, 1024, 512] inb_S11x1024x512_S1x1024x512_3_0_0))

/-- The last chunk. -/
abbrev u2 : FVec Ideal S1024x768 .f32 :=
  k0_pay21 (k0_pay4 x0 x1) (View.ld x2 (Rect.unit ![4, 0, 0] ![1, 1024, 512] inb_S11x1024x512_S1x1024x512_4_0_0))
    (k0_pay4 x0 x1) (View.ld x2 (Rect.unit ![5, 0, 0] ![1, 1024, 256] inb_S11x1024x512_S1x1024x256_5_0_0))

/-- The first chunk's stored gate, as a chunk of the block's. -/
theorem piece0 (p c : Fin 1024) :
    k0_pay11 (u0 x0 x1 x2)
      (k0_pay8 (k0_pay4 x0 x1) (View.ld x2 (Rect.unit ![5, 0, 256] ![1, 1024, 256] inb_S11x1024x512_S1x1024x256_5_0_256))
        (k0_pay4 x0 x1) (View.ld x2 (Rect.unit ![6, 0, 0] ![1, 1024, 512] inb_S11x1024x512_S1x1024x512_6_0_0))
        (k0_pay4 x0 x1) (View.ld x2 (Rect.unit ![7, 0, 0] ![1, 1024, 256] inb_S11x1024x512_S1x1024x256_7_0_0)))
      (k0_pay9 (k0_pay5 (k0_pay4 x0 x1) (View.ld x2 (Rect.unit ![0, 0, 0] ![1, 1024, 512] inb_S11x1024x512_S1x1024x512_0_0_0)))
        (k0_pay6 (k0_pay4 x0 x1) (View.ld x2 (Rect.unit ![1, 0, 0] ![1, 1024, 512] inb_S11x1024x512_S1x1024x512_1_0_0)))
        (View.ld h (Rect.unit ![0, 0] ![16, 1024] inb_S16x2816_S16x1024_0_0))
        (View.ld x3 (Rect.unit ![0, 0] ![3, 1024] inb_S3x2816_S3x1024_0_0))
        (View.ld x4 (Rect.unit ![0, 0] ![1, 1024] inb_S1x2816_S1x1024_0_0)))
      (k0_pay10 (View.ld x3 (Rect.unit ![0, 0] ![3, 1024] inb_S3x2816_S3x1024_0_0))) (ix2 p c)
      = aBlk h x0 x1 x2 x3 x4 (ix2 p ⟨0 + c.val, by omega⟩) := by
  rw [pay11_apply]
  refine gateAt_chunk 0 (by omega) h (uBlk x0 x1 x2) (vBlk x0 x1 x2) x3 x4 _ _ _ _ _ p c ?_ ?_ ?_ ?_ ?_
  · exact fun q c => congrArg h (emb2 0 (by omega) _ q c)
  · exact fun q c => (pay7_apply _ x2 _ _ q c).trans ((upRow_pay4 ..).trans (congrArg _ (Nat.zero_add _).symm))
  · exact fun q c => (pay8_apply _ x2 _ _ _ q c).trans ((upRow_pay4 ..).trans (congrArg _ (by simp only [ix2_1]; omega)))
  · exact fun q c => congrArg x3 (emb2 0 (by omega) _ q c)
  · exact fun q c => congrArg x4 (emb2 0 (by omega) _ q c)

/-- The second chunk's. -/
theorem piece1 (p c : Fin 1024) :
    k0_pay19 (k0_pay15 (k0_pay14 (k0_pay4 x0 x1)
          (View.ld x2 (Rect.unit ![7, 0, 256] ![1, 1024, 256] inb_S11x1024x512_S1x1024x256_7_0_256)))
        (k0_pay4 x0 x1) (View.ld x2 (Rect.unit ![8, 0, 0] ![1, 1024, 512] inb_S11x1024x512_S1x1024x512_8_0_0))
        (k0_pay4 x0 x1) (View.ld x2 (Rect.unit ![9, 0, 0] ![1, 1024, 256] inb_S11x1024x512_S1x1024x256_9_0_0)))
      (k0_pay17 (u1 x0 x1 x2) (View.ld h (Rect.unit ![0, 1024] ![16, 1024] inb_S16x2816_S16x1024_0_1024))
        (View.ld x3 (Rect.unit ![0, 1024] ![3, 1024] inb_S3x2816_S3x1024_0_1024))
        (View.ld x4 (Rect.unit ![0, 1024] ![1, 1024] inb_S1x2816_S1x1024_0_1024)))
      (k0_pay18 (u1 x0 x1 x2) (View.ld h (Rect.unit ![0, 1024] ![16, 1024] inb_S16x2816_S16x1024_0_1024))
        (View.ld x3 (Rect.unit ![0, 1024] ![3, 1024] inb_S3x2816_S3x1024_0_1024))
        (View.ld x4 (Rect.unit ![0, 1024] ![1, 1024] inb_S1x2816_S1x1024_0_1024)))
      (FloatOps.ofBits .f32 0x3F800000#32) (ix2 p c)
      = aBlk h x0 x1 x2 x3 x4 (ix2 p ⟨1024 + c.val, by omega⟩) := by
  rw [pay19_apply]
  refine gateAt_chunk 1024 (by omega) h (uBlk x0 x1 x2) (vBlk x0 x1 x2) x3 x4 _ _ _ _ _ p c ?_ ?_ ?_ ?_ ?_
  · exact fun q c => congrArg h (emb2 1024 (by omega) _ q c)
  · exact fun q c => (pay13_apply _ x2 _ _ q c).trans (upRow_pay4 ..)
  · exact fun q c => (pay15_apply _ x2 _ _ _ q c).trans ((upRow_pay4 ..).trans (congrArg _ (by simp only [ix2_1]; omega)))
  · exact fun q c => congrArg x3 (emb2 1024 (by omega) _ q c)
  · exact fun q c => congrArg x4 (emb2 1024 (by omega) _ q c)

/-- The last chunk's. -/
theorem piece2 (p : Fin 1024) (c : Fin 768) :
    k0_pay23 (u2 x0 x1 x2)
      (k0_pay22 (k0_pay4 x0 x1) (View.ld x2 (Rect.unit ![9, 0, 256] ![1, 1024, 256] inb_S11x1024x512_S1x1024x256_9_0_256))
        (k0_pay4 x0 x1) (View.ld x2 (Rect.unit ![10, 0, 0] ![1, 1024, 512] inb_S11x1024x512_S1x1024x512_10_0_0)))
      (View.ld h (Rect.unit ![0, 2048] ![16, 768] inb_S16x2816_S16x768_0_2048))
      (View.ld x3 (Rect.unit ![0, 2048] ![3, 768] inb_S3x2816_S3x768_0_2048))
      (View.ld x4 (Rect.unit ![0, 2048] ![1, 768] inb_S1x2816_S1x768_0_2048)) (ix2 p c)
      = aBlk h x0 x1 x2 x3 x4 (ix2 p ⟨2048 + c.val, by omega⟩) := by
  rw [pay23_apply]
  refine gateAt_chunk 2048 (by omega) h (uBlk x0 x1 x2) (vBlk x0 x1 x2) x3 x4 _ _ _ _ _ p c ?_ ?_ ?_ ?_ ?_
  · exact fun q c => congrArg h (emb2 2048 (by omega) _ q c)
  · exact fun q c => (pay21_apply _ x2 _ _ q c).trans (upRow_pay4 ..)
  · exact fun q c => (pay22_apply _ x2 _ _ q c).trans ((upRow_pay4 ..).trans (congrArg _ (by simp only [ix2_1]; omega)))
  · exact fun q c => congrArg x3 (emb2 2048 (by omega) _ q c)
  · exact fun q c => congrArg x4 (emb2 2048 (by omega) _ q c)

/-- Three stores side by side, each a chunk of `G`'s columns, leave `G`. -/
theorem canon_chunks {e : EltTy} {m : ℕ} [∀ e, Nonempty (Elt Ideal e)] (G : (⟨2, ![m, 2816]⟩ : Shape).Idx → Elt Ideal e)
    (L : List (View.Piece (Elt Ideal) (⟨2, ![m, 2816]⟩ : Shape) e)) (i0 i1 i2)
    (y0 y1 : (⟨2, ![m, 1024]⟩ : Shape).Idx → Elt Ideal e) (y2 : (⟨2, ![m, 768]⟩ : Shape).Idx → Elt Ideal e)
    (e0 : ∀ p c, y0 (ix2 p c) = G (ix2 p ⟨0 + c.val, by omega⟩)) (e1 : ∀ p c, y1 (ix2 p c) = G (ix2 p ⟨1024 + c.val, by omega⟩))
    (e2 : ∀ p c, y2 (ix2 p c) = G (ix2 p ⟨2048 + c.val, by omega⟩)) :
    View.canon ((⟨Rect.unit (s := ⟨2, ![m, 2816]⟩) ![0, 2048] ![m, 768] i2, y2⟩ :: ⟨Rect.unit ![0, 1024] ![m, 1024] i1, y1⟩
      :: ⟨Rect.unit ![0, 0] ![m, 1024] i0, y0⟩ :: L)) = G := by
  funext y
  refine View.canon_append_of_piecesOf G L [⟨Rect.unit (s := ⟨2, ![m, 2816]⟩) ![0, 2048] ![m, 768] i2, y2⟩,
    ⟨Rect.unit ![0, 1024] ![m, 1024] i1, y1⟩, ⟨Rect.unit ![0, 0] ![m, 1024] i0, y0⟩] ⟨?_, ?_, ?_, trivial⟩ y ?_
  · intro x
    obtain ⟨p, c, rfl⟩ : ∃ p c, x = ix2 (n0 := m) (n1 := 768) p c := ⟨x 0, x 1, eq_ix2 x⟩
    exact (e2 p c).trans (congrArg G (emb2 2048 (by omega) i2 p c).symm)
  · intro x
    obtain ⟨p, c, rfl⟩ : ∃ p c, x = ix2 (n0 := m) (n1 := 1024) p c := ⟨x 0, x 1, eq_ix2 x⟩
    exact (e1 p c).trans (congrArg G (emb2 1024 (by omega) i1 p c).symm)
  · intro x
    obtain ⟨p, c, rfl⟩ : ∃ p c, x = ix2 (n0 := m) (n1 := 1024) p c := ⟨x 0, x 1, eq_ix2 x⟩
    exact (e0 p c).trans (congrArg G (emb2 0 (by omega) i0 p c).symm)
  · have h0 : (y 0).val < m := (y 0).isLt
    have h1 : (y 1).val < 2816 := (y 1).isLt
    by_cases ha : (y 1).val < 1024
    · refine ⟨_, List.mem_cons_of_mem _ (List.mem_cons_of_mem _ (List.mem_cons_self ..)), ?_⟩
      rw [Rect.mem_set_unit]
      intro a
      match a with
      | ⟨0, _⟩ => exact ⟨Nat.zero_le _, by show (y 0).val < 0 + m; omega⟩
      | ⟨1, _⟩ => exact ⟨Nat.zero_le _, by show (y 1).val < 0 + 1024; omega⟩
    · by_cases hb : (y 1).val < 2048
      · refine ⟨_, List.mem_cons_of_mem _ (List.mem_cons_self ..), ?_⟩
        rw [Rect.mem_set_unit]
        intro a
        match a with
        | ⟨0, _⟩ => exact ⟨Nat.zero_le _, by show (y 0).val < 0 + m; omega⟩
        | ⟨1, _⟩ => exact ⟨by show 1024 ≤ (y 1).val; omega, by show (y 1).val < 1024 + 1024; omega⟩
      · refine ⟨_, List.mem_cons_self .., ?_⟩
        rw [Rect.mem_set_unit]
        intro a
        match a with
        | ⟨0, _⟩ => exact ⟨Nat.zero_le _, by show (y 0).val < 0 + m; omega⟩
        | ⟨1, _⟩ => exact ⟨by show 2048 ≤ (y 1).val; omega, by show (y 1).val < 2048 + 768; omega⟩

/-- The first chunk of the rows carried on. -/
theorem hist0 (q : Fin 16) (c : Fin 1024) :
    k0_pay12 (u0 x0 x1 x2) (ix2 q c) = histBlk x0 x1 x2 (ix2 q ⟨0 + c.val, by omega⟩) :=
  (pay12_apply ..).trans ((pay7_apply _ x2 _ _ _ c).trans ((upRow_pay4 ..).trans (congrArg _ (Nat.zero_add _).symm)))

/-- The second chunk's. -/
theorem hist1 (q : Fin 16) (c : Fin 1024) :
    k0_pay20 (u1 x0 x1 x2) (ix2 q c) = histBlk x0 x1 x2 (ix2 q ⟨1024 + c.val, by omega⟩) :=
  (pay20_apply ..).trans ((pay13_apply _ x2 _ _ _ c).trans (upRow_pay4 ..))

/-- The last chunk's. -/
theorem hist2 (q : Fin 16) (c : Fin 768) :
    k0_pay24 (u2 x0 x1 x2) (ix2 q c) = histBlk x0 x1 x2 (ix2 q ⟨2048 + c.val, by omega⟩) :=
  (pay24_apply ..).trans ((pay21_apply _ x2 _ _ _ c).trans (upRow_pay4 ..))

end

variable (c : Dev nD) (i : grid0.Coords)
variable (arg1 : Memref sig .tc .vmem S1024x1024 .f32) (harg1 : arg1.IsWhole) (arg2 : Memref sig .tc .vmem S1x1024 .f32) (harg2 : arg2.IsWhole) (arg3 : Memref sig .tc .vmem S11x1024x512 .bf16) (harg3 : arg3.IsWhole) (arg4 : Memref sig .tc .vmem S3x2816 .f32) (harg4 : arg4.IsWhole) (arg5 : Memref sig .tc .vmem S1x2816 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S16x2816 .f32) (harg9 : arg9.IsWhole) (arg10 : Memref sig .tc .vmem S1024x1024 .bf16) (harg10 : arg10.IsWhole) (arg11 : Memref sig .tc .vmem S1024x2816 .bf16) (harg11 : arg11.IsWhole)
  (x0 : Vec Ideal S1024x1024 .f32) (x1 : Vec Ideal S1x1024 .f32) (x2 : Vec Ideal S11x1024x512 .bf16) (x3 : Vec Ideal S3x2816 .f32) (x4 : Vec Ideal S1x2816 .f32) (x5 : Vec Ideal S2816x1024 .bf16) (x6 : Vec Ideal S1x1024 .f32)

/-- The rows carried on from a point that starts a sequence. -/
theorem hist_A (hc0 : cond0_0 i) (hc1 : cond0_1 i) :
    sout0_A_0 c i arg1 harg1 arg2 harg2 arg3 harg3 arg4 harg4 arg5 harg5 arg6 harg6 arg7 harg7 arg8 harg8 arg9 harg9 arg10 harg10 arg11 harg11 hc0 hc1 x0 x1 x2 x3 x4 x5 x6 = histBlk x0 x1 x2 := by
  unfold sout0_A_0
  rw [View.read_writes_junk_eq_canon]
  unfold kernelRun0_A
  dsimp only
  sl_unfold_run_names
  simp only [View.readAt_eq_ld, harg1.read_unread, harg2.read_unread, harg3.read_unread, View.readCov_unit_zero (S := S1024x1024) _ hz,
    View.ld_unit_zero (S := S1024x1024) hz, View.ld_unit_zero (S := S1x1024) hz]
  exact canon_chunks _ _ _ _ _ _ _ _ (hist0 x0 x1 x2) (hist1 x0 x1 x2) (hist2 x0 x1 x2)

/-- The rows carried on from a point within a sequence. -/
theorem hist_B (hc0 : cond0_0 i) (hc1 : ¬cond0_1 i) (h : Vec Ideal S16x2816 .f32) :
    sout0_B_0 c i arg1 harg1 arg2 harg2 arg3 harg3 arg4 harg4 arg5 harg5 arg6 harg6 arg7 harg7 arg8 harg8 arg9 harg9 arg10 harg10 arg11 harg11 hc0 hc1 x0 x1 x2 x3 x4 x5 x6 h = histBlk x0 x1 x2 := by
  unfold sout0_B_0
  rw [View.read_writes_junk_eq_canon]
  unfold kernelRun0_B
  dsimp only
  sl_unfold_run_names
  simp only [View.readAt_eq_ld, harg1.read_unread, harg2.read_unread, harg3.read_unread, View.readCov_unit_zero (S := S1024x1024) _ hz,
    View.ld_unit_zero (S := S1024x1024) hz, View.ld_unit_zero (S := S1x1024) hz]
  exact canon_chunks _ _ _ _ _ _ _ _ (hist0 x0 x1 x2) (hist1 x0 x1 x2) (hist2 x0 x1 x2)

/-- The block of the result that a point that starts a sequence leaves: its carried rows are zero. -/
theorem out_A (hc0 : cond0_0 i) (hc1 : cond0_1 i) :
    out0_A_7 c i arg1 harg1 arg2 harg2 arg3 harg3 arg4 harg4 arg5 harg5 arg6 harg6 arg7 harg7 arg8 harg8 arg9 harg9 arg10 harg10 arg11 harg11 hc0 hc1 x0 x1 x2 x3 x4 x5 x6 = outBlk (k0_pay2 (F := Ideal)) x0 x1 x2 x3 x4 x5 x6 := by
  unfold out0_A_7
  rw [View.read_writes_junk_eq_canon]
  unfold kernelRun0_A
  dsimp only
  sl_unfold_run_names
  rw [View.canon_unit_zero hz]
  simp only [View.readAt_eq_ld, harg1.read_unread, harg2.read_unread, harg3.read_unread, harg4.read_unread,
    harg5.read_unread, harg6.read_unread, harg7.read_unread, harg9.read_unread]
  simp only [View.readCov_unit_zero (S := S1024x1024) _ hz, View.ld_unit_zero (S := S1024x1024) hz,
    View.ld_unit_zero (S := S1x1024) hz, View.ld_unit_zero (S := S2816x1024) hz]
  simp (disch := first | rfl | decide) only [View.readCov_skip]
  simp only [View.readCov_fill (s := S16x2816) _ _ _ _ _ (fun a => congrFun hz a)]
  rw [View.readCov_eq_canon', canon_chunks (aBlk (k0_pay2 (F := Ideal)) x0 x1 x2 x3 x4) _ _ _ _ _ _ _ (piece0 (k0_pay2 (F := Ideal)) x0 x1 x2 x3 x4)
    (piece1 (k0_pay2 (F := Ideal)) x0 x1 x2 x3 x4) (piece2 (k0_pay2 (F := Ideal)) x0 x1 x2 x3 x4)]
  funext y
  obtain ⟨p, k, rfl⟩ : ∃ p k, y = ix2 (n0 := 1024) (n1 := 1024) p k := ⟨y 0, y 1, eq_ix2 y⟩
  rw [pay1_apply]
  exact congrFun (congrArg (rmsRow · _) (funext fun l => congrArg (_ + ·) (Finset.sum_congr rfl fun j _ =>
    congrArg (· * _) (congrArg (aBlk (k0_pay2 (F := Ideal)) x0 x1 x2 x3 x4) ((emb2 0 (by omega) _ p j).trans
      (congrArg (ix2 p) (Fin.ext (Nat.zero_add _)))))))) k

/-- The block of the result that a point within a sequence leaves. -/
theorem out_B (hc0 : cond0_0 i) (hc1 : ¬cond0_1 i) (h : Vec Ideal S16x2816 .f32) :
    out0_B_7 c i arg1 harg1 arg2 harg2 arg3 harg3 arg4 harg4 arg5 harg5 arg6 harg6 arg7 harg7 arg8 harg8 arg9 harg9 arg10 harg10 arg11 harg11 hc0 hc1 x0 x1 x2 x3 x4 x5 x6 h = outBlk h x0 x1 x2 x3 x4 x5 x6 := by
  unfold out0_B_7
  rw [View.read_writes_junk_eq_canon]
  unfold kernelRun0_B
  dsimp only
  sl_unfold_run_names
  rw [View.canon_unit_zero hz]
  simp only [View.readAt_eq_ld, harg1.read_unread, harg2.read_unread, harg3.read_unread, harg4.read_unread,
    harg5.read_unread, harg6.read_unread, harg7.read_unread, harg9.read_unread]
  simp only [View.readCov_unit_zero (S := S1024x1024) _ hz, View.ld_unit_zero (S := S1024x1024) hz,
    View.ld_unit_zero (S := S1x1024) hz, View.ld_unit_zero (S := S2816x1024) hz]
  rw [View.readCov_eq_canon', canon_chunks (aBlk h x0 x1 x2 x3 x4) _ _ _ _ _ _ _ (piece0 h x0 x1 x2 x3 x4)
    (piece1 h x0 x1 x2 x3 x4) (piece2 h x0 x1 x2 x3 x4)]
  funext y
  obtain ⟨p, k, rfl⟩ : ∃ p k, y = ix2 (n0 := 1024) (n1 := 1024) p k := ⟨y 0, y 1, eq_ix2 y⟩
  rw [pay1_apply]
  exact congrFun (congrArg (rmsRow · _) (funext fun l => congrArg (_ + ·) (Finset.sum_congr rfl fun j _ =>
    congrArg (· * _) (congrArg (aBlk h x0 x1 x2 x3 x4) ((emb2 0 (by omega) _ p j).trans
      (congrArg (ix2 p) (Fin.ext (Nat.zero_add _)))))))) k

end Cert.ConvFfn

end
-- ==== Proof.Layer.lean ====
/- The feed-forward block over whole sequences, on plain numbers, and a tile of rows as a part of it: the tile's result, over
   the 16 rows before it, is the sequence's result at the tile's rows. -/
module

public import proofs.«01_k».proof.Proof.Tile

@[expose] public section

set_option backward.proofsInPublic true

noncomputable section

namespace Cert.ConvFfn

open Cert.KernelIdeal Cert.KernelIdeal.Gen Idealize.ShloMosaic
open scoped BigOperators

section

variable (x : (⟨3, ![8, 4096, 1024]⟩ : Shape).Idx → EReal) (g : (⟨1, ![1024]⟩ : Shape).Idx → EReal)
  (w : (⟨3, ![11, 1024, 512]⟩ : Shape).Idx → EReal) (cw : (⟨2, ![3, 2816]⟩ : Shape).Idx → EReal)
  (cb : (⟨1, ![2816]⟩ : Shape).Idx → EReal) (wd : (⟨2, ![2816, 1024]⟩ : Shape).Idx → EReal)
  (gf : (⟨1, ![1024]⟩ : Shape).Idx → EReal)

/-- Column `j` of the up-projection of the normalised row at position `s` of sequence `b`. -/
def layUp (b : Fin 8) (s : ℕ) (j : ℕ) : EReal :=
  if h : s < 4096 then upRow w (rmsRow (fun l => x (ix3 b ⟨s, h⟩ l)) (fun l => g (ix1 l))) j else 0

/-- The same `d` positions earlier; zero before the sequence starts. -/
def back (b : Fin 8) (s d : ℕ) (j : ℕ) : EReal := if d ≤ s then layUp x g w b (s - d) j else 0

/-- The gated causal convolution at position `s`, channel `c`. -/
def layAct (b : Fin 8) (s : ℕ) (c : Fin 2816) : EReal :=
  gate (conv (cb (ix1 c)) (cw (ix2 0 c)) (cw (ix2 1 c)) (cw (ix2 2 c)) (back x g w b s 2 c.val) (back x g w b s 1 c.val)
    (layUp x g w b s c.val)) (layUp x g w b s (2816 + c.val))

/-- The row after the block: the input row plus the down-projection. -/
def layRow (b : Fin 8) (s : Fin 4096) (l : Fin 1024) : EReal :=
  x (ix3 b s l) + ∑ j, layAct x g w cw cb b s.val j * wd (ix2 j l)

/-- The result: that row, normalised once more. -/
def layOut (b : Fin 8) (s : Fin 4096) (k : Fin 1024) : EReal :=
  rmsRow (layRow x g w cw cb wd b s) (fun l => gf (ix1 l)) k

variable (b : Fin 8) (q : ℕ) (hq : q < 4) (xt : Vec Ideal S1024x1024 .f32) (gt : Vec Ideal S1x1024 .f32)
  (wt : Vec Ideal S11x1024x512 .bf16) (cwt : Vec Ideal S3x2816 .f32) (cbt : Vec Ideal S1x2816 .f32)
  (wdt : Vec Ideal S2816x1024 .bf16) (gft : Vec Ideal S1x1024 .f32) (hist : Vec Ideal S16x2816 .f32)
  (hx : ∀ (p : Fin 1024) (l : Fin 1024), xt (ix2 p l) = x (ix3 b ⟨1024 * q + p.val, by omega⟩ l))
  (hg : ∀ l : Fin 1024, gt (ix2 0 l) = g (ix1 l)) (hw : wt = w) (hcw : cwt = cw)
  (hcb : ∀ c : Fin 2816, cbt (ix2 0 c) = cb (ix1 c)) (hwd : wdt = wd) (hgf : ∀ l : Fin 1024, gft (ix2 0 l) = gf (ix1 l))
  (hh : ∀ (r : Fin 16) (c : Fin 2816), hist (ix2 r c) = back x g w b (1024 * q + r.val) 16 c.val)

include hx hg hw in
/-- A row of the tile's up-projection is the sequence's. -/
theorem upT_eq (p : Fin 1024) (j : ℕ) : upT xt gt wt p j = layUp x g w b (1024 * q + p.val) j := by
  unfold upT layUp
  rw [dif_pos (by omega), hw]
  simp only [hx, hg]

include hx hg hw in
/-- The rows the tile carries on are the 16 before the next tile. -/
theorem histBlk_eq (r : Fin 16) (c : Fin 2816) :
    histBlk xt gt wt (ix2 r c) = back x g w b (1024 * (q + 1) + r.val) 16 c.val := by
  refine (upT_eq x g w b q hq xt gt wt hx hg hw _ _).trans ?_
  unfold back
  rw [if_pos (by omega)]
  exact congrArg (fun s => layUp x g w b s c.val) (show 1024 * q + (1008 + r.val) = 1024 * (q + 1) + r.val - 16 by omega)

include hx hg hw hh in
/-- The carried rows followed by the tile's: the sequence's rows, from 16 before the tile. -/
theorem rowsAt_tile (p : Fin 1024) (d e : ℕ) (hd : e + d = 16) (h1 : 1 ≤ d) (c : Fin 2816) :
    rowsAt hist (uBlk xt gt wt) (p.val + e) c = back x g w b (1024 * q + p.val) d c.val := by
  unfold rowsAt
  split
  case isTrue hp =>
    rw [hh]
    unfold back
    by_cases h0 : d ≤ 1024 * q + p.val
    · rw [if_pos h0, if_pos (by dsimp only; omega)]
      exact congrArg (fun s => layUp x g w b s c.val) (by dsimp only; omega)
    · rw [if_neg h0, if_neg (by dsimp only; omega)]
  case isFalse hp =>
    rw [dif_pos (by omega)]
    refine (upT_eq x g w b q hq xt gt wt hx hg hw _ _).trans ?_
    unfold back
    rw [if_pos (by omega)]
    exact congrArg (fun s => layUp x g w b s c.val) (show 1024 * q + (p.val + e - 16) = 1024 * q + p.val - d by omega)

include hx hg hw hcw hcb hh in
/-- The tile's gated convolution is the sequence's. -/
theorem aBlk_eq (p : Fin 1024) (c : Fin 2816) :
    aBlk hist xt gt wt cwt cbt (ix2 p c) = layAct x g w cw cb b (1024 * q + p.val) c := by
  show gateAt hist (uBlk xt gt wt) (vBlk xt gt wt) cwt cbt p c = _
  unfold gateAt layAct
  rw [rowsAt_tile x g w b q hq xt gt wt hist hx hg hw hh p 2 14 rfl (by omega) c,
    rowsAt_tile x g w b q hq xt gt wt hist hx hg hw hh p 1 15 rfl (by omega) c, hcb, hcw,
    show uBlk xt gt wt (ix2 p c) = _ from upT_eq x g w b q hq xt gt wt hx hg hw p c.val,
    show vBlk xt gt wt (ix2 p c) = _ from upT_eq x g w b q hq xt gt wt hx hg hw p (2816 + c.val)]

include hx hg hw hcw hcb hwd hgf hh in
/-- The tile's result is the sequence's at the tile's rows. -/
theorem outBlk_eq (p k : Fin 1024) :
    outBlk hist xt gt wt cwt cbt wdt gft (ix2 p k) = layOut x g w cw cb wd gf b ⟨1024 * q + p.val, by omega⟩ k := by
  show rmsRow (fun l => xt (ix2 p l) + ∑ j, aBlk hist xt gt wt cwt cbt (ix2 p j) * wdt (ix2 j l)) (fun l => gft (ix2 0 l)) k = _
  unfold layOut layRow
  simp only [aBlk_eq x g w cw cb b q hq xt gt wt cwt cbt hist hx hg hw hcw hcb hh, hx, hwd, hgf]

end

end Cert.ConvFfn

end
-- ==== Proof.Array.lean ====
/- What the kernel's result array holds: at every row, the feed-forward block's result for the sequence and position the row
   stands for. -/
module

public import proofs.«01_k».proof.Proof.Layer
public import proofs.«01_k».proof.Proof.Gen.KernelIdeal.Value

@[expose] public section

noncomputable section

namespace Cert.ConvFfn

open Cert.KernelIdeal Cert.KernelIdeal.Gen Cert.KernelIdeal.Value Idealize.ShloMosaic Idealize.ShloMosaic.TcCoe Idealize.SL.Sem
open Idealize.ShloMosaic.StableHlo

variable (m : (ℓ : Loc nD τ sig) → Buf (Elt Ideal) ℓ) (c : Dev nD)

/-- The input rows as the call finds them: the sequences laid end to end. -/
theorem V_x : V m c main_v3 = shapeCast S32768x1024 (m ((c : Thread nD τ).loc main_arg0)) shapeCasts_S8x4096x1024_S32768x1024 := by
  show StableHlo.after hostOps0 (fun b => m (c, b)) main_v3 = _
  after_results
  rfl

/-- The norm's scale as the launch finds it: the argument as a row. -/
theorem V_g : V m c main_v1 = shapeCast S1x1024 (m ((c : Thread nD τ).loc main_arg1)) shapeCasts_S1024_S1x1024 := by
  show StableHlo.after hostOps0 (fun b => m (c, b)) main_v1 = _
  after_results
  rfl

/-- The convolution's bias as the launch finds it: the argument as a row. -/
theorem V_cb : V m c main_v0 = shapeCast S1x2816 (m ((c : Thread nD τ).loc main_arg4)) shapeCasts_S2816_S1x2816 := by
  show StableHlo.after hostOps0 (fun b => m (c, b)) main_v0 = _
  after_results
  rfl

/-- The last norm's scale as the launch finds it: the argument as a row. -/
theorem V_gf : V m c main_v2 = shapeCast S1x1024 (m ((c : Thread nD τ).loc main_arg6)) shapeCasts_S1024_S1x1024 := by
  show StableHlo.after hostOps0 (fun b => m (c, b)) main_v2 = _
  after_results
  rfl

/-- The windows' places: the input's moves down by a block a point, the others' stay. -/
theorem idx_in : ∀ t : Fin cfg0.N, win0_0.index t (0 : Fin 2) = t.val ∧ win0_0.index t (1 : Fin 2) = 0 :=
  (by decide +kernel : ∀ t : Fin grid0.N, _)
/-- Every point reads the norm's scale whole. -/
theorem idx_g : ∀ t : Fin cfg0.N, win0_1.index t (0 : Fin 2) = 0 ∧ win0_1.index t (1 : Fin 2) = 0 :=
  (by decide +kernel : ∀ t : Fin grid0.N, _)
/-- Every point reads the up-projection whole. -/
theorem idx_w : ∀ t : Fin cfg0.N, win0_2.index t (0 : Fin 3) = 0 ∧ win0_2.index t (1 : Fin 3) = 0 ∧ win0_2.index t (2 : Fin 3) = 0 :=
  (by decide +kernel : ∀ t : Fin grid0.N, _)
/-- Every point reads the convolution's taps whole. -/
theorem idx_cw : ∀ t : Fin cfg0.N, win0_3.index t (0 : Fin 2) = 0 ∧ win0_3.index t (1 : Fin 2) = 0 :=
  (by decide +kernel : ∀ t : Fin grid0.N, _)
/-- Every point reads the convolution's bias whole. -/
theorem idx_cb : ∀ t : Fin cfg0.N, win0_4.index t (0 : Fin 2) = 0 ∧ win0_4.index t (1 : Fin 2) = 0 :=
  (by decide +kernel : ∀ t : Fin grid0.N, _)
/-- Every point reads the down-projection whole. -/
theorem idx_wd : ∀ t : Fin cfg0.N, win0_5.index t (0 : Fin 2) = 0 ∧ win0_5.index t (1 : Fin 2) = 0 :=
  (by decide +kernel : ∀ t : Fin grid0.N, _)
/-- Every point reads the last norm's scale whole. -/
theorem idx_gf : ∀ t : Fin cfg0.N, win0_6.index t (0 : Fin 2) = 0 ∧ win0_6.index t (1 : Fin 2) = 0 :=
  (by decide +kernel : ∀ t : Fin grid0.N, _)

/-- Row `p` of point `t`'s input block is the row at position `1024 (t mod 4) + p` of sequence `t / 4`. -/
theorem iblk_x (t : Fin cfg0.N) (p l : Fin 1024) : iblk m c 0 t (ix2 p l)
    = m ((c : Thread nD τ).loc main_arg0) (ix3 (n0 := 8) (n1 := 4096) ⟨t.val / 4, by have := lt_of_lt_of_eq t.isLt N_0; omega⟩
        ⟨1024 * (t.val % 4) + p.val, by omega⟩ l) := by
  unfold iblk
  rw [View.read_apply]
  show V m c main_v3 _ = _
  rw [V_x]
  refine shapeCast_apply _ _ _ _ ?_
  refine (rowMajor_val3 _ 4194304 1024 rfl rfl).trans (Eq.trans ?_ (rowMajor_val2 _ 1024 rfl).symm)
  show t.val / 4 * 4194304 + (1024 * (t.val % 4) + p.val) * 1024 + l.val
    = (win0_0.index t 0 * 1024 + 1 * p.val) * 1024 + (win0_0.index t 1 * 1024 + 1 * l.val)
  rw [(idx_in t).1, (idx_in t).2]
  omega

/-- The row scale's block is the argument laid as a row. -/
theorem iblk_g (t : Fin cfg0.N) (l : Fin 1024) : iblk m c 1 t (ix2 0 l) = m ((c : Thread nD τ).loc main_arg1) (ix1 l) := by
  unfold iblk
  rw [View.read_apply]
  show V m c main_v1 _ = _
  rw [V_g]
  refine shapeCast_apply _ _ _ _ ?_
  refine (rowMajor_val1 _).trans (Eq.trans ?_ (rowMajor_val2 _ 1024 rfl).symm)
  show l.val = (win0_1.index t 0 * 1 + 1 * 0) * 1024 + (win0_1.index t 1 * 1024 + 1 * l.val)
  rw [(idx_g t).1, (idx_g t).2]
  omega

/-- The bias's block is the argument laid as a row. -/
theorem iblk_cb (t : Fin cfg0.N) (l : Fin 2816) : iblk m c 4 t (ix2 0 l) = m ((c : Thread nD τ).loc main_arg4) (ix1 l) := by
  unfold iblk
  rw [View.read_apply]
  show V m c main_v0 _ = _
  rw [V_cb]
  refine shapeCast_apply _ _ _ _ ?_
  refine (rowMajor_val1 _).trans (Eq.trans ?_ (rowMajor_val2 _ 2816 rfl).symm)
  show l.val = (win0_4.index t 0 * 1 + 1 * 0) * 2816 + (win0_4.index t 1 * 2816 + 1 * l.val)
  rw [(idx_cb t).1, (idx_cb t).2]
  omega

/-- The last norm's scale, likewise. -/
theorem iblk_gf (t : Fin cfg0.N) (l : Fin 1024) : iblk m c 6 t (ix2 0 l) = m ((c : Thread nD τ).loc main_arg6) (ix1 l) := by
  unfold iblk
  rw [View.read_apply]
  show V m c main_v2 _ = _
  rw [V_gf]
  refine shapeCast_apply _ _ _ _ ?_
  refine (rowMajor_val1 _).trans (Eq.trans ?_ (rowMajor_val2 _ 1024 rfl).symm)
  show l.val = (win0_6.index t 0 * 1 + 1 * 0) * 1024 + (win0_6.index t 1 * 1024 + 1 * l.val)
  rw [(idx_gf t).1, (idx_gf t).2]
  omega

/-- The up-projection's weights are staged whole. -/
theorem iblk_w (t : Fin cfg0.N) : iblk m c 2 t = m ((c : Thread nD τ).loc main_arg2) := by
  funext y
  unfold iblk
  rw [View.read_apply]
  show V m c main_arg2 _ = _
  rw [V_main_arg2]
  congr 1
  obtain ⟨h0, h1, h2⟩ := idx_w t
  funext a
  apply Fin.ext
  match a with
  | ⟨0, _⟩ => show win0_2.index t 0 * 11 + 1 * (y 0).val = (y 0).val; rw [h0]; omega
  | ⟨1, _⟩ => show win0_2.index t 1 * 1024 + 1 * (y 1).val = (y 1).val; rw [h1]; omega
  | ⟨2, _⟩ => show win0_2.index t 2 * 512 + 1 * (y 2).val = (y 2).val; rw [h2]; omega

/-- The taps are staged whole. -/
theorem iblk_cw (t : Fin cfg0.N) : iblk m c 3 t = m ((c : Thread nD τ).loc main_arg3) := by
  funext y
  unfold iblk
  rw [View.read_apply]
  show V m c main_arg3 _ = _
  rw [V_main_arg3]
  congr 1
  obtain ⟨h0, h1⟩ := idx_cw t
  funext a
  apply Fin.ext
  match a with
  | ⟨0, _⟩ => show win0_3.index t 0 * 3 + 1 * (y 0).val = (y 0).val; rw [h0]; omega
  | ⟨1, _⟩ => show win0_3.index t 1 * 2816 + 1 * (y 1).val = (y 1).val; rw [h1]; omega

/-- The down-projection's weights are staged whole. -/
theorem iblk_wd (t : Fin cfg0.N) : iblk m c 5 t = m ((c : Thread nD τ).loc main_arg5) := by
  funext y
  unfold iblk
  rw [View.read_apply]
  show V m c main_arg5 _ = _
  rw [V_main_arg5]
  congr 1
  obtain ⟨h0, h1⟩ := idx_wd t
  funext a
  apply Fin.ext
  match a with
  | ⟨0, _⟩ => show win0_5.index t 0 * 2816 + 1 * (y 0).val = (y 0).val; rw [h0]; omega
  | ⟨1, _⟩ => show win0_5.index t 1 * 1024 + 1 * (y 1).val = (y 1).val; rw [h1]; omega

/-- The rows every point carries on: the last 16 of its own up-projection. -/
theorem carried (t : Fin cfg0.N) : (outsAt0 m c t.val t.isLt).2 = histBlk (iblk m c 0 t) (iblk m c 1 t) (iblk m c 2 t) := by
  by_cases h : t.val % 4 = 0
  · rw [outsAt0_A m c t h]
    dsimp only
    rw [hist_A]
  · rw [outsAt0_B m c t h]
    dsimp only
    rw [hist_B]

/-- The block every point leaves, at a row and a column: the result at the position the row stands for. -/
theorem block (t : Fin cfg0.N) (p k : Fin 1024) : (outsAt0 m c t.val t.isLt).1 (ix2 p k)
    = layOut (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) ⟨t.val / 4, by have := lt_of_lt_of_eq t.isLt N_0; omega⟩
      ⟨1024 * (t.val % 4) + p.val, by omega⟩ k := by
  have hN : cfg0.N = 32 := N_0
  by_cases h : t.val % 4 = 0
  · rw [outsAt0_A m c t h]
    dsimp only
    rw [out_A]
    refine (outBlk_eq _ _ _ _ _ _ _ _ (t.val % 4) (by omega) _ _ _ _ _ _ _ _ (iblk_x m c t)
      (iblk_g m c t) (iblk_w m c t) (iblk_cw m c t) (iblk_cb m c t) (iblk_wd m c t) (iblk_gf m c t) ?_ p k)
    intro r j
    unfold back
    rw [if_neg (by omega)]
    exact Ideal.ofBits_zero_f32
  · rw [outsAt0_B m c t h]
    dsimp only
    rw [out_B]
    refine (outBlk_eq _ _ _ _ _ _ _ _ (t.val % 4) (by omega) _ _ _ _ _ _ _ _ (iblk_x m c t)
      (iblk_g m c t) (iblk_w m c t) (iblk_cw m c t) (iblk_cb m c t) (iblk_wd m c t) (iblk_gf m c t) ?_ p k)
    intro r j
    have ht := t.isLt
    refine (congrFun (carried m c ⟨t.val - 1, by omega⟩) _).trans ?_
    have e1 : (t.val - 1) % 4 + 1 = t.val % 4 := by omega
    have e2 : (t.val - 1) / 4 = t.val / 4 := by omega
    refine (histBlk_eq _ _ _ _ ((t.val - 1) % 4) (by omega) _ _ _ (iblk_x m c ⟨t.val - 1, by omega⟩)
      (iblk_g m c _) (iblk_w m c _) r j).trans ?_
    simp only [e1, e2]

/-- The whole array: row `R` is position `R mod 4096` of sequence `R / 4096`. -/
def wholeOut : S32768x1024.Idx → EReal := fun i =>
  layOut (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) ⟨(i 0).val / 4096, by have : (i 0).val < 32768 := (i 0).isLt; omega⟩
      ⟨(i 0).val % 4096, by omega⟩ (i 1)

/-- The result array after the run. -/
theorem G7_eq : G7 m c = wholeOut m c := by
  rw [← final7]
  refine (dats m 0 c).arrAt_eq_of_cover 7 (wholeOut m c) (fun t _ => ?_) (fun i => (covered_iff7 i).2 ⟨Nat.zero_le _, (i 0).isLt,
    Nat.zero_le _, (i 1).isLt⟩)
  rw [flushed7]
  funext y
  obtain ⟨p, k, rfl⟩ : ∃ p k, y = ix2 (n0 := 1024) (n1 := 1024) p k := ⟨y 0, y 1, eq_ix2 y⟩
  refine (block m c t p k).trans ?_
  rw [View.read_apply]
  obtain ⟨e0, e1, e2, e3, e4⟩ := idx_facts7 t
  have f0 : (((cfg0.win 7).blk t).view.emb (ix2 p k) 0).val = win0_7.index t (0 : Fin 2) * 1024 + 1 * p.val := rfl
  have f1 : (((cfg0.win 7).blk t).view.emb (ix2 p k) 1).val = win0_7.index t (1 : Fin 2) * 1024 + 1 * k.val := rfl
  unfold wholeOut
  congr 1 <;> apply Fin.ext
  · show t.val / 4 = (((cfg0.win 7).blk t).view.emb (ix2 p k) 0).val / 4096
    omega
  · show 1024 * (t.val % 4) + p.val = (((cfg0.win 7).blk t).view.emb (ix2 p k) 0).val % 4096
    omega
  · show k.val = (((cfg0.win 7).blk t).view.emb (ix2 p k) 1).val
    omega

end Cert.ConvFfn

end
-- ==== Proof.Ref.lean ====
/- What the reference computes, a step at a time: the normalised rows, the up-projection, the padded columns, the convolution,
   the gate, the down-projection, each read at an index. -/
module

public import proofs.«01_k».proof.Proof.Layer
public import proofs.«01_k».proof.Proof.Gen.ReferenceIdeal.Run

@[expose] public section

noncomputable section

namespace Cert.ConvFfn

open Idealize.ShloMosaic Idealize.ShloMosaic.TcCoe Cert.ReferenceIdeal Cert.ReferenceIdeal.Gen Cert.ReferenceIdeal.Value
open scoped BigOperators

/-- The root-mean-square normalisation of every row. -/
def rNorm (X : FVec Ideal S8x4096x1024 .f32) (g : FVec Ideal S1024 .f32) : FVec Ideal S8x4096x1024 .f32 :=
  mulf (mulf X (broadcastInDim S8x4096x1024 ![0, 1, 2] bcast_S8x4096x1_S8x4096x1024_0_1_2 (Host.rsqrt (addf (Host.divf
    (broadcastInDim S8x4096x1 ![0, 1] bcast_S8x4096_S8x4096x1_0_1
      (Host.reduceAdd (mulf X X) (constant S_ .f32 0x00000000#32) reducesTo_S8x4096x1024_S8x4096_d2 h_S_))
    (broadcastInDim S8x4096x1 ![] bcast_S_S8x4096x1 (constant S_ .f32 0x44800000#32)))
    (broadcastInDim S8x4096x1 ![] bcast_S_S8x4096x1 (constant S_ .f32 0x358637BD#32))))))
    (broadcastInDim S8x4096x1024 ![0, 1, 2] bcast_S1x1x1024_S8x4096x1024_0_1_2
      (broadcastInDim S1x1x1024 ![2] bcast_S1024_S1x1x1024_2 g))

/-- An entry of the reference's row norm. -/
theorem rNorm_apply (X : FVec Ideal S8x4096x1024 .f32) (g : FVec Ideal S1024 .f32) (b : Fin 8) (s : Fin 4096) (k : Fin 1024) :
    rNorm X g (ix3 b s k) = rmsRow (fun l => X (ix3 b s l)) (fun l => g (ix1 l)) k := by
  unfold rNorm rmsRow
  pointwise

/-- The up-projection's weights, the chunks of columns side by side. -/
def rW (w : FVec Ideal S11x1024x512 .bf16) : FVec Ideal S1024x5632 .f32 :=
  shapeCast _ (transpose S1024x11x512 [1, 0, 2] (extf .f32 w bitsLt_bf16_f32) transposes_S11x1024x512_S1024x11x512_1_0_2)
    shapeCasts_S1024x11x512_S1024x5632

/-- An entry of the reference's up-projection matrix, its chunks side by side. -/
theorem rW_apply (w : FVec Ideal S11x1024x512 .bf16) (k : Fin 1024) (j : Fin 5632) : rW w (ix2 k j) = wAt w k j.val := by
  unfold rW
  pointwise
  exact wAt_chunk w k j.val _ _ (by dsimp only; omega)

/-- The up-projection. -/
def rUp (H : FVec Ideal S8x4096x1024 .f32) (W : FVec Ideal S1024x5632 .f32) : FVec Ideal S8x4096x5632 .f32 :=
  Host.dotGeneral dot_S8x4096x1024_S1024x5632_S8x4096x5632_2_0_01_1_n_n none H W

/-- An entry of the reference's up-projection. -/
theorem rUp_apply (H : FVec Ideal S8x4096x1024 .f32) (W : FVec Ideal S1024x5632 .f32) (b : Fin 8) (s : Fin 4096) (j : Fin 5632) :
    rUp H W (ix3 b s j) = ∑ k, H (ix3 b s k) * W (ix2 k j) := by
  unfold rUp
  pointwise

/-- The convolved half of the columns, two rows of zeros put before every sequence. -/
def rPad (U : FVec Ideal S8x4096x5632 .f32) : FVec Ideal S8x4098x2816 .f32 :=
  pad S8x4098x2816 ![0, 2, 0] ![0, 0, 0] ![0, 0, 0] (extractStridedSlice S8x4096x2816 ![0, 0, 0] U slices_S8x4096x5632_S8x4096x2816_0_0_0)
    (sitofp (F := Ideal) .f32 (constantI S_ 32 0#32)) pads_S8x4096x2816_S8x4098x2816_000_200_000 h_S_

/-- An entry of the padded rows: zero in the first two, then the row two before. -/
theorem rPad_apply (U : FVec Ideal S8x4096x5632 .f32) (b : Fin 8) (s : Fin 4098) (j : Fin 2816) :
    rPad U (ix3 b s j) = if h : 2 ≤ s.val then U (ix3 b ⟨s.val - 2, by omega⟩ ⟨j.val, by omega⟩) else 0 := by
  unfold rPad
  pointwise
  by_cases h : 2 ≤ s.val
  · rw [dif_pos ⟨h, by omega⟩, dif_pos h]
  · rw [dif_neg (fun h' => h h'.1), dif_neg h]
    simp [FloatOps.sitofp]

/-- The three-tap convolution over the padded rows. -/
def rConv (P : FVec Ideal S8x4098x2816 .f32) (cw : FVec Ideal S3x2816 .f32) (cb : FVec Ideal S2816 .f32) : FVec Ideal S8x4096x2816 .f32 :=
  addf (addf (addf (broadcastInDim S8x4096x2816 ![0, 1, 2] bcast_S1x1x2816_S8x4096x2816_0_1_2 (broadcastInDim S1x1x2816 ![2] bcast_S2816_S1x1x2816_2 cb))
    (mulf (extractStridedSlice S8x4096x2816 ![0, 0, 0] P slices_S8x4098x2816_S8x4096x2816_0_0_0) (broadcastInDim S8x4096x2816 ![0, 1, 2] bcast_S1x1x2816_S8x4096x2816_0_1_2 (broadcastInDim S1x1x2816 ![2] bcast_S2816_S1x1x2816_2 (shapeCast _ (extractStridedSlice S1x2816 ![0, 0] cw slices_S3x2816_S1x2816_0_0) shapeCasts_S1x2816_S2816)))))
    (mulf (extractStridedSlice S8x4096x2816 ![0, 1, 0] P slices_S8x4098x2816_S8x4096x2816_0_1_0) (broadcastInDim S8x4096x2816 ![0, 1, 2] bcast_S1x1x2816_S8x4096x2816_0_1_2 (broadcastInDim S1x1x2816 ![2] bcast_S2816_S1x1x2816_2 (shapeCast _ (extractStridedSlice S1x2816 ![1, 0] cw slices_S3x2816_S1x2816_1_0) shapeCasts_S1x2816_S2816)))))
    (mulf (extractStridedSlice S8x4096x2816 ![0, 2, 0] P slices_S8x4098x2816_S8x4096x2816_0_2_0) (broadcastInDim S8x4096x2816 ![0, 1, 2] bcast_S1x1x2816_S8x4096x2816_0_1_2 (broadcastInDim S1x1x2816 ![2] bcast_S2816_S1x1x2816_2 (shapeCast _ (extractStridedSlice S1x2816 ![2, 0] cw slices_S3x2816_S1x2816_2_0) shapeCasts_S1x2816_S2816))))

/-- An entry of the reference's convolution: three taps and the bias. -/
theorem rConv_apply (P : FVec Ideal S8x4098x2816 .f32) (cw : FVec Ideal S3x2816 .f32) (cb : FVec Ideal S2816 .f32) (b : Fin 8)
    (s : Fin 4096) (j : Fin 2816) : rConv P cw cb (ix3 b s j)
      = conv (cb (ix1 j)) (cw (ix2 0 j)) (cw (ix2 1 j)) (cw (ix2 2 j)) (P (ix3 b ⟨s.val, by omega⟩ j)) (P (ix3 b ⟨1 + s.val, by omega⟩ j))
        (P (ix3 b ⟨2 + s.val, by omega⟩ j)) := by
  unfold rConv conv
  pointwise
  simp only [mul_comm]

/-- The gate. -/
def rAct (C : FVec Ideal S8x4096x2816 .f32) (U : FVec Ideal S8x4096x5632 .f32) : FVec Ideal S8x4096x2816 .f32 :=
  mulf (mulf (mulf (broadcastInDim S8x4096x2816 ![] bcast_S_S8x4096x2816 (constant S_ .f32 0x3F000000#32)) C)
    (Host.erfc (mulf (Host.negf C) (broadcastInDim S8x4096x2816 ![] bcast_S_S8x4096x2816 (constant S_ .f32 0x3F3504F3#32)))))
    (extractStridedSlice S8x4096x2816 ![0, 0, 2816] U slices_S8x4096x5632_S8x4096x2816_0_0_2816)

/-- An entry of the reference's gated columns. -/
theorem rAct_apply (C : FVec Ideal S8x4096x2816 .f32) (U : FVec Ideal S8x4096x5632 .f32) (b : Fin 8) (s : Fin 4096) (j : Fin 2816) :
    rAct C U (ix3 b s j) = gate (C (ix3 b s j)) (U (ix3 b s ⟨2816 + j.val, by omega⟩)) := by
  unfold rAct gate
  pointwise
  rw [EReal.neg_mul, Ideal.erfc_neg]

/-- The input row plus the down-projection. -/
def rRow (X : FVec Ideal S8x4096x1024 .f32) (A : FVec Ideal S8x4096x2816 .f32) (wd : FVec Ideal S2816x1024 .bf16) :
    FVec Ideal S8x4096x1024 .f32 :=
  addf X (Host.dotGeneral dot_S8x4096x2816_S2816x1024_S8x4096x1024_2_0_01_1_n_n none A (extf .f32 wd bitsLt_bf16_f32))

/-- An entry of the reference's row before the last norm. -/
theorem rRow_apply (X : FVec Ideal S8x4096x1024 .f32) (A : FVec Ideal S8x4096x2816 .f32) (wd : FVec Ideal S2816x1024 .bf16)
    (b : Fin 8) (s : Fin 4096) (l : Fin 1024) :
    rRow X A wd (ix3 b s l) = X (ix3 b s l) + ∑ j, A (ix3 b s j) * wd (ix2 j l) := by
  unfold rRow
  pointwise

/-- The up-projected columns of a position are the layer's. -/
theorem up_apply (X : FVec Ideal S8x4096x1024 .f32) (g : FVec Ideal S1024 .f32) (w : FVec Ideal S11x1024x512 .bf16) (b : Fin 8)
    (s : Fin 4096) (j : Fin 5632) : rUp (rNorm X g) (rW w) (ix3 b s j) = layUp X g w b s.val j.val := by
  rw [rUp_apply]
  unfold layUp upRow
  rw [dif_pos s.isLt]
  simp only [rNorm_apply, rW_apply]

/-- A padded row is the layer's, so many positions back. -/
theorem pad_apply (X : FVec Ideal S8x4096x1024 .f32) (g : FVec Ideal S1024 .f32) (w : FVec Ideal S11x1024x512 .bf16) (b : Fin 8)
    (s : Fin 4096) (q : Fin 4098) (d : ℕ) (hq : q.val + d = s.val + 2) (hd : d ≤ 2) (j : Fin 2816) :
    rPad (rUp (rNorm X g) (rW w)) (ix3 b q j) = back X g w b s.val d j.val := by
  rw [rPad_apply]
  unfold back
  by_cases h : 2 ≤ q.val
  · rw [dif_pos h, if_pos (by omega), up_apply]
    exact congrArg (fun s => layUp X g w b s j.val) (by dsimp only; omega)
  · rw [dif_neg h, if_neg (by omega)]

/-- The gated convolution. -/
theorem act_apply (X : FVec Ideal S8x4096x1024 .f32) (g : FVec Ideal S1024 .f32) (w : FVec Ideal S11x1024x512 .bf16)
    (cw : FVec Ideal S3x2816 .f32) (cb : FVec Ideal S2816 .f32) (b : Fin 8) (s : Fin 4096) (j : Fin 2816) :
    rAct (rConv (rPad (rUp (rNorm X g) (rW w))) cw cb) (rUp (rNorm X g) (rW w)) (ix3 b s j) = layAct X g w cw cb b s.val j := by
  rw [rAct_apply, rConv_apply, up_apply, pad_apply X g w b s _ 2 rfl (by omega),
    pad_apply X g w b s _ 1 (by dsimp only; omega) (by omega), pad_apply X g w b s _ 0 (by dsimp only; omega) (by omega)]
  rfl

/-- The reference's result, read at the row of sequence `b`, position `s`. -/
theorem ref_apply (m : (ℓ : Loc nD τ sig) → Buf (Elt Ideal) ℓ) (c : Dev nD) (b : Fin 8) (s : Fin 4096) (R : Fin 32768)
    (hR : R.val = 4096 * b.val + s.val) (k : Fin 1024) : res_out0 m c (ix2 R k)
    = layOut (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) b s k := by
  have e : res_out0 m c = shapeCast S32768x1024 (rNorm (rRow (m ((c : Thread nD τ).loc main_arg0))
      (rAct (rConv (rPad (rUp (rNorm (m ((c : Thread nD τ).loc main_arg0)) (m ((c : Thread nD τ).loc main_arg1)))
        (rW (m ((c : Thread nD τ).loc main_arg2))))) (m ((c : Thread nD τ).loc main_arg3)) (m ((c : Thread nD τ).loc main_arg4)))
        (rUp (rNorm (m ((c : Thread nD τ).loc main_arg0)) (m ((c : Thread nD τ).loc main_arg1)))
        (rW (m ((c : Thread nD τ).loc main_arg2))))) (m ((c : Thread nD τ).loc main_arg5))) (m ((c : Thread nD τ).loc main_arg6)))
      shapeCasts_S8x4096x1024_S32768x1024 := rfl
  rw [e]
  refine (shapeCast_apply _ _ (ix2 R k) (ix3 b s k) ?_).trans ?_
  · refine (rowMajor_val3 _ 4194304 1024 rfl rfl).trans (Eq.trans ?_ (rowMajor_val2 _ 1024 rfl).symm)
    show b.val * 4194304 + s.val * 1024 + k.val = R.val * 1024 + k.val
    omega
  rw [rNorm_apply]
  unfold layOut layRow
  simp only [rRow_apply, act_apply]

end Cert.ConvFfn

end
-- ==== Proof.Equal.lean ====
/- The equation: on equal arguments the reference's result is what the kernel's result array ends holding. -/
module

public import proofs.«01_k».proof.Proof.Array
public import proofs.«01_k».proof.Proof.Ref

@[expose] public section

noncomputable section

namespace Cert.ConvFfn

open Idealize.ShloMosaic Idealize.ShloMosaic.TcCoe

/-- The reference's result and the kernel's, on memories that agree on the seven arguments. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6)) :
    Cert.ReferenceIdeal.Value.res_out0 m' c = Cert.KernelIdeal.Value.G7 m c := by
  rw [G7_eq]
  funext i
  obtain ⟨R, k, rfl⟩ : ∃ R k, i = ix2 (n0 := 32768) (n1 := 1024) R k := ⟨i 0, i 1, eq_ix2 i⟩
  refine (ref_apply m' c ⟨R.val / 4096, by omega⟩ ⟨R.val % 4096, by omega⟩ R (by dsimp only; omega) k).trans ?_
  rw [e0, e1, e2, e3, e4, e5, e6]
  rfl

end Cert.ConvFfn

end
-- ==== Proof.GlaProgram.lean ====
/- The body of one tile of the gated linear attention, written with its loops: the printed body is this text unrolled. -/
module

public import proofs.«01_k».proof.Proof.Gen.GlaIdeal

@[expose] public section

noncomputable section

namespace Cert.GlaTile

open Idealize.ShloMosaic Idealize.ShloMosaic.TcCoe Idealize.SL.Sem
open Cert.GlaIdeal Cert.GlaIdeal.Facts₀ Cert.GlaIdeal.Facts

/-- The shapes of the body's twenty-three operands. -/
def shp : Fin 23 → Shape
  | 0 => S1024x1024 | 1 => S1x1024 | 2 => S1x1024x512 | 3 => S1024x128 | 4 => S128x512 | 5 => S1x512 | 6 => S1x1024
  | 7 => S1x256x1024 | 8 => S1x1024x512 | 9 => S1x256x1024 | 10 => S1024x1024 | 11 => S1x1024x512 | 12 => S256x1024
  | 13 => S6x1024x512 | 14 => S1024x1024 | 15 => S4x128x256 | 16 => S1024x1024 | 17 => S1024x512 | 18 => S1024x512
  | 19 => S1024x1024 | 20 => S1024x512 | 21 => S1024x1024 | _ => S1024x1024

/-- Their element types. -/
def ety : Fin 23 → EltTy
  | 0 => .f32 | 1 => .f32 | 2 => .f32 | 3 => .bf16 | 4 => .bf16 | 5 => .f32 | 6 => .f32
  | 7 => .f32 | 8 => .f32 | 9 => .f32 | 10 => .f32 | 11 => .bf16 | 12 => .bf16
  | 13 => .bf16 | 14 => .bf16 | 15 => .f32 | 16 => .bf16 | 17 => .f32 | 18 => .f32
  | 19 => .bf16 | 20 => .f32 | 21 => .f32 | _ => .bf16

variable {F : FTy → Type} [FloatOps F]

/-! ## The values -/

/-- A block of rows divided by its root mean square and scaled. -/
def normed (x : Vec F S256x1024 .f32) (g : Vec F S1x1024 .f32) : FVec F S256x1024 .bf16 :=
  let x' : FVec F S256x1024 .f32 := shapeCast S256x1024 x shapeCasts_S256x1024_S256x1024
  let g' : FVec F S1x1024 .f32 := shapeCast S1x1024 g shapeCasts_S1x1024_S1x1024
  let s : FVec F S256 .f32 := multiReduction .add [1] S256 (mulf x' x') 0x00000000#32 reduces_S256x1024_S256 (.inl rfl) rfl
  let s' : FVec F S256x1 .f32 := shapeCast S256x1 s shapeCasts_S256_S256x1
  let n : FVec F S256x1 .f32 := broadcast S256x1 (Scalar.ofBits .f32 0x44800000#32)
  let e : FVec F S256x1 .f32 := broadcast S256x1 (Scalar.ofBits .f32 0x358637BD#32)
  let r : FVec F S256x1 .f32 := rsqrt (addf (divf s' n) e)
  let y : FVec F S256x1024 .f32 := mulf x' (broadcastTo S256x1024 r broadcasts_S256x1_S256x1024)
  let z : FVec F S256x1024 .f32 := mulf y (broadcastTo S256x1024 g' broadcasts_S1x1024_S256x1024)
  shapeCast S256x1024 (truncf .bf16 z bitsLt_bf16_f32) shapeCasts_S256x1024_S256x1024

/-- The gate's argument, through its two small matrices and the bias. -/
def gateArg (h : Vec F S256x1024 .bf16) (wl : Vec F S1024x128 .bf16) (w2 : Vec F S128x512 .bf16) (b : Vec F S1x512 .f32) :
    FVec F S256x512 .f32 :=
  let wl' : FVec F S1024x128 .bf16 := shapeCast S1024x128 wl shapeCasts_S1024x128_S1024x128
  let w2' : FVec F S128x512 .bf16 := shapeCast S128x512 w2 shapeCasts_S128x512_S128x512
  let a : FVec F S256x128 .f32 := matmul dot_S256x1024_S1024x128_S256x128_1_0_0_1_n_n none h wl' (constant S256x128 .f32 0x00000000#32)
  let d : FVec F S256x512 .f32 :=
    matmul dot_S256x128_S128x512_S256x512_1_0_0_1_n_n none (truncf .bf16 a bitsLt_bf16_f32) w2' (constant S256x512 .f32 0x00000000#32)
  let b' : FVec F S1x512 .f32 := shapeCast S1x512 b shapeCasts_S1x512_S1x512
  addf d (broadcastTo S256x512 b' broadcasts_S1x512_S256x512)

/-- The gate: the logarithm of the logistic function, over sixteen. -/
def gate (z : FVec F S256x512 .f32) : FVec F S256x512 .f32 :=
  let m : FVec F S256x512 .f32 := minimumf z (broadcast S256x512 (Scalar.ofBits .f32 0x00000000#32))
  let a : FVec F S256x512 .f32 := exp (subf (broadcast S256x512 (Scalar.ofBits .f32 0x00000000#32)) (absf z))
  let l : FVec F S256x512 .f32 := log (addf (broadcast S256x512 (Scalar.ofBits .f32 0x3F800000#32)) a)
  shapeCast S256x512 (mulf (subf m l) (broadcast S256x512 (Scalar.ofBits .f32 0x3D800000#32))) shapeCasts_S256x512_S256x512

/-- A block of rows through one slice of the stacked weights. -/
def proj (h : Vec F S256x1024 .bf16) (w : Vec F S1x1024x512 .bf16) : FVec F S256x512 .f32 :=
  let w' : FVec F S1024x512 .bf16 := shapeCast S1024x512 w shapeCasts_S1x1024x512_S1024x512
  matmul dot_S256x1024_S1024x512_S256x512_1_0_0_1_n_n none h w' (constant S256x512 .f32 0x00000000#32)

/-- The scaled queries. -/
def queries (h : Vec F S256x1024 .bf16) (w : Vec F S1x1024x512 .bf16) : FVec F S256x512 .f32 :=
  shapeCast S256x512 (mulf (proj h w) (broadcast S256x512 (Scalar.ofBits .f32 0x3DB504F3#32))) shapeCasts_S256x512_S256x512

/-- The keys. -/
def keys (h : Vec F S256x1024 .bf16) (w : Vec F S1x1024x512 .bf16) : FVec F S256x512 .f32 :=
  shapeCast S256x512 (proj h w) shapeCasts_S256x512_S256x512

/-- Half of the values. -/
def vals (h : Vec F S256x1024 .bf16) (w : Vec F S1x1024x512 .bf16) : FVec F S256x512 .bf16 :=
  shapeCast S256x512 (truncf .bf16 (proj h w) bitsLt_bf16_f32) shapeCasts_S256x512_S256x512

/-- Half of the output gate, with the norm's scale. -/
def outGate (h : Vec F S256x1024 .bf16) (w : Vec F S1x1024x512 .bf16) (g : Vec F S1x512 .f32) : FVec F S256x512 .f32 :=
  let p : FVec F S256x512 .f32 := proj h w
  let g' : FVec F S1x512 .f32 := shapeCast S1x512 g shapeCasts_S1x512_S1x512
  shapeCast S256x512 (mulf (mulf p (logistic p)) (broadcastTo S256x512 g' broadcasts_S1x512_S256x512)) shapeCasts_S256x512_S256x512

/-- Running sums down the sixty-four rows of a chunk, by shifts of 1, 2, 4, …, 32 rows. -/
def sums (g : Vec F S64x512 .f32) : FVec F S64x512 .f32 :=
  let z : FVec F S1x512 .f32 := broadcast S1x512 (Scalar.ofBits .f32 0x00000000#32)
  let a0 : FVec F S64x512 .f32 := addf g (broadcastTo S64x512 z broadcasts_S1x512_S64x512)
  let a1 : FVec F S64x512 .f32 := addf a0 (concatenate S64x512 0
    [⟨S1x512, (broadcast S1x512 (Scalar.ofBits .f32 0x00000000#32) : FVec F S1x512 .f32)⟩,
      ⟨S63x512, (extractStridedSlice S63x512 ![0, 0] a0 slices_S64x512_o0_0_S63x512 : FVec F S63x512 .f32)⟩] concatenates_S1x512_S63x512_S64x512_d0)
  let a2 : FVec F S64x512 .f32 := addf a1 (concatenate S64x512 0
    [⟨S2x512, (broadcast S2x512 (Scalar.ofBits .f32 0x00000000#32) : FVec F S2x512 .f32)⟩,
      ⟨S62x512, (extractStridedSlice S62x512 ![0, 0] a1 slices_S64x512_o0_0_S62x512 : FVec F S62x512 .f32)⟩] concatenates_S2x512_S62x512_S64x512_d0)
  let a3 : FVec F S64x512 .f32 := addf a2 (concatenate S64x512 0
    [⟨S4x512, (broadcast S4x512 (Scalar.ofBits .f32 0x00000000#32) : FVec F S4x512 .f32)⟩,
      ⟨S60x512, (extractStridedSlice S60x512 ![0, 0] a2 slices_S64x512_o0_0_S60x512 : FVec F S60x512 .f32)⟩] concatenates_S4x512_S60x512_S64x512_d0)
  let a4 : FVec F S64x512 .f32 := addf a3 (concatenate S64x512 0
    [⟨S8x512, (broadcast S8x512 (Scalar.ofBits .f32 0x00000000#32) : FVec F S8x512 .f32)⟩,
      ⟨S56x512, (extractStridedSlice S56x512 ![0, 0] a3 slices_S64x512_o0_0_S56x512 : FVec F S56x512 .f32)⟩] concatenates_S8x512_S56x512_S64x512_d0)
  let a5 : FVec F S64x512 .f32 := addf a4 (concatenate S64x512 0
    [⟨S16x512, (broadcast S16x512 (Scalar.ofBits .f32 0x00000000#32) : FVec F S16x512 .f32)⟩,
      ⟨S48x512, (extractStridedSlice S48x512 ![0, 0] a4 slices_S64x512_o0_0_S48x512 : FVec F S48x512 .f32)⟩] concatenates_S16x512_S48x512_S64x512_d0)
  addf a5 (concatenate S64x512 0
    [⟨S32x512, (broadcast S32x512 (Scalar.ofBits .f32 0x00000000#32) : FVec F S32x512 .f32)⟩,
      ⟨S32x512, (extractStridedSlice S32x512 ![0, 0] a5 slices_S64x512_o0_0_S32x512 : FVec F S32x512 .f32)⟩] concatenates_S32x512_S32x512_S64x512_d0)

/-- The last of the running sums. -/
def lastSum (b : FVec F S64x512 .f32) : FVec F S1x512 .f32 := extractStridedSlice S1x512 ![63, 0] b slices_S64x512_o63_0_S1x512

/-- The queries times the decay up to their row. -/
def qDec (b : FVec F S64x512 .f32) (q : Vec F S64x512 .f32) : FVec F S64x512 .bf16 :=
  truncf .bf16 (mulf q (exp b)) bitsLt_bf16_f32

/-- The keys over the decay up to their row. -/
def kInv (b : FVec F S64x512 .f32) (k : Vec F S64x512 .f32) : FVec F S64x512 .bf16 :=
  let n : FVec F S64x512 .f32 := subf (broadcast S64x512 (Scalar.ofBits .f32 0x00000000#32)) b
  truncf .bf16 (mulf k (exp n)) bitsLt_bf16_f32

/-- The keys times the decay from their row to the chunk's end. -/
def kEnd (b : FVec F S64x512 .f32) (k : Vec F S64x512 .f32) : FVec F S64x512 .bf16 :=
  let n : FVec F S64x512 .f32 := subf (broadcastTo S64x512 (lastSum b) broadcasts_S1x512_S64x512) b
  truncf .bf16 (mulf k (exp n)) bitsLt_bf16_f32

/-- A head's 128 columns lie in the 512. -/
theorem slice128 : ∀ h : Fin 4, S64x512.Slices ![0, 128 * h.val] S64x128 := by decide
/-- A head's 128 columns lie in a row of 512. -/
theorem slice1x128 : ∀ h : Fin 4, S1x512.Slices ![0, 128 * h.val] S1x128 := by decide

/-- One head's columns. -/
def cols (h : Fin 4) (x : FVec F S64x512 .bf16) : FVec F S64x128 .bf16 := extractStridedSlice S64x128 ![0, 128 * h.val] x (slice128 h)

/-- The mask of the rows at or after a column. -/
def causal : IVec S64x64 1 := cmpi .sge (iota .tc S64x64 32 [0] iota_S64x64_d0_w32) (iota .tc S64x64 32 [1] iota_S64x64_d1_w32)

/-- A head's scores within the chunk. -/
def scores (h : Fin 4) (b : FVec F S64x512 .f32) (k q : Vec F S64x512 .f32) : FVec F S64x64 .bf16 :=
  let s : FVec F S64x64 .f32 := matmul dot_S64x128_S64x128_S64x64_1_1_0_0_n_n none (cols h (qDec b q)) (cols h (kInv b k)) (constant S64x64 .f32 0x00000000#32)
  let z : FVec F S64x64 .f32 := broadcast S64x64 (Scalar.ofBits .f32 0x00000000#32)
  truncf .bf16 (select causal s z) bitsLt_bf16_f32

/-- A head's decay over the whole chunk, along the rows of its state. -/
def decay (h : Fin 4) (b : FVec F S64x512 .f32) : FVec F S128x128 .f32 :=
  let e : FVec F S1x128 .f32 := extractStridedSlice S1x128 ![0, 128 * h.val] (exp (lastSum b)) (slice1x128 h)
  let e' : FVec F S128x128 .f32 := broadcastTo S128x128 (shapeCast S1x128 e shapeCasts_S1x128_S1x128 : FVec F S1x128 .f32) broadcasts_S1x128_S128x128
  transpose S128x128 [1, 0] e' transposes_S128x128_p1_0_S128x128

/-- What a chunk adds to a head's state. -/
def inc (h : Fin 4) (b : FVec F S64x512 .f32) (k : Vec F S64x512 .f32) (v : Vec F S64x256 .bf16) : FVec F S128x256 .f32 :=
  matmul dot_S64x128_S64x256_S128x256_0_0_1_1_n_n none (cols h (kEnd b k)) v (constant S128x256 .f32 0x00000000#32)

/-- A head's state after a chunk. -/
def next (h : Fin 4) (b : FVec F S64x512 .f32) (st : FVec F S128x256 .f32) (i : FVec F S128x256 .f32) : FVec F S128x256 .f32 :=
  addf (mulf st (concatenate S128x256 1 [⟨S128x128, decay h b⟩, ⟨S128x128, decay h b⟩] concatenates_S128x128_S128x128_S128x256_d1 : FVec F S128x256 .f32)) i

/-- A head's rows of output: the state read by the queries and the scores read against the values. -/
def mix (h : Fin 4) (b : FVec F S64x512 .f32) (k q : Vec F S64x512 .f32) (st : FVec F S128x256 .f32) (v : Vec F S64x256 .bf16) :
    FVec F S64x256 .f32 :=
  let l : FVec F S64x192 .bf16 :=
    concatenate S64x192 1 [⟨S64x128, cols h (qDec b q)⟩, ⟨S64x64, scores h b k q⟩] concatenates_S64x128_S64x64_S64x192_d1
  let r : FVec F S192x256 .bf16 :=
    concatenate S192x256 0 [⟨S128x256, (truncf .bf16 st bitsLt_bf16_f32 : FVec F S128x256 .bf16)⟩, ⟨S64x256, v⟩] concatenates_S128x256_S64x256_S192x256_d0
  matmul dot_S64x192_S192x256_S64x256_1_0_0_1_n_n none l r (constant S64x256 .f32 0x00000000#32)

/-- The rows over their root mean square, times the output gate. -/
def gated (o : FVec F S64x256 .f32) (g : Vec F S64x256 .f32) : FVec F S64x256 .bf16 :=
  let s : FVec F S64 .f32 := multiReduction .add [1] S64 (mulf o o) 0x00000000#32 reduces_S64x256_S64 (.inl rfl) rfl
  let s' : FVec F S64x1 .f32 := shapeCast S64x1 s shapeCasts_S64_S64x1
  let n : FVec F S64x1 .f32 := broadcast S64x1 (Scalar.ofBits .f32 0x43800000#32)
  let e : FVec F S64x1 .f32 := broadcast S64x1 (Scalar.ofBits .f32 0x358637BD#32)
  let r : FVec F S64x1 .f32 := rsqrt (addf (divf s' n) e)
  let y : FVec F S64x256 .f32 := mulf o (broadcastTo S64x256 r broadcasts_S64x1_S64x256)
  shapeCast S64x256 (truncf .bf16 (mulf y g) bitsLt_bf16_f32) shapeCasts_S64x256_S64x256

/-- The rows of the result: the input and the rows through the output matrix. -/
def added (x : Vec F S512x1024 .f32) (y : Vec F S512x1024 .bf16) (w : Vec F S1024x1024 .bf16) : FVec F S512x1024 .f32 :=
  let x' : FVec F S512x1024 .f32 := shapeCast S512x1024 x shapeCasts_S512x1024_S512x1024
  addf x' (matmul dot_S512x1024_S1024x1024_S512x1024_1_0_0_1_n_n none y w (constant S512x1024 .f32 0x00000000#32))

/-! ## Rectangles -/

/-- The 256-row blocks lie in the tile. -/
theorem in256x1024 : ∀ i : Fin 4, ∀ a, (![256 * i.val, 0] : Fin 2 → Nat) a + S256x1024.size a ≤ S1024x1024.size a := by decide
/-- The half-width 256-row blocks lie in the tile. -/
theorem in256x512 : ∀ (i : Fin 4) (j : Fin 2), ∀ a, (![256 * i.val, 512 * j.val] : Fin 2 → Nat) a + S256x512.size a ≤ S1024x1024.size a := by decide
/-- The 256-row blocks lie in a tile of 512 columns. -/
theorem in256x512' : ∀ i : Fin 4, ∀ a, (![256 * i.val, 0] : Fin 2 → Nat) a + S256x512.size a ≤ S1024x512.size a := by decide
/-- The column chunks lie in the input matrix kept in scratch. -/
theorem inWin : ∀ i : Fin 6, ∀ a, (![i.val, 0, 0] : Fin 3 → Nat) a + S1x1024x512.size a ≤ S6x1024x512.size a := by decide
/-- The halves lie in the heads' norm scale. -/
theorem inNg : ∀ j : Fin 2, ∀ a, (![0, 512 * j.val] : Fin 2 → Nat) a + S1x512.size a ≤ S1x1024.size a := by decide
/-- The chunks of 64 rows lie in a tile of 512 columns. -/
theorem in64x512 : ∀ c : Fin 16, ∀ a, (![64 * c.val, 0] : Fin 2 → Nat) a + S64x512.size a ≤ S1024x512.size a := by decide
/-- A head's part of a chunk lies in the tile. -/
theorem in64x256 : ∀ (c : Fin 16) (h : Fin 4), ∀ a, (![64 * c.val, 256 * h.val] : Fin 2 → Nat) a + S64x256.size a ≤ S1024x1024.size a := by decide
/-- A head's state lies in the states. -/
theorem inState : ∀ h : Fin 4, ∀ a, (![h.val, 0, 0] : Fin 3 → Nat) a + S1x128x256.size a ≤ S4x128x256.size a := by decide
/-- The halves of 512 rows lie in the tile. -/
theorem in512x1024 : ∀ o : Fin 2, ∀ a, (![512 * o.val, 0] : Fin 2 → Nat) a + S512x1024.size a ≤ S1024x1024.size a := by decide

abbrev rRow (i : Fin 4) : Rect S1024x1024 := Rect.unit (s := S1024x1024) ![256 * i.val, 0] S256x1024.size (in256x1024 i)
abbrev rHalf (i : Fin 4) (j : Fin 2) : Rect S1024x1024 := Rect.unit (s := S1024x1024) ![256 * i.val, 512 * j.val] S256x512.size (in256x512 i j)
abbrev rNarrow (i : Fin 4) : Rect S1024x512 := Rect.unit (s := S1024x512) ![256 * i.val, 0] S256x512.size (in256x512' i)
abbrev rWin (i : Fin 6) : Rect S6x1024x512 := Rect.unit (s := S6x1024x512) ![i.val, 0, 0] S1x1024x512.size (inWin i)
abbrev rNg (j : Fin 2) : Rect S1x1024 := Rect.unit (s := S1x1024) ![0, 512 * j.val] S1x512.size (inNg j)
abbrev rChunk (c : Fin 16) : Rect S1024x512 := Rect.unit (s := S1024x512) ![64 * c.val, 0] S64x512.size (in64x512 c)
abbrev rHead (c : Fin 16) (h : Fin 4) : Rect S1024x1024 := Rect.unit (s := S1024x1024) ![64 * c.val, 256 * h.val] S64x256.size (in64x256 c h)
abbrev rState (h : Fin 4) : Rect S4x128x256 := Rect.unit (s := S4x128x256) ![h.val, 0, 0] S1x128x256.size (inState h)
abbrev rOut (o : Fin 2) : Rect S1024x1024 := Rect.unit (s := S1024x1024) ![512 * o.val, 0] S512x1024.size (in512x1024 o)

/-- The 256-row blocks respect the packing of bfloat16 rows. -/
theorem pRow : ∀ i : Fin 4, (rRow i).PackedRows (EltTy.packing .bf16) := by decide
/-- The half-width 256-row blocks respect the packing of bfloat16 rows. -/
theorem pHalf : ∀ (i : Fin 4) (j : Fin 2), (rHalf i j).PackedRows (EltTy.packing .bf16) := by decide
/-- A head's part of a chunk respects the packing of bfloat16 rows. -/
theorem pHead : ∀ (c : Fin 16) (h : Fin 4), (rHead c h).PackedRows (EltTy.packing .bf16) := by decide

/-! ## The program -/

variable {nD : Nat} {τ : Topo} {sig : RefSig} {Λ : Labels}
variable (M : (k : Fin 23) → Memref sig .tc .vmem (shp k) (ety k)) (hM : ∀ k, (M k).IsWhole)

/-- The projections of 256 rows. -/
def sub (i : Fin 4) : Prog (TpuEff nD τ sig (Elt F) Λ .tc) PUnit := do
  let x : Vec F S256x1024 .f32 ← Prog.lift (.load (M 0) (rRow i).toLoadRect (View.loadsAt_vmem h_S256x1024))
  let g : Vec F S1x1024 .f32 ← Prog.lift (.load (M 1) (Rect.unit (s := S1x1024) ![0, 0] S1x1024.size inb_S1x1024_S1x1024_0_0).toLoadRect (View.loadsAt_vmem h_S1x1024))
  let _ : Vec F S256x1024 .bf16 ← Prog.lift (.load (M 16) (rRow i).toLoadRect (View.loadsAt_vmem h_S256x1024))
  Prog.lift (.store (M 16) (rRow i) (normed x g) Finset.univ (View.stores_vmem h_S256x1024 ((hM 16).storeExact_slice rfl _ (pRow i)) (fun _ => rfl)) (.inl rfl))
  let h : Vec F S256x1024 .bf16 ← Prog.lift (.load (M 16) (rRow i).toLoadRect (View.loadsAt_vmem h_S256x1024))
  let wl : Vec F S1024x128 .bf16 ← Prog.lift (.load (M 3) (Rect.unit (s := S1024x128) ![0, 0] S1024x128.size inb_S1024x128_S1024x128_0_0).toLoadRect (View.loadsAt_vmem h_S1024x128))
  let w2 : Vec F S128x512 .bf16 ← Prog.lift (.load (M 4) (Rect.unit (s := S128x512) ![0, 0] S128x512.size inb_S128x512_S128x512_0_0).toLoadRect (View.loadsAt_vmem h_S128x512))
  let b : Vec F S1x512 .f32 ← Prog.lift (.load (M 5) (Rect.unit (s := S1x512) ![0, 0] S1x512.size inb_S1x512_S1x512_0_0).toLoadRect (View.loadsAt_vmem h_S1x512))
  let h0 : Vec F S256x1024 .bf16 ← Prog.lift (.load (M 16) (rRow i).toLoadRect (View.loadsAt_vmem h_S256x1024))
  let w0 : Vec F S1x1024x512 .bf16 ← Prog.lift (.load (M 13) (rWin 0).toLoadRect (View.loadsAt_vmem h_S1x1024x512))
  let _ : Vec F S256x512 .f32 ← Prog.lift (.load (M 17) (rNarrow i).toLoadRect (View.loadsAt_vmem h_S256x512))
  Prog.lift (.store (M 17) (rNarrow i) (queries h0 w0) Finset.univ (View.stores_vmem_bits_univ h_S256x512 rfl) (.inl rfl))
  let h1 : Vec F S256x1024 .bf16 ← Prog.lift (.load (M 16) (rRow i).toLoadRect (View.loadsAt_vmem h_S256x1024))
  let w1 : Vec F S1x1024x512 .bf16 ← Prog.lift (.load (M 13) (rWin 1).toLoadRect (View.loadsAt_vmem h_S1x1024x512))
  let _ : Vec F S256x512 .f32 ← Prog.lift (.load (M 18) (rNarrow i).toLoadRect (View.loadsAt_vmem h_S256x512))
  Prog.lift (.store (M 18) (rNarrow i) (keys h1 w1) Finset.univ (View.stores_vmem_bits_univ h_S256x512 rfl) (.inl rfl))
  let _ : Vec F S256x512 .f32 ← Prog.lift (.load (M 20) (rNarrow i).toLoadRect (View.loadsAt_vmem h_S256x512))
  Prog.lift (.store (M 20) (rNarrow i) (gate (gateArg h wl w2 b)) Finset.univ (View.stores_vmem_bits_univ h_S256x512 rfl) (.inl rfl))
  let h2 : Vec F S256x1024 .bf16 ← Prog.lift (.load (M 16) (rRow i).toLoadRect (View.loadsAt_vmem h_S256x1024))
  let w2' : Vec F S1x1024x512 .bf16 ← Prog.lift (.load (M 13) (rWin 2).toLoadRect (View.loadsAt_vmem h_S1x1024x512))
  let _ : Vec F S256x512 .bf16 ← Prog.lift (.load (M 19) (rHalf i 0).toLoadRect (View.loadsAt_vmem h_S256x512))
  Prog.lift (.store (M 19) (rHalf i 0) (vals h2 w2') Finset.univ (View.stores_vmem h_S256x512 ((hM 19).storeExact_slice rfl _ (pHalf i 0)) (fun _ => rfl)) (.inl rfl))
  let h3 : Vec F S256x1024 .bf16 ← Prog.lift (.load (M 16) (rRow i).toLoadRect (View.loadsAt_vmem h_S256x1024))
  let w3 : Vec F S1x1024x512 .bf16 ← Prog.lift (.load (M 13) (rWin 3).toLoadRect (View.loadsAt_vmem h_S1x1024x512))
  let _ : Vec F S256x512 .bf16 ← Prog.lift (.load (M 19) (rHalf i 1).toLoadRect (View.loadsAt_vmem h_S256x512))
  Prog.lift (.store (M 19) (rHalf i 1) (vals h3 w3) Finset.univ (View.stores_vmem h_S256x512 ((hM 19).storeExact_slice rfl _ (pHalf i 1)) (fun _ => rfl)) (.inl rfl))
  let h4 : Vec F S256x1024 .bf16 ← Prog.lift (.load (M 16) (rRow i).toLoadRect (View.loadsAt_vmem h_S256x1024))
  let w4 : Vec F S1x1024x512 .bf16 ← Prog.lift (.load (M 13) (rWin 4).toLoadRect (View.loadsAt_vmem h_S1x1024x512))
  let n0 : Vec F S1x512 .f32 ← Prog.lift (.load (M 6) (rNg 0).toLoadRect (View.loadsAt_vmem h_S1x512))
  let _ : Vec F S256x512 .f32 ← Prog.lift (.load (M 21) (rHalf i 0).toLoadRect (View.loadsAt_vmem h_S256x512))
  Prog.lift (.store (M 21) (rHalf i 0) (outGate h4 w4 n0) Finset.univ (View.stores_vmem_bits_univ h_S256x512 rfl) (.inl rfl))
  let h5 : Vec F S256x1024 .bf16 ← Prog.lift (.load (M 16) (rRow i).toLoadRect (View.loadsAt_vmem h_S256x1024))
  let w5 : Vec F S1x1024x512 .bf16 ← Prog.lift (.load (M 13) (rWin 5).toLoadRect (View.loadsAt_vmem h_S1x1024x512))
  let n1 : Vec F S1x512 .f32 ← Prog.lift (.load (M 6) (rNg 1).toLoadRect (View.loadsAt_vmem h_S1x512))
  let _ : Vec F S256x512 .f32 ← Prog.lift (.load (M 21) (rHalf i 1).toLoadRect (View.loadsAt_vmem h_S256x512))
  Prog.lift (.store (M 21) (rHalf i 1) (outGate h5 w5 n1) Finset.univ (View.stores_vmem_bits_univ h_S256x512 rfl) (.inl rfl))

/-- What is read for a chunk: the running sums of its gates, its keys and its queries. -/
structure Chunk (F : FTy → Type) [FloatOps F] where
  b : FVec F S64x512 .f32
  k : Vec F S64x512 .f32
  q : Vec F S64x512 .f32

/-- A head's state for each of the four heads. -/
structure States (F : FTy → Type) [FloatOps F] where
  s0 : FVec F S128x256 .f32
  s1 : FVec F S128x256 .f32
  s2 : FVec F S128x256 .f32
  s3 : FVec F S128x256 .f32

/-- The reads of a chunk. -/
def prep (c : Fin 16) : Prog (TpuEff nD τ sig (Elt F) Λ .tc) (Chunk F) := do
  let g : Vec F S64x512 .f32 ← Prog.lift (.load (M 20) (rChunk c).toLoadRect (View.loadsAt_vmem h_S64x512))
  let k : Vec F S64x512 .f32 ← Prog.lift (.load (M 18) (rChunk c).toLoadRect (View.loadsAt_vmem h_S64x512))
  let q : Vec F S64x512 .f32 ← Prog.lift (.load (M 17) (rChunk c).toLoadRect (View.loadsAt_vmem h_S64x512))
  pure ⟨sums g, k, q⟩

/-- A head's values in a chunk. -/
def valueRows (c : Fin 16) (h : Fin 4) : Prog (TpuEff nD τ sig (Elt F) Λ .tc) (Vec F S64x256 .bf16) :=
  Prog.lift (.load (M 19) (rHead c h).toLoadRect (View.loadsAt_vmem h_S64x256))

/-- One head of a chunk. -/
def head (c : Fin 16) (h : Fin 4) (C : Chunk F) (st i : FVec F S128x256 .f32) : Prog (TpuEff nD τ sig (Elt F) Λ .tc) (FVec F S128x256 .f32) := do
  let v ← valueRows M c h
  let g : Vec F S64x256 .f32 ← Prog.lift (.load (M 21) (rHead c h).toLoadRect (View.loadsAt_vmem h_S64x256))
  let _ : Vec F S64x256 .bf16 ← Prog.lift (.load (M 22) (rHead c h).toLoadRect (View.loadsAt_vmem h_S64x256))
  Prog.lift (.store (M 22) (rHead c h) (gated (mix h C.b C.k C.q st v) g) Finset.univ (View.stores_vmem h_S64x256 ((hM 22).storeExact_slice rfl _ (pHead c h)) (fun _ => rfl)) (.inl rfl))
  pure (next h C.b st i)

/-- One chunk. -/
def chunk (c : Fin 16) (C : Chunk F) (S : States F) : Prog (TpuEff nD τ sig (Elt F) Λ .tc) (States F) := do
  let v0 ← valueRows M c 0
  let v1 ← valueRows M c 1
  let v2 ← valueRows M c 2
  let v3 ← valueRows M c 3
  let s0 ← head M hM c 0 C S.s0 (inc 0 C.b C.k v0)
  let s1 ← head M hM c 1 C S.s1 (inc 1 C.b C.k v1)
  let s2 ← head M hM c 2 C S.s2 (inc 2 C.b C.k v2)
  let s3 ← head M hM c 3 C S.s3 (inc 3 C.b C.k v3)
  pure ⟨s0, s1, s2, s3⟩

/-- 512 rows of the result. -/
def outRows (o : Fin 2) : Prog (TpuEff nD τ sig (Elt F) Λ .tc) PUnit := do
  let x : Vec F S512x1024 .f32 ← Prog.lift (.load (M 0) (rOut o).toLoadRect (View.loadsAt_vmem h_S512x1024))
  let y : Vec F S512x1024 .bf16 ← Prog.lift (.load (M 22) (rOut o).toLoadRect (View.loadsAt_vmem h_S512x1024))
  let w : Vec F S1024x1024 .bf16 ← Prog.lift (.load (M 14) (Rect.unit (s := S1024x1024) ![0, 0] S1024x1024.size inb_S1024x1024_S1024x1024_0_0).toLoadRect (View.loadsAt_vmem h_S1024x1024))
  let _ : Vec F S512x1024 .f32 ← Prog.lift (.load (M 10) (rOut o).toLoadRect (View.loadsAt_vmem h_S512x1024))
  Prog.lift (.store (M 10) (rOut o) (added x y w) Finset.univ (View.stores_vmem_bits_univ h_S512x1024 rfl) (.inl rfl))

/-- A head's state, read. -/
def getState (h : Fin 4) : Prog (TpuEff nD τ sig (Elt F) Λ .tc) (FVec F S128x256 .f32) := do
  let s : Vec F S1x128x256 .f32 ← Prog.lift (.load (M 15) (rState h).toLoadRect (View.loadsAt_vmem h_S1x128x256))
  pure (shapeCast S128x256 s shapeCasts_S1x128x256_S128x256)

/-- A head's state, written. -/
def putState (h : Fin 4) (st : FVec F S128x256 .f32) : Prog (TpuEff nD τ sig (Elt F) Λ .tc) PUnit := do
  let _ : Vec F S1x128x256 .f32 ← Prog.lift (.load (M 15) (rState h).toLoadRect (View.loadsAt_vmem h_S1x128x256))
  Prog.lift (.store (M 15) (rState h) (shapeCast S1x128x256 st shapeCasts_S128x256_S1x128x256) Finset.univ (View.stores_vmem_bits_univ h_S1x128x256 rfl) (.inl rfl))

/-- The reads of the next chunk, then this chunk; with the first half of the result once eight chunks are done. -/
def step (c : Fin 15) (p : Chunk F × States F) : Prog (TpuEff nD τ sig (Elt F) Λ .tc) (Chunk F × States F) := do
  let C ← prep M ⟨c.val + 1, by omega⟩
  let S ← chunk M hM ⟨c.val, by omega⟩ p.1 p.2
  pure (C, S)

/-- All chunks of a tile. -/
def chunks : Prog (TpuEff nD τ sig (Elt F) Λ .tc) PUnit := do
  let s0 ← getState M 0
  let s1 ← getState M 1
  let s2 ← getState M 2
  let s3 ← getState M 3
  let C ← prep M 0
  let p ← step M hM 0 (C, ⟨s0, s1, s2, s3⟩)
  let p ← step M hM 1 p
  let p ← step M hM 2 p
  let p ← step M hM 3 p
  let p ← step M hM 4 p
  let p ← step M hM 5 p
  let p ← step M hM 6 p
  let p ← step M hM 7 p
  outRows M 0
  let p ← step M hM 8 p
  let p ← step M hM 9 p
  let p ← step M hM 10 p
  let p ← step M hM 11 p
  let p ← step M hM 12 p
  let p ← step M hM 13 p
  let p ← step M hM 14 p
  let S ← chunk M hM 15 p.1 p.2
  outRows M 1
  putState M 0 S.s0
  putState M 1 S.s1
  putState M 2 S.s2
  putState M 3 S.s3

/-- A slice of the first weights, kept. -/
def keepWin (i : grid0.Coords) (h1 : k0_cond1 i = 1#1) (h2 : k0_cond2 i = 1#1) : Prog (TpuEff nD τ sig (Elt F) Λ .tc) PUnit := do
  let w : Vec F S1x1024x512 .f32 ← Prog.lift (.load (M 2) (Rect.unit (s := S1x1024x512) ![0, 0, 0] S1x1024x512.size inb_S1x1024x512_S1x1024x512_0_0_0).toLoadRect (View.loadsAt_vmem h_S1x1024x512))
  let _ : Vec F S1x1024x512 .bf16 ← Prog.lift (.load (M 13) (Rect.unit (s := S6x1024x512) (k0_off1 i) S1x1024x512.size (k0_off1_inb i h1 h2)).toLoadRect (View.loadsAt_vmem h_S1x1024x512))
  Prog.lift (.store (M 13) (Rect.unit (s := S6x1024x512) (k0_off1 i) S1x1024x512.size (k0_off1_inb i h1 h2))
    (shapeCast S1x1024x512 (truncf .bf16 (shapeCast S1024x512 w shapeCasts_S1x1024x512_S1024x512 : FVec F S1024x512 .f32) bitsLt_bf16_f32 : FVec F S1024x512 .bf16) shapeCasts_S1024x512_S1x1024x512)
    Finset.univ (View.stores_vmem h_S1x1024x512 ((hM 13).storeExact_slice rfl _ (k0_off1_packedbf16 i h1 h2)) (fun _ => rfl)) (.inl rfl))

/-- A slice of the output matrix, kept. -/
def keepOut (i : grid0.Coords) (h1 : k0_cond1 i = 1#1) (h3 : k0_cond3 i = 1#1) : Prog (TpuEff nD τ sig (Elt F) Λ .tc) PUnit := do
  let w : Vec F S1x256x1024 .f32 ← Prog.lift (.load (M 7) (Rect.unit (s := S1x256x1024) ![0, 0, 0] S1x256x1024.size inb_S1x256x1024_S1x256x1024_0_0_0).toLoadRect (View.loadsAt_vmem h_S1x256x1024))
  let _ : Vec F S256x1024 .bf16 ← Prog.lift (.load (M 14) (Rect.unit (s := S1024x1024) (k0_off2 i) S256x1024.size (k0_off2_inb i h1 h3)).toLoadRect (View.loadsAt_vmem h_S256x1024))
  Prog.lift (.store (M 14) (Rect.unit (s := S1024x1024) (k0_off2 i) S256x1024.size (k0_off2_inb i h1 h3))
    (shapeCast S256x1024 (truncf .bf16 (shapeCast S256x1024 w shapeCasts_S1x256x1024_S256x1024 : FVec F S256x1024 .f32) bitsLt_bf16_f32 : FVec F S256x1024 .bf16) shapeCasts_S256x1024_S256x1024)
    Finset.univ (View.stores_vmem h_S256x1024 ((hM 14).storeExact_slice rfl _ (k0_off2_packedbf16 i h1 h3)) (fun _ => rfl)) (.inl rfl))

/-- A slice of the next layer's first weights, passed on. -/
def passUp : Prog (TpuEff nD τ sig (Elt F) Λ .tc) PUnit := do
  let w : Vec F S1x1024x512 .f32 ← Prog.lift (.load (M 8) (Rect.unit (s := S1x1024x512) ![0, 0, 0] S1x1024x512.size inb_S1x1024x512_S1x1024x512_0_0_0).toLoadRect (View.loadsAt_vmem h_S1x1024x512))
  let _ : Vec F S1x1024x512 .bf16 ← Prog.lift (.load (M 11) (Rect.unit (s := S1x1024x512) ![0, 0, 0] S1x1024x512.size inb_S1x1024x512_S1x1024x512_0_0_0).toLoadRect (View.loadsAt_vmem h_S1x1024x512))
  Prog.lift (.store (M 11) (Rect.unit (s := S1x1024x512) ![0, 0, 0] S1x1024x512.size inb_S1x1024x512_S1x1024x512_0_0_0)
    (shapeCast S1x1024x512 (truncf .bf16 (shapeCast S1024x512 w shapeCasts_S1x1024x512_S1024x512 : FVec F S1024x512 .f32) bitsLt_bf16_f32 : FVec F S1024x512 .bf16) shapeCasts_S1024x512_S1x1024x512)
    Finset.univ (View.stores_vmem h_S1x1024x512 ((hM 11).storeExact_slice rfl _ packedbf16_S1x1024x512_S1x1024x512_0_0_0) (fun _ => rfl)) (.inl rfl))

/-- A slice of its second weights, passed on. -/
def passDown : Prog (TpuEff nD τ sig (Elt F) Λ .tc) PUnit := do
  let w : Vec F S1x256x1024 .f32 ← Prog.lift (.load (M 9) (Rect.unit (s := S1x256x1024) ![0, 0, 0] S1x256x1024.size inb_S1x256x1024_S1x256x1024_0_0_0).toLoadRect (View.loadsAt_vmem h_S1x256x1024))
  let _ : Vec F S256x1024 .bf16 ← Prog.lift (.load (M 12) (Rect.unit (s := S256x1024) ![0, 0] S256x1024.size inb_S256x1024_S256x1024_0_0).toLoadRect (View.loadsAt_vmem h_S256x1024))
  Prog.lift (.store (M 12) (Rect.unit (s := S256x1024) ![0, 0] S256x1024.size inb_S256x1024_S256x1024_0_0)
    (truncf .bf16 (shapeCast S256x1024 w shapeCasts_S1x256x1024_S256x1024 : FVec F S256x1024 .f32) bitsLt_bf16_f32 : FVec F S256x1024 .bf16)
    Finset.univ (View.stores_vmem h_S256x1024 ((hM 12).storeExact_slice rfl _ packedbf16_S256x1024_S256x1024_0_0) (fun _ => rfl)) (.inl rfl))

/-- The states set to zero. -/
def clear : Prog (TpuEff nD τ sig (Elt F) Λ .tc) PUnit := do
  let _ : Vec F S4x128x256 .f32 ← Prog.lift (.load (M 15) (Rect.unit (s := S4x128x256) ![0, 0, 0] S4x128x256.size inb_S4x128x256_S4x128x256_0_0_0).toLoadRect (View.loadsAt_vmem h_S4x128x256))
  Prog.lift (.store (M 15) (Rect.unit (s := S4x128x256) ![0, 0, 0] S4x128x256.size inb_S4x128x256_S4x128x256_0_0_0)
    (shapeCast S4x128x256 (broadcast S4x128x256 (Scalar.ofBits .f32 0x00000000#32) : FVec F S4x128x256 .f32) shapeCasts_S4x128x256_S4x128x256)
    Finset.univ (View.stores_vmem_bits_univ h_S4x128x256 rfl) (.inl rfl))

/-- The condition under which a tile begins a sequence. -/
def first (i : grid0.Coords) : BitVec 1 :=
  Scalar.cmpi .ne (Scalar.extui (Scalar.cmpi .eq (Scalar.remsi (Scalar.subi (BitVec.ofNat 32 (i 0).val) 6#32) 4#32) 0#32) : BitVec 32) 0#32

/-- The projections of the whole tile. -/
def subs : Prog (TpuEff nD τ sig (Elt F) Λ .tc) PUnit := do
  sub M hM 0
  sub M hM 1
  sub M hM 2
  sub M hM 3

/-- What a point does with the weights' slices. -/
def keep (i : grid0.Coords) : Prog (TpuEff nD τ sig (Elt F) Λ .tc) PUnit := do
  if h1 : k0_cond1 i = 1#1 then do
    if h2 : k0_cond2 i = 1#1 then keepWin M hM i h1 h2 else pure ⟨⟩
    if h3 : k0_cond3 i = 1#1 then keepOut M hM i h1 h3 else pure ⟨⟩
    pure ⟨⟩
  else pure ⟨⟩

/-- What a point does with a tile. -/
def tile (i : grid0.Coords) : Prog (TpuEff nD τ sig (Elt F) Λ .tc) PUnit := do
  if _h : k0_cond5 i = 1#1 then passUp M hM else pure ⟨⟩
  if _h : k0_cond6 i = 1#1 then passDown M hM else pure ⟨⟩
  if _h : first i = 1#1 then clear M else pure ⟨⟩
  subs M hM
  chunks M hM

/-- The body at a grid point. -/
def body (i : grid0.Coords) : Prog (TpuEff nD τ sig (Elt F) Λ .tc) PUnit := do
  keep M hM i
  if _h : k0_cond4 i = 1#1 then tile M hM i else pure ⟨⟩

/-- The same, its regions one after the other. -/
def bodyFlat (i : grid0.Coords) : Prog (TpuEff nD τ sig (Elt F) Λ .tc) PUnit := do
  if h1 : k0_cond1 i = 1#1 then do
    if h2 : k0_cond2 i = 1#1 then do
      keepWin M hM i h1 h2
      pure ⟨⟩
    else pure ⟨⟩
    if h3 : k0_cond3 i = 1#1 then do
      keepOut M hM i h1 h3
      pure ⟨⟩
    else pure ⟨⟩
    pure ⟨⟩
  else pure ⟨⟩
  if _h : k0_cond4 i = 1#1 then do
    tile M hM i
    pure ⟨⟩
  else pure ⟨⟩
  pure ⟨⟩

end Cert.GlaTile

end
-- ==== Proof.GlaSteps.lean ====
/- Steps of a body that loads from and stores to whole operands: the operands' contents as one state, and what a program does to it. -/
module

public import proofs.«01_k».proof.Proof.GlaProgram
public import Idealize.ShloMosaic.Lib.Writes
public import Idealize.ShloMosaic.Rules.Step
public import Idealize.ShloMosaic.Lib.Memref

@[expose] public section

namespace Cert.GlaTile

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- The contents of the operands. -/
abbrev St (F : FTy → Type) : Type := (k : Fin 23) → (shp k).Idx → Elt F (ety k)

/-- An array with a rectangle of it replaced. -/
noncomputable def put {s : Shape} {α : Type} (X : s.Idx → α) (r : Rect s) (w : r.shape.Idx → α) : s.Idx → α :=
  fun y => by classical exact if h : ∃ x, r.emb x = y then w h.choose else X y

/-- After a store, a place inside the rectangle holds the stored value. -/
theorem put_emb {s : Shape} {α : Type} (X : s.Idx → α) (r : Rect s) (w : r.shape.Idx → α) (x : r.shape.Idx) : put X r w (r.emb x) = w x := by
  have h : ∃ x', r.emb x' = r.emb x := ⟨x, rfl⟩
  unfold put
  rw [dif_pos h]
  exact congrArg w (r.emb.injective h.choose_spec)

/-- After a store, a place outside the rectangle holds what it held. -/
theorem put_miss {s : Shape} {α : Type} (X : s.Idx → α) (r : Rect s) (w : r.shape.Idx → α) (y : s.Idx) (h : ∀ x, r.emb x ≠ y) : put X r w y = X y := by
  unfold put
  rw [dif_neg (fun ⟨x, hx⟩ => h x hx)]

variable {F : FTy → Type} [FloatOps F]
variable {nD : Nat} {τ : Topo} {sig : RefSig} {Λ : Labels} {U : Type} [URA U]

local notation "𝕄" => MT nD τ sig Unit (Elt F) ℕ U ℕ

variable (defs : Defs nD τ sig (Elt F) Λ) (𝒱 : Variants) (c : Dev nD)
variable (M : (k : Fin 23) → Memref sig .tc .vmem (shp k) (ety k))

/-- All operands, at a state. -/
noncomputable def held (s : St F) : sProp 𝕄 := bigSep Finset.univ fun k : Fin 23 => owns (c : Thread nD τ) (M k) fullShare (s k)

/-- One operand taken out of those held. -/
theorem held_split (k : Fin 23) (s : St F) : (held (U := U) c M s : sProp 𝕄)
    = iprop((∃ f, ⌜(M k).view.read (Elt F) f = s k⌝ ∗ ((M k).view.loc (c : Thread nD τ) ↦[(M k).view.set]{fullShare} f))
      ∗ bigSep (Finset.univ.erase k) fun j : Fin 23 => owns (c : Thread nD τ) (M j) fullShare (s j)) :=
  bigSep_univ_split k

/-- Changing one operand leaves the others as they are held. -/
theorem rest_update (k : Fin 23) (s : St F) (X : (shp k).Idx → Elt F (ety k)) :
    (bigSep (Finset.univ.erase k) fun j : Fin 23 => owns (c : Thread nD τ) (M j) fullShare (s j) : sProp 𝕄)
      ⊢ bigSep (Finset.univ.erase k) fun j : Fin 23 => owns (c : Thread nD τ) (M j) fullShare (Function.update s k X j) := by
  refine Entails.of_eq (bigSep_congr fun j hj => ?_)
  rw [Function.update_of_ne (Finset.ne_of_mem_erase hj)]

/-- Started in a state with `Q`, the program ends with a value and a state with `R`. -/
def Does {α : Type} (Q : St F → Prop) (p : Prog (TpuEff nD τ sig (Elt F) Λ .tc) α) (R : α → St F → Prop) : Prop :=
  ∀ s, Q s → (held (U := U) c M s : sProp 𝕄) ⊢ wp frame (wpE defs 𝒱 (c : Thread nD τ) none) Set.univ p
    (fun a => iprop(∃ s', ⌜R a s'⌝ ∗ held (U := U) c M s'))

variable {defs 𝒱 c M}

/-- Returning a value. -/
theorem Does.pure {α : Type} {a : α} {Q : St F → Prop} {R : α → St F → Prop} (h : ∀ s, Q s → R a s) :
    Does (U := U) defs 𝒱 c M Q (pure a) R := by
  intro s hs
  rw [wp_pure]
  iintro H
  imodintro
  iexists s
  isplitr
  · ipureintro; exact h s hs
  iexact H

/-- Two programs one after the other. -/
theorem Does.bind {α β : Type} {p : Prog (TpuEff nD τ sig (Elt F) Λ .tc) α} {k : α → Prog (TpuEff nD τ sig (Elt F) Λ .tc) β}
    {Q : St F → Prop} {R : α → St F → Prop} {R' : β → St F → Prop}
    (h : Does (U := U) defs 𝒱 c M Q p R) (hk : ∀ a, Does (U := U) defs 𝒱 c M (R a) (k a) R') : Does (U := U) defs 𝒱 c M Q (p >>= k) R' := by
  intro s hs
  rw [wp_bind]
  refine (h s hs).trans (wp_mono _ _ _ fun a => ?_)
  iintro ⟨%s', %hr, H⟩
  iapply (hk a s' hr)
  iexact H

/-- A program does less from more. -/
theorem Does.mono {α : Type} {p : Prog (TpuEff nD τ sig (Elt F) Λ .tc) α} {Q Q' : St F → Prop} {R R' : α → St F → Prop}
    (h : Does (U := U) defs 𝒱 c M Q p R) (hQ : ∀ s, Q' s → Q s) (hR : ∀ a s, R a s → R' a s) : Does (U := U) defs 𝒱 c M Q' p R' := by
  intro s hs
  refine (h s (hQ s hs)).trans (wp_mono _ _ _ fun a => ?_)
  iintro ⟨%s', %hr, H⟩
  iexists s'
  isplitr
  · ipureintro; exact hR a s' hr
  iexact H

/-- A load reads the state and leaves it. -/
theorem Does.load (k : Fin 23) (r : LoadRect (shp k)) (hl : (M k).view.LoadsAt r) {Q : St F → Prop} {R : (r.shape.Idx → Elt F (ety k)) → St F → Prop}
    (h : ∀ s, Q s → R (fun x => s k (r.idx x)) s) : Does (U := U) defs 𝒱 c M Q (Prog.lift (.load (M k) r hl)) R := by
  intro s hs
  rw [held_split c M k]
  iintro ⟨⟨%f, %hf, H⟩, Hr⟩
  iapply (wp_load 𝒱 (c : Thread nD τ) none Set.univ (m := M k) (r := r) (hl := hl) (k := Prog.ret) (S := (M k).view.set)
    ((M k).view.setOn_subset_set r.set)) $$ H
  iintro H
  rw [wp_ret]
  imodintro
  iexists s
  isplitr
  · ipureintro
    have e : (M k).view.readAt (Elt F) r f = fun x => s k (r.idx x) := by
      funext x; rw [View.readAt_apply, hf]
    rw [e]; exact h s hs
  rw [held_split c M k]
  isplitl [H]
  · iexists f
    isplitr
    · ipureintro; exact hf
    iexact H
  iexact Hr

/-- A store replaces a rectangle of the state. -/
theorem Does.store (k : Fin 23) (r : Rect (shp k)) (w : r.shape.Idx → Elt F (ety k)) (hx : ((M k).access r).Stores Finset.univ)
    (hm : Finset.univ = Finset.univ ∨ ∀ a, r.stride a = 1) {Q : St F → Prop} {R : PUnit → St F → Prop}
    (h : ∀ s, Q s → R ⟨⟩ (Function.update s k (put (s k) r w))) : Does (U := U) defs 𝒱 c M Q (Prog.lift (.store (M k) r w Finset.univ hx hm)) R := by
  intro s hs
  rw [held_split c M k]
  iintro ⟨⟨%f, %hf, H⟩, Hr⟩
  iapply (wp_store_writes₀ 𝒱 (c : Thread nD τ) none Set.univ (m := M k) (r := r) (w := w) (hx := hx) (hm := hm) (k := Prog.ret) (S := (M k).view.set)
    ((M k).view.set_slice_subset r)) $$ H
  iintro H
  rw [wp_ret]
  imodintro
  iexists (Function.update s k (put (s k) r w))
  isplitr
  · ipureintro; exact h s hs
  rw [held_split c M k]
  isplitl [H]
  · iexists ((M k).view.writes (Elt F) f [⟨r, w⟩])
    isplitr
    · ipureintro
      rw [Function.update_self]
      funext y
      by_cases hy : ∃ x, r.emb x = y
      · obtain ⟨x, rfl⟩ := hy
        rw [View.read_writes_cons_emb, put_emb]
      · rw [put_miss _ _ _ _ (fun x hx' => hy ⟨x, hx'⟩), View.read_writes_cons_miss, View.writes_nil, hf]
        intro hy'
        rw [← Rect.map_emb_univ, Finset.mem_map] at hy'
        obtain ⟨x, -, hx'⟩ := hy'
        exact hy ⟨x, hx'⟩
    iexact H
  iapply (rest_update c M k s (put (s k) r w)) $$ Hr

end Cert.GlaTile

end
-- ==== Proof.GlaKeeps.lean ====
/- The body leaves its first ten operands as they are. -/
module

public import proofs.«01_k».proof.Proof.GlaSteps

@[expose] public section

namespace Cert.GlaTile

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.GlaIdeal Cert.GlaIdeal.Gen

variable {F : FTy → Type} [FloatOps F]
variable {nD : Nat} {τ : Topo} {sig : RefSig} {Λ : Labels} {U : Type} [URA U]
variable {defs : Defs nD τ sig (Elt F) Λ} {𝒱 : Variants} {c : Dev nD}
variable {M : (k : Fin 23) → Memref sig .tc .vmem (shp k) (ety k)} {hM : ∀ k, (M k).IsWhole} {X : St F}

/-- The first ten operands hold what `X` has them hold. -/
def Keeps (X s : St F) : Prop := ∀ k : Fin 23, k.val < 10 → s k = X k

/-- Changing an operand that is no input keeps the inputs. -/
theorem Keeps.update {s : St F} (h : Keeps X s) (k : Fin 23) (hk : 10 ≤ k.val) (w : (shp k).Idx → Elt F (ety k)) : Keeps X (Function.update s k w) := by
  intro j hj
  rw [Function.update_of_ne (fun e => by subst e; omega)]
  exact h j hj

variable (U defs 𝒱 c M X) in
/-- A program that leaves the first ten operands. -/
abbrev Safe {α : Type} (p : Prog (TpuEff nD τ sig (Elt F) Λ .tc) α) : Prop :=
  Does (U := U) defs 𝒱 c M (Keeps X) p fun _ => Keeps X

/-- Returning a value keeps the inputs. -/
theorem Safe.pure {α : Type} (a : α) : Safe U defs 𝒱 c M X (Pure.pure a) := Does.pure fun _ h => h

/-- Two programs one after the other keep the inputs if both do. -/
theorem Safe.bind {α β : Type} {p : Prog (TpuEff nD τ sig (Elt F) Λ .tc) α} {k : α → Prog (TpuEff nD τ sig (Elt F) Λ .tc) β}
    (h : Safe U defs 𝒱 c M X p) (hk : ∀ a, Safe U defs 𝒱 c M X (k a)) : Safe U defs 𝒱 c M X (p >>= k) := Does.bind h hk

/-- A load keeps the inputs. -/
theorem Safe.load (k : Fin 23) (r : LoadRect (shp k)) (hl : (M k).view.LoadsAt r) : Safe U defs 𝒱 c M X (Prog.lift (.load (M k) r hl)) :=
  Does.load k r hl fun _ h => h

/-- A store to an operand that is no input keeps the inputs. -/
theorem Safe.store (k : Fin 23) (hk : 10 ≤ k.val) (r : Rect (shp k)) (w : r.shape.Idx → Elt F (ety k)) (hx : ((M k).access r).Stores Finset.univ)
    (hm : Finset.univ = Finset.univ ∨ ∀ a, r.stride a = 1) : Safe U defs 𝒱 c M X (Prog.lift (.store (M k) r w Finset.univ hx hm)) :=
  Does.store k r w hx hm fun _ h => h.update k hk _

/-- A load, and what follows, keep the inputs. -/
theorem Safe.loadThen {β : Type} (k : Fin 23) (r : LoadRect (shp k)) (hl : (M k).view.LoadsAt r) {f : (r.shape.Idx → Elt F (ety k)) → Prog (TpuEff nD τ sig (Elt F) Λ .tc) β}
    (h : ∀ a, Safe U defs 𝒱 c M X (f a)) : Safe U defs 𝒱 c M X (Prog.lift (.load (M k) r hl) >>= f) := Safe.bind (Safe.load k r hl) h

/-- A store to an operand that is no input, and what follows, keep the inputs. -/
theorem Safe.storeThen {β : Type} (k : Fin 23) (hk : 10 ≤ k.val) (r : Rect (shp k)) (w : r.shape.Idx → Elt F (ety k)) (hx : ((M k).access r).Stores Finset.univ)
    (hm : Finset.univ = Finset.univ ∨ ∀ a, r.stride a = 1) {f : PUnit → Prog (TpuEff nD τ sig (Elt F) Λ .tc) β}
    (h : Safe U defs 𝒱 c M X (f ⟨⟩)) : Safe U defs 𝒱 c M X (Prog.lift (.store (M k) r w Finset.univ hx hm) >>= f) := Safe.bind (Safe.store k hk r w hx hm) fun _ => h

variable [Cert.GlaIdeal.Facts]

/-- The projections of 256 rows keep the inputs. -/
theorem safe_sub (i : Fin 4) : Safe U defs 𝒱 c M X (sub M hM i) := by
  unfold sub
  refine Safe.loadThen 0 _ _ fun _ => ?_
  refine Safe.loadThen 1 _ _ fun _ => ?_
  refine Safe.loadThen 16 _ _ fun _ => ?_
  refine Safe.storeThen 16 (by decide) _ _ _ _ ?_
  refine Safe.loadThen 16 _ _ fun _ => ?_
  refine Safe.loadThen 3 _ _ fun _ => ?_
  refine Safe.loadThen 4 _ _ fun _ => ?_
  refine Safe.loadThen 5 _ _ fun _ => ?_
  refine Safe.loadThen 16 _ _ fun _ => ?_
  refine Safe.loadThen 13 _ _ fun _ => ?_
  refine Safe.loadThen 17 _ _ fun _ => ?_
  refine Safe.storeThen 17 (by decide) _ _ _ _ ?_
  refine Safe.loadThen 16 _ _ fun _ => ?_
  refine Safe.loadThen 13 _ _ fun _ => ?_
  refine Safe.loadThen 18 _ _ fun _ => ?_
  refine Safe.storeThen 18 (by decide) _ _ _ _ ?_
  refine Safe.loadThen 20 _ _ fun _ => ?_
  refine Safe.storeThen 20 (by decide) _ _ _ _ ?_
  refine Safe.loadThen 16 _ _ fun _ => ?_
  refine Safe.loadThen 13 _ _ fun _ => ?_
  refine Safe.loadThen 19 _ _ fun _ => ?_
  refine Safe.storeThen 19 (by decide) _ _ _ _ ?_
  refine Safe.loadThen 16 _ _ fun _ => ?_
  refine Safe.loadThen 13 _ _ fun _ => ?_
  refine Safe.loadThen 19 _ _ fun _ => ?_
  refine Safe.storeThen 19 (by decide) _ _ _ _ ?_
  refine Safe.loadThen 16 _ _ fun _ => ?_
  refine Safe.loadThen 13 _ _ fun _ => ?_
  refine Safe.loadThen 6 _ _ fun _ => ?_
  refine Safe.loadThen 21 _ _ fun _ => ?_
  refine Safe.storeThen 21 (by decide) _ _ _ _ ?_
  refine Safe.loadThen 16 _ _ fun _ => ?_
  refine Safe.loadThen 13 _ _ fun _ => ?_
  refine Safe.loadThen 6 _ _ fun _ => ?_
  refine Safe.loadThen 21 _ _ fun _ => ?_
  exact Safe.store 21 (by decide) _ _ _ _

/-- Preparing a chunk keeps the inputs. -/
theorem safe_prep (i : Fin 16) : Safe U defs 𝒱 c M X (prep M i) := by
  unfold prep
  refine Safe.loadThen _ _ _ fun _ => Safe.loadThen _ _ _ fun _ => Safe.loadThen _ _ _ fun _ => Safe.pure _

/-- Loading a head's values keeps the inputs. -/
theorem safe_valueRows (i : Fin 16) (h : Fin 4) : Safe U defs 𝒱 c M X (valueRows M i h) := Safe.load _ _ _

/-- A head of a chunk keeps the inputs. -/
theorem safe_head (i : Fin 16) (h : Fin 4) (C : Chunk F) (st y : FVec F S128x256 .f32) : Safe U defs 𝒱 c M X (head M hM i h C st y) := by
  unfold head
  refine Safe.bind (safe_valueRows i h) fun _ => Safe.loadThen _ _ _ fun _ => Safe.loadThen _ _ _ fun _ => Safe.storeThen _ (by decide) _ _ _ _ (Safe.pure _)

/-- A chunk keeps the inputs. -/
theorem safe_chunk (i : Fin 16) (C : Chunk F) (S : States F) : Safe U defs 𝒱 c M X (chunk M hM i C S) := by
  unfold chunk
  refine Safe.bind (safe_valueRows i 0) fun _ => Safe.bind (safe_valueRows i 1) fun _ => Safe.bind (safe_valueRows i 2) fun _ =>
    Safe.bind (safe_valueRows i 3) fun _ => Safe.bind (safe_head i 0 _ _ _) fun _ => Safe.bind (safe_head i 1 _ _ _) fun _ =>
    Safe.bind (safe_head i 2 _ _ _) fun _ => Safe.bind (safe_head i 3 _ _ _) fun _ => Safe.pure _

/-- Writing half the output block keeps the inputs. -/
theorem safe_outRows (o : Fin 2) : Safe U defs 𝒱 c M X (outRows M o) := by
  unfold outRows
  refine Safe.loadThen _ _ _ fun _ => Safe.loadThen _ _ _ fun _ => Safe.loadThen _ _ _ fun _ => Safe.loadThen _ _ _ fun _ => Safe.store _ (by decide) _ _ _ _

/-- Loading a head's state keeps the inputs. -/
theorem safe_getState (h : Fin 4) : Safe U defs 𝒱 c M X (getState M h) := by
  unfold getState
  refine Safe.loadThen _ _ _ fun _ => Safe.pure _

/-- Storing a head's state keeps the inputs. -/
theorem safe_putState (h : Fin 4) (st : FVec F S128x256 .f32) : Safe U defs 𝒱 c M X (putState M h st) := by
  unfold putState
  refine Safe.loadThen _ _ _ fun _ => Safe.store _ (by decide) _ _ _ _

/-- A round of the loop over chunks keeps the inputs. -/
theorem safe_step (i : Fin 15) (p : Chunk F × States F) : Safe U defs 𝒱 c M X (step M hM i p) := by
  unfold step
  refine Safe.bind (safe_prep _) fun _ => Safe.bind (safe_chunk (U := U) _ _ _) fun _ => Safe.pure _

/-- The loop over chunks keeps the inputs. -/
theorem safe_chunks : Safe U defs 𝒱 c M X (chunks M hM) := by
  unfold chunks
  refine Safe.bind (safe_getState (U := U) 0) fun _ => Safe.bind (safe_getState (U := U) 1) fun _ => Safe.bind (safe_getState (U := U) 2) fun _ => Safe.bind (safe_getState (U := U) 3) fun _ =>
    Safe.bind (safe_prep (U := U) 0) fun _ => Safe.bind (safe_step (U := U) 0 _) fun _ => Safe.bind (safe_step (U := U) 1 _) fun _ => Safe.bind (safe_step (U := U) 2 _) fun _ =>
    Safe.bind (safe_step (U := U) 3 _) fun _ => Safe.bind (safe_step (U := U) 4 _) fun _ => Safe.bind (safe_step (U := U) 5 _) fun _ => Safe.bind (safe_step (U := U) 6 _) fun _ =>
    Safe.bind (safe_step (U := U) 7 _) fun _ => Safe.bind (safe_outRows (U := U) 0) fun _ => Safe.bind (safe_step (U := U) 8 _) fun _ => Safe.bind (safe_step (U := U) 9 _) fun _ =>
    Safe.bind (safe_step (U := U) 10 _) fun _ => Safe.bind (safe_step (U := U) 11 _) fun _ => Safe.bind (safe_step (U := U) 12 _) fun _ => Safe.bind (safe_step (U := U) 13 _) fun _ =>
    Safe.bind (safe_step (U := U) 14 _) fun _ => Safe.bind (safe_chunk (U := U) _ _ _) fun _ => Safe.bind (safe_outRows (U := U) 1) fun _ => Safe.bind (safe_putState (U := U) 0 _) fun _ =>
    Safe.bind (safe_putState (U := U) 1 _) fun _ => Safe.bind (safe_putState (U := U) 2 _) fun _ => safe_putState 3 _

/-- Keeping a chunk of the input matrix in scratch keeps the inputs. -/
theorem safe_keepWin (i : grid0.Coords) (h1 : k0_cond1 i = 1#1) (h2 : k0_cond2 i = 1#1) : Safe U defs 𝒱 c M X (keepWin M hM i h1 h2) := by
  unfold keepWin
  refine Safe.loadThen _ _ _ fun _ => Safe.loadThen _ _ _ fun _ => Safe.store _ (by decide) _ _ _ _

/-- Keeping a chunk of the output matrix in scratch keeps the inputs. -/
theorem safe_keepOut (i : grid0.Coords) (h1 : k0_cond1 i = 1#1) (h3 : k0_cond3 i = 1#1) : Safe U defs 𝒱 c M X (keepOut M hM i h1 h3) := by
  unfold keepOut
  refine Safe.loadThen _ _ _ fun _ => Safe.loadThen _ _ _ fun _ => Safe.store _ (by decide) _ _ _ _

/-- A point's loading of the weights keeps the inputs. -/
theorem safe_keep (i : grid0.Coords) : Safe U defs 𝒱 c M X (keep M hM i) := by
  unfold keep
  by_cases h1 : k0_cond1 i = 1#1 <;> by_cases h2 : k0_cond2 i = 1#1 <;> by_cases h3 : k0_cond3 i = 1#1 <;>
    simp only [h1, h2, h3, dif_pos, dif_neg, not_false_eq_true, pure_bind, bind_pure_unit]
  · exact Safe.bind (safe_keepWin i h1 h2) fun _ => safe_keepOut i h1 h3
  · exact safe_keepWin i h1 h2
  · exact safe_keepOut i h1 h3
  all_goals exact Safe.pure _

/-- Passing on the next block's up-projection keeps the inputs. -/
theorem safe_passUp : Safe U defs 𝒱 c M X (passUp M hM) := by
  unfold passUp
  refine Safe.loadThen _ _ _ fun _ => Safe.loadThen _ _ _ fun _ => Safe.store _ (by decide) _ _ _ _

/-- Passing on the next block's down-projection keeps the inputs. -/
theorem safe_passDown : Safe U defs 𝒱 c M X (passDown M hM) := by
  unfold passDown
  refine Safe.loadThen _ _ _ fun _ => Safe.loadThen _ _ _ fun _ => Safe.store _ (by decide) _ _ _ _

/-- Clearing the states keeps the inputs. -/
theorem safe_clear : Safe U defs 𝒱 c M X (clear M) := by
  unfold clear
  refine Safe.loadThen _ _ _ fun _ => Safe.store _ (by decide) _ _ _ _

/-- The projections of a tile keep the inputs. -/
theorem safe_subs : Safe U defs 𝒱 c M X (subs M hM) := by
  unfold subs
  refine Safe.bind (safe_sub (U := U) 0) fun _ => Safe.bind (safe_sub (U := U) 1) fun _ => Safe.bind (safe_sub (U := U) 2) fun _ => safe_sub 3

/-- The projections and the chunks of a tile keep the inputs. -/
theorem safe_rest : Safe U defs 𝒱 c M X (subs M hM >>= fun _ => chunks M hM) := Safe.bind safe_subs fun _ => safe_chunks

/-- The computation of a tile keeps the inputs. -/
theorem safe_tile (i : grid0.Coords) : Safe U defs 𝒱 c M X (tile M hM i) := by
  unfold tile
  by_cases h5 : k0_cond5 i = 1#1 <;> by_cases h6 : k0_cond6 i = 1#1 <;> by_cases h7 : first i = 1#1 <;>
    simp only [h5, h6, h7, dif_pos, dif_neg, not_false_eq_true, pure_bind]
  · exact Safe.bind safe_passUp fun _ => Safe.bind safe_passDown fun _ => Safe.bind safe_clear fun _ => safe_rest
  · exact Safe.bind safe_passUp fun _ => Safe.bind safe_passDown fun _ => safe_rest
  · exact Safe.bind safe_passUp fun _ => Safe.bind safe_clear fun _ => safe_rest
  · exact Safe.bind safe_passUp fun _ => safe_rest
  · exact Safe.bind safe_passDown fun _ => Safe.bind safe_clear fun _ => safe_rest
  · exact Safe.bind safe_passDown fun _ => safe_rest
  · exact Safe.bind safe_clear fun _ => safe_rest
  · exact safe_rest

/-- The body leaves the first ten operands. -/
theorem safe_body (i : grid0.Coords) : Safe U defs 𝒱 c M X (body M hM i) := by
  unfold body
  by_cases h : k0_cond4 i = 1#1
  · simp only [dif_pos h]; exact Safe.bind (safe_keep i) fun _ => safe_tile i
  · simp only [dif_neg h]; exact Safe.bind (safe_keep i) fun _ => Safe.pure _

end Cert.GlaTile

end
-- ==== Proof.GlaSame.lean ====
/- The printed body of the call is the body written with its loops. -/
module

public import proofs.«01_k».proof.Proof.GlaProgram
public import Idealize.ShloMosaic.Lib.Tactic

public section

set_option backward.proofsInPublic true
set_option maxRecDepth 100000

namespace Cert.GlaTile

open Idealize.ShloMosaic Idealize.ShloMosaic.TcCoe Idealize.ShloMosaic.Tactic Idealize.SL.Sem
open Cert.GlaIdeal

variable {F : FTy → Type} [FloatOps F]
variable (M : (k : Fin 23) → Memref sig .tc .vmem (shp k) (ety k)) (hM : ∀ k, (M k).IsWhole)

/-- The printed body is the body with its loops. -/
theorem flat_eq (i : grid0.Coords) :
    cc0_gla_mixer (F := F) i (M 0) (hM 0) (M 1) (hM 1) (M 2) (hM 2) (M 3) (hM 3) (M 4) (hM 4) (M 5) (hM 5) (M 6) (hM 6) (M 7) (hM 7) (M 8) (hM 8)
      (M 9) (hM 9) (M 10) (hM 10) (M 11) (hM 11) (M 12) (hM 12) (M 13) (hM 13) (M 14) (hM 14) (M 15) (hM 15) (M 16) (hM 16) (M 17) (hM 17)
      (M 18) (hM 18) (M 19) (hM 19) (M 20) (hM 20) (M 21) (hM 21) (M 22) (hM 22) = bodyFlat M hM i := by
  by_cases h4 : k0_cond4 i = 1#1
  · by_cases h5 : k0_cond5 i = 1#1 <;> by_cases h6 : k0_cond6 i = 1#1 <;> by_cases h7 : first i = 1#1 <;>
    · unfold bodyFlat tile
      simp only [dif_pos, dif_neg, h4, h5, h6, h7, not_false_eq_true]
      unfold first at h7
      unfold cc0_gla_mixer k0_part88 k0_part1
      simp only [dif_pos, dif_neg, h4, h5, h6, h7, not_false_eq_true]
      sl_kernel_rfl
  · unfold bodyFlat cc0_gla_mixer
    simp only [dif_neg h4]
    sl_kernel_rfl

/-- Returning nothing after a program changes nothing. -/
theorem bind_unit {E : Type → Type _} (p : Prog E PUnit) : (p >>= fun _ => pure PUnit.unit) = p := bind_pure_unit

/-- Its regions one after the other, without the empty steps between them. -/
theorem body_flat (i : grid0.Coords) : (bodyFlat M hM i : Prog (TpuEff nD τ sig (Elt F) Cert.GlaIdeal.Λ₀ .tc) PUnit) = body M hM i := by
  unfold bodyFlat body keep
  by_cases h1 : k0_cond1 i = 1#1 <;> by_cases h4 : k0_cond4 i = 1#1 <;> by_cases h2 : k0_cond2 i = 1#1 <;> by_cases h3 : k0_cond3 i = 1#1 <;>
    simp only [h1, h2, h3, h4, dif_pos, dif_neg, not_false_eq_true, bind_unit, pure_bind, bind_assoc, bind_pure_unit]

/-- The printed body is the rolled one. -/
theorem body_eq (i : grid0.Coords) : cc0_gla_mixer (F := F) i (M 0) (hM 0) (M 1) (hM 1) (M 2) (hM 2) (M 3) (hM 3) (M 4) (hM 4) (M 5) (hM 5) (M 6) (hM 6)
    (M 7) (hM 7) (M 8) (hM 8) (M 9) (hM 9) (M 10) (hM 10) (M 11) (hM 11) (M 12) (hM 12) (M 13) (hM 13) (M 14) (hM 14) (M 15) (hM 15) (M 16) (hM 16)
    (M 17) (hM 17) (M 18) (hM 18) (M 19) (hM 19) (M 20) (hM 20) (M 21) (hM 21) (M 22) (hM 22) = body M hM i := (flat_eq M hM i).trans (body_flat M hM i)

end Cert.GlaTile
-- ==== Proof.GlaFrame.lean ====
/- The launch of the gated linear attention, with nothing said of what it writes: its arguments stay. -/
module

public import proofs.«01_k».proof.Proof.Gen.GlaIdeal.Frame
public import proofs.«01_k».proof.Proof.GlaKeeps
public import proofs.«01_k».proof.Proof.GlaSame

@[expose] public section

set_option maxRecDepth 16384

noncomputable section

namespace Cert.GlaTile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GlaIdeal Cert.GlaIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The operands of the body at a point: the windows' buffers, then the scratch. -/
def ops (t : Fin cfg0.N) : (k : Fin 23) → Memref sig .tc .vmem (shp k) (ety k)
  | 0 => win0_0.stage (cfg0.slots t 0)
  | 1 => win0_1.stage (cfg0.slots t 1)
  | 2 => win0_2.stage (cfg0.slots t 2)
  | 3 => win0_3.stage (cfg0.slots t 3)
  | 4 => win0_4.stage (cfg0.slots t 4)
  | 5 => win0_5.stage (cfg0.slots t 5)
  | 6 => win0_6.stage (cfg0.slots t 6)
  | 7 => win0_7.stage (cfg0.slots t 7)
  | 8 => win0_8.stage (cfg0.slots t 8)
  | 9 => win0_9.stage (cfg0.slots t 9)
  | 10 => win0_10.stage (cfg0.slots t 10)
  | 11 => win0_11.stage (cfg0.slots t 11)
  | 12 => win0_12.stage (cfg0.slots t 12)
  | 13 => Memref.whole cc0_scratch0
  | 14 => Memref.whole cc0_scratch1
  | 15 => Memref.whole cc0_scratch2
  | 16 => Memref.whole cc0_scratch3
  | 17 => Memref.whole cc0_scratch4
  | 18 => Memref.whole cc0_scratch5
  | 19 => Memref.whole cc0_scratch6
  | 20 => Memref.whole cc0_scratch7
  | 21 => Memref.whole cc0_scratch8
  | 22 => Memref.whole cc0_scratch9
  | ⟨_ + 23, h⟩ => absurd h (Nat.not_lt.2 (Nat.le_add_left _ _))

/-- Each is a whole array. -/
theorem ops_whole (t : Fin cfg0.N) : ∀ k, (ops t k).IsWhole
  | 0 => hstage0_0 ((cfg0.slots t 0).cast nbuf0_0)
  | 1 => hstage0_1 ((cfg0.slots t 1).cast nbuf0_1)
  | 2 => hstage0_2 ((cfg0.slots t 2).cast nbuf0_2)
  | 3 => hstage0_3 ((cfg0.slots t 3).cast nbuf0_3)
  | 4 => hstage0_4 ((cfg0.slots t 4).cast nbuf0_4)
  | 5 => hstage0_5 ((cfg0.slots t 5).cast nbuf0_5)
  | 6 => hstage0_6 ((cfg0.slots t 6).cast nbuf0_6)
  | 7 => hstage0_7 ((cfg0.slots t 7).cast nbuf0_7)
  | 8 => hstage0_8 ((cfg0.slots t 8).cast nbuf0_8)
  | 9 => hstage0_9 ((cfg0.slots t 9).cast nbuf0_9)
  | 10 => hstage0_10 ((cfg0.slots t 10).cast nbuf0_10)
  | 11 => hstage0_11 ((cfg0.slots t 11).cast nbuf0_11)
  | 12 => hstage0_12 ((cfg0.slots t 12).cast nbuf0_12)
  | 13 => Memref.isWhole_whole _
  | 14 => Memref.isWhole_whole _
  | 15 => Memref.isWhole_whole _
  | 16 => Memref.isWhole_whole _
  | 17 => Memref.isWhole_whole _
  | 18 => Memref.isWhole_whole _
  | 19 => Memref.isWhole_whole _
  | 20 => Memref.isWhole_whole _
  | 21 => Memref.isWhole_whole _
  | 22 => Memref.isWhole_whole _
  | ⟨_ + 23, h⟩ => absurd h (Nat.not_lt.2 (Nat.le_add_left _ _))

/-- The 23 operands held together, written one after the other. -/
theorem held_chain (c : Dev nD) (t : Fin cfg0.N) (s : St F) : (held (U := UR sig nD τ) c (ops t) s : sProp 𝕄)
    = iprop(owns (c : Thread nD τ) (ops t 0) fullShare (s 0) ∗ owns (c : Thread nD τ) (ops t 1) fullShare (s 1) ∗ owns (c : Thread nD τ) (ops t 2) fullShare (s 2) ∗ owns (c : Thread nD τ) (ops t 3) fullShare (s 3) ∗ owns (c : Thread nD τ) (ops t 4) fullShare (s 4) ∗ owns (c : Thread nD τ) (ops t 5) fullShare (s 5) ∗ owns (c : Thread nD τ) (ops t 6) fullShare (s 6) ∗ owns (c : Thread nD τ) (ops t 7) fullShare (s 7) ∗ owns (c : Thread nD τ) (ops t 8) fullShare (s 8) ∗ owns (c : Thread nD τ) (ops t 9) fullShare (s 9) ∗ owns (c : Thread nD τ) (ops t 10) fullShare (s 10) ∗ owns (c : Thread nD τ) (ops t 11) fullShare (s 11) ∗ owns (c : Thread nD τ) (ops t 12) fullShare (s 12) ∗ owns (c : Thread nD τ) (ops t 13) fullShare (s 13) ∗ owns (c : Thread nD τ) (ops t 14) fullShare (s 14) ∗ owns (c : Thread nD τ) (ops t 15) fullShare (s 15) ∗ owns (c : Thread nD τ) (ops t 16) fullShare (s 16) ∗ owns (c : Thread nD τ) (ops t 17) fullShare (s 17) ∗ owns (c : Thread nD τ) (ops t 18) fullShare (s 18) ∗ owns (c : Thread nD τ) (ops t 19) fullShare (s 19) ∗ owns (c : Thread nD τ) (ops t 20) fullShare (s 20) ∗ owns (c : Thread nD τ) (ops t 21) fullShare (s 21) ∗ owns (c : Thread nD τ) (ops t 22) fullShare (s 22)) :=
  bigSep_univ_eq_bigSepL [(0 : Fin 23), (1 : Fin 23), (2 : Fin 23), (3 : Fin 23), (4 : Fin 23), (5 : Fin 23), (6 : Fin 23), (7 : Fin 23), (8 : Fin 23), (9 : Fin 23), (10 : Fin 23), (11 : Fin 23), (12 : Fin 23), (13 : Fin 23), (14 : Fin 23), (15 : Fin 23), (16 : Fin 23), (17 : Fin 23), (18 : Fin 23), (19 : Fin 23), (20 : Fin 23), (21 : Fin 23), (22 : Fin 23)] (by decide) (by decide) _

/-- What the body leaves in the windows: an input's block; of an output, nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
  Φ _ := Pipeline.ΦA spec0 c
  q _ := fullShare
  owed _ := 0

/-- The array behind an operand's window is the buffer the host left. -/
theorem A_eq (c : Dev nD) (w : Fin cfg0.W) : (dats m 0 c).A w = V m c (Pipeline.arrRef spec0 w) := by
  dsimp only [dats]

/-- The block of operand 0 a point finds is the one the host handed over. -/
theorem before_0 (c : Dev nD) (t : Fin cfg0.N) (d) : (dats m 0 c).before 0 t d = iblk m c 0 t :=
  before0_0_of m (dats m 0 c) (by dsimp only [dats]) (fun _ => by dsimp only [dats]) t d

/-- The block of operand 1 a point finds is the one the host handed over. -/
theorem before_1 (c : Dev nD) (t : Fin cfg0.N) (d) : (dats m 0 c).before 1 t d = iblk m c 1 t :=
  before0_1_of m (dats m 0 c) (by dsimp only [dats]) (fun _ => by dsimp only [dats]) t d

/-- The block of the input matrix a point finds. -/
theorem before_2 (c : Dev nD) (t : Fin cfg0.N) (d) : (dats m 0 c).before 2 t d = X0_2 m c t :=
  before0_2_of m (dats m 0 c) (by dsimp only [dats]) (fun _ => by dsimp only [dats]) t d

/-- The block of operand 3 a point finds is the one the host handed over. -/
theorem before_3 (c : Dev nD) (t : Fin cfg0.N) (d) : (dats m 0 c).before 3 t d = iblk m c 3 t :=
  before0_3_of m (dats m 0 c) (by dsimp only [dats]) (fun _ => by dsimp only [dats]) t d

/-- The block of operand 4 a point finds is the one the host handed over. -/
theorem before_4 (c : Dev nD) (t : Fin cfg0.N) (d) : (dats m 0 c).before 4 t d = iblk m c 4 t :=
  before0_4_of m (dats m 0 c) (by dsimp only [dats]) (fun _ => by dsimp only [dats]) t d

/-- The block of operand 5 a point finds is the one the host handed over. -/
theorem before_5 (c : Dev nD) (t : Fin cfg0.N) (d) : (dats m 0 c).before 5 t d = iblk m c 5 t :=
  before0_5_of m (dats m 0 c) (by dsimp only [dats]) (fun _ => by dsimp only [dats]) t d

/-- The block of operand 6 a point finds is the one the host handed over. -/
theorem before_6 (c : Dev nD) (t : Fin cfg0.N) (d) : (dats m 0 c).before 6 t d = iblk m c 6 t :=
  before0_6_of m (dats m 0 c) (by dsimp only [dats]) (fun _ => by dsimp only [dats]) t d

/-- The block of operand 7 a point finds is the one the host handed over. -/
theorem before_7 (c : Dev nD) (t : Fin cfg0.N) (d) : (dats m 0 c).before 7 t d = iblk m c 7 t :=
  before0_7_of m (dats m 0 c) (by dsimp only [dats]) (fun _ => by dsimp only [dats]) t d

/-- The block of operand 8 a point finds is the one the host handed over. -/
theorem before_8 (c : Dev nD) (t : Fin cfg0.N) (d) : (dats m 0 c).before 8 t d = iblk m c 8 t :=
  before0_8_of m (dats m 0 c) (by dsimp only [dats]) (fun _ => by dsimp only [dats]) t d

/-- The block of operand 9 a point finds is the one the host handed over. -/
theorem before_9 (c : Dev nD) (t : Fin cfg0.N) (d) : (dats m 0 c).before 9 t d = iblk m c 9 t :=
  before0_9_of m (dats m 0 c) (by dsimp only [dats]) (fun _ => by dsimp only [dats]) t d

/-- The three results are not followed. -/
def forgotten : Fin cfg0.W → Bool := fun w => decide (10 ≤ w.val)

/-- The scratch, and the generator's register. -/
theorem scratch_eq (c : Dev nD) : (Pipeline.ΦA spec0 c : sProp 𝕄)
    = iprop(((∃ d, owns (c : Thread nD τ) (Memref.whole cc0_scratch0 : Memref sig .tc .vmem _ _) fullShare d) ∗ (∃ d, owns (c : Thread nD τ) (Memref.whole cc0_scratch1 : Memref sig .tc .vmem _ _) fullShare d) ∗ (∃ d, owns (c : Thread nD τ) (Memref.whole cc0_scratch2 : Memref sig .tc .vmem _ _) fullShare d) ∗ (∃ d, owns (c : Thread nD τ) (Memref.whole cc0_scratch3 : Memref sig .tc .vmem _ _) fullShare d) ∗ (∃ d, owns (c : Thread nD τ) (Memref.whole cc0_scratch4 : Memref sig .tc .vmem _ _) fullShare d) ∗ (∃ d, owns (c : Thread nD τ) (Memref.whole cc0_scratch5 : Memref sig .tc .vmem _ _) fullShare d) ∗ (∃ d, owns (c : Thread nD τ) (Memref.whole cc0_scratch6 : Memref sig .tc .vmem _ _) fullShare d) ∗ (∃ d, owns (c : Thread nD τ) (Memref.whole cc0_scratch7 : Memref sig .tc .vmem _ _) fullShare d) ∗ (∃ d, owns (c : Thread nD τ) (Memref.whole cc0_scratch8 : Memref sig .tc .vmem _ _) fullShare d) ∗ (∃ d, owns (c : Thread nD τ) (Memref.whole cc0_scratch9 : Memref sig .tc .vmem _ _) fullShare d)) ∗ (∃ r, prngReg c r)) := by
  unfold Pipeline.ΦA; rw [scopedRest0_eq]; simp only [owns_whole]; try rfl

/-- A state with the inputs' blocks in it. -/
def entry (c : Dev nD) (t : Fin cfg0.N) (e10 : (shp 10).Idx → Elt F (ety 10)) (e11 : (shp 11).Idx → Elt F (ety 11)) (e12 : (shp 12).Idx → Elt F (ety 12)) (e13 : (shp 13).Idx → Elt F (ety 13)) (e14 : (shp 14).Idx → Elt F (ety 14)) (e15 : (shp 15).Idx → Elt F (ety 15)) (e16 : (shp 16).Idx → Elt F (ety 16)) (e17 : (shp 17).Idx → Elt F (ety 17)) (e18 : (shp 18).Idx → Elt F (ety 18)) (e19 : (shp 19).Idx → Elt F (ety 19)) (e20 : (shp 20).Idx → Elt F (ety 20)) (e21 : (shp 21).Idx → Elt F (ety 21)) (e22 : (shp 22).Idx → Elt F (ety 22)) : St F
  | 0 => iblk m c 0 t
  | 1 => iblk m c 1 t
  | 2 => X0_2 m c t
  | 3 => iblk m c 3 t
  | 4 => iblk m c 4 t
  | 5 => iblk m c 5 t
  | 6 => iblk m c 6 t
  | 7 => iblk m c 7 t
  | 8 => iblk m c 8 t
  | 9 => iblk m c 9 t
  | 10 => e10
  | 11 => e11
  | 12 => e12
  | 13 => e13
  | 14 => e14
  | 15 => e15
  | 16 => e16
  | 17 => e17
  | 18 => e18
  | 19 => e19
  | 20 => e20
  | 21 => e21
  | 22 => e22
  | ⟨_ + 23, h⟩ => absurd h (Nat.not_lt.2 (Nat.le_add_left _ _))

/-- After the body, the operands are handed back as the launch wants them. -/
theorem leave (c : Dev nD) (t : Fin cfg0.N) (e10 : (shp 10).Idx → Elt F (ety 10)) (e11 : (shp 11).Idx → Elt F (ety 11)) (e12 : (shp 12).Idx → Elt F (ety 12)) (e13 : (shp 13).Idx → Elt F (ety 13)) (e14 : (shp 14).Idx → Elt F (ety 14)) (e15 : (shp 15).Idx → Elt F (ety 15)) (e16 : (shp 16).Idx → Elt F (ety 16)) (e17 : (shp 17).Idx → Elt F (ety 17)) (e18 : (shp 18).Idx → Elt F (ety 18)) (e19 : (shp 19).Idx → Elt F (ety 19)) (e20 : (shp 20).Idx → Elt F (ety 20)) (e21 : (shp 21).Idx → Elt F (ety 21)) (e22 : (shp 22).Idx → Elt F (ety 22)) (s : St F) (hs : Keeps (entry m c t e10 e11 e12 e13 e14 e15 e16 e17 e18 e19 e20 e21 e22) s) :
    iprop(held (U := UR sig nD τ) c (ops t) s ∗ (∃ r, prngReg c r) ∗ (dats m 0 c).owesAt () t.castSucc) ⊢ (iprop(Pipeline.ΦA spec0 c ∗ (dats m 0 c).owesAt () t.castSucc ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ (∃ X, owns (c : Thread nD τ) (st0_10 t) fullShare X) ∗ (∃ X, owns (c : Thread nD τ) (st0_11 t) fullShare X) ∗ (∃ X, owns (c : Thread nD τ) (st0_12 t) fullShare X)) : sProp 𝕄) := by
  have q0 : s 0 = iblk m c 0 t := hs 0 (by decide)
  have q1 : s 1 = iblk m c 1 t := hs 1 (by decide)
  have q2 : s 2 = X0_2 m c t := hs 2 (by decide)
  have q3 : s 3 = iblk m c 3 t := hs 3 (by decide)
  have q4 : s 4 = iblk m c 4 t := hs 4 (by decide)
  have q5 : s 5 = iblk m c 5 t := hs 5 (by decide)
  have q6 : s 6 = iblk m c 6 t := hs 6 (by decide)
  have q7 : s 7 = iblk m c 7 t := hs 7 (by decide)
  have q8 : s 8 = iblk m c 8 t := hs 8 (by decide)
  have q9 : s 9 = iblk m c 9 t := hs 9 (by decide)
  rw [held_chain, q0, q1, q2, q3, q4, q5, q6, q7, q8, q9]
  rw [scratch_eq]
  iintro ⟨⟨H0, H1, H2, H3, H4, H5, H6, H7, H8, H9, H10, H11, H12, S0, S1, S2, S3, S4, S5, S6, S7, S8, S9⟩, Hg, Ho⟩
  isplitl [S0 S1 S2 S3 S4 S5 S6 S7 S8 S9 Hg]
  · isplitl [S0 S1 S2 S3 S4 S5 S6 S7 S8 S9]
    · isplitl [S0]
      · iexists _; iexact S0
      isplitl [S1]
      · iexists _; iexact S1
      isplitl [S2]
      · iexists _; iexact S2
      isplitl [S3]
      · iexists _; iexact S3
      isplitl [S4]
      · iexists _; iexact S4
      isplitl [S5]
      · iexists _; iexact S5
      isplitl [S6]
      · iexists _; iexact S6
      isplitl [S7]
      · iexists _; iexact S7
      isplitl [S8]
      · iexists _; iexact S8
      iexists _; iexact S9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iexists _; iexact H12

/-- A grid point runs and keeps what the launch asks of it. -/
theorem sound (c : Dev nD) (t : Fin cfg0.N) :
    iprop(Pipeline.ΦA spec0 c ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ X, owns (c : Thread nD τ) (st0_10 t) fullShare X) ∗ (∃ X, owns (c : Thread nD τ) (st0_11 t) fullShare X) ∗ (∃ X, owns (c : Thread nD τ) (st0_12 t) fullShare X))
      ⊢ wp frame (wpE (defs₀ (F := F)) Variants.none c none) Set.univ (body (ops t) (ops_whole t) (grid0.coords t))
        fun _ => (iprop(Pipeline.ΦA spec0 c ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ (∃ X, owns (c : Thread nD τ) (st0_10 t) fullShare X) ∗ (∃ X, owns (c : Thread nD τ) (st0_11 t) fullShare X) ∗ (∃ X, owns (c : Thread nD τ) (st0_12 t) fullShare X)) : sProp 𝕄) := by
  rw [show (dats m 0 c).owesAt () t.succ = (dats m 0 c).owesAt () t.castSucc from rfl]
  rw [show (iprop(Pipeline.ΦA spec0 c ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ X, owns (c : Thread nD τ) (st0_10 t) fullShare X) ∗ (∃ X, owns (c : Thread nD τ) (st0_11 t) fullShare X) ∗ (∃ X, owns (c : Thread nD τ) (st0_12 t) fullShare X)) : sProp 𝕄) = _ from by rw [scratch_eq]]
  simp only [before_0, before_1, before_2, before_3, before_4, before_5, before_6, before_7, before_8, before_9]
  iintro ⟨⟨⟨⟨%e13, S0⟩, ⟨%e14, S1⟩, ⟨%e15, S2⟩, ⟨%e16, S3⟩, ⟨%e17, S4⟩, ⟨%e18, S5⟩, ⟨%e19, S6⟩, ⟨%e20, S7⟩, ⟨%e21, S8⟩, ⟨%e22, S9⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%e10, H10⟩, ⟨%e11, H11⟩, ⟨%e12, H12⟩⟩
  have h := safe_body (U := UR sig nD τ) (defs := defs₀ (F := F)) (𝒱 := Variants.none) (c := c) (M := ops t) (hM := ops_whole t)
    (X := entry m c t e10 e11 e12 e13 e14 e15 e16 e17 e18 e19 e20 e21 e22) (grid0.coords t) (entry m c t e10 e11 e12 e13 e14 e15 e16 e17 e18 e19 e20 e21 e22) fun _ _ => rfl
  rw [held_chain] at h
  iapply (wp_wand_r _ _)
  isplitl [H0 H1 H2 H3 H4 H5 H6 H7 H8 H9 H10 H11 H12 S0 S1 S2 S3 S4 S5 S6 S7 S8 S9]
  · iapply h
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  iintro %a ⟨%s, %hs, H⟩
  iapply (leave m c t _ _ _ _ _ _ _ _ _ _ _ _ _ s hs)
  isplitl [H]; · iexact H
  isplitl [Hg]; · iexact Hg
  iexact Ho

/-- The body the launch runs at a point is the body with its loops. -/
theorem row (t : Fin cfg0.N) : defs₀ (F := F) .tc cfg0.body (cfg0.bodyArgs t (cfg0.slots t)) = body (ops t) (ops_whole t) (grid0.coords t) := by
  refine Eq.trans ?_ (body_eq (ops t) (ops_whole t) (grid0.coords t))
  unfold defs₀; rw [Defs.onTc_tc]; rfl

/-- Every grid point meets the launch's obligation. -/
theorem obligation (c : Dev nD) : BodyObligation (dats (F := F) m 0 c) (defs₀ (F := F)) Variants.none () Set.univ forgotten := fun t => by
  rw [bigSep_W0, bigSep_W0, row]
  exact triple_restated (sound m c t) rfl .rfl fun _ => .rfl

set_option backward.isDefEq.respectTransparency.types false in
/-- The whole program runs and its inputs are left as they were. -/
theorem launched : θ_run defs (onTc (τ := τ) (main (F := F))) (s₀ m ρ) (fun r =>
    Pipeline.RDat.FramePost cfg0 (fun c => (dats m 0 c).toRForget forgotten) (V m) r ∧ r.2.sem = fun _ => 0) :=
  Pipeline.θ_run_frame_forget (Q' := _) cfgs (dats m) (0 : Fin 1) launch0 defs₀ Variants.none forgotten m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- Every run ends, with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1.arr_in c 2 rfl).trans (A_eq m c 2)).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1.arr_in c 7 rfl).trans (A_eq m c 7)).trans (V_main_arg6 m c),
    ((h.1.arr_in c 8 rfl).trans (A_eq m c 8)).trans (V_main_arg7 m c),
    ((h.1.arr_in c 9 rfl).trans (A_eq m c 9)).trans (V_main_arg8 m c)⟩, h.2⟩) (launched m ρ)

end Cert.GlaTile

end
-- ==== Proof.GlaBits.lean ====
/- The launch as the kernel prints it, at its own types: the same program, so the same statement. -/
module

public import proofs.«01_k».proof.Defs
public import proofs.«01_k».proof.Proof.Gen.Gla
public import proofs.«01_k».proof.Proof.GlaFrame

@[expose] public section

noncomputable section

namespace Cert.GlaTile

open Idealize.ShloMosaic Idealize.ShloMosaic.TcCoe Idealize.ShloMosaic.Tactic

/-- Every run of the kernel as printed ends, with the arguments as they were and every semaphore at zero. -/
theorem frame_bits : quiescent_Gla := by
  have h : (∀ (m : (ℓ : Loc Cert.GlaIdeal.nD Cert.GlaIdeal.τ Cert.GlaIdeal.sig) → Buf (Elt Bits) ℓ) (g : Dev Cert.GlaIdeal.nD → PrngReg), True →
      θ_run (Cert.GlaIdeal.defs (F := Bits)) (onTc (τ := Cert.GlaIdeal.τ) (Cert.GlaIdeal.main (F := Bits))) ⟨m, fun _ => 0, g⟩ (fun r => (∀ c : Dev Cert.GlaIdeal.nD,
r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
      ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7)
      ∧ r.2.mem ((c.tc : Thread Cert.GlaIdeal.nD Cert.GlaIdeal.τ).loc Cert.GlaIdeal.main_arg8) = m ((c.tc : Thread Cert.GlaIdeal.nD Cert.GlaIdeal.τ).loc Cert.GlaIdeal.main_arg8)) ∧ r.2.sem = fun _ => 0)) = quiescent_Gla := by
    sl_kernel_rfl
  exact cast h fun m g _ => frame m g

end Cert.GlaTile

end
-- ==== Proof.GlaSpec.lean ====
/- The gated linear attention as a function of rows: what a row projects to, what a chunk of 64 rows does to the states of the four
   heads, and what it gives back. -/
module

public import proofs.«01_k».proof.Proof.Spec

@[expose] public section

noncomputable section

namespace Cert.GlaTile

open Idealize.ShloMosaic Cert.ConvFfn
open scoped BigOperators

/-- A row of 1024 numbers. -/
abbrev Row : Type := Fin 1024 → EReal

/-- The weights: the norm's scale, the six slices of the first matrix, the gate's two matrices and bias, the output norm's scale
    and the output matrix. -/
structure Weights where
  g : Row
  win : Fin 6 → Fin 1024 → Fin 512 → EReal
  wl : Fin 1024 → Fin 128 → EReal
  w2 : Fin 128 → Fin 512 → EReal
  bg : Fin 512 → EReal
  ng : Row
  wout : Fin 1024 → Row

/-- A row through a slice of the first matrix. -/
def projRow (w : Fin 1024 → Fin 512 → EReal) (h : Row) (j : Fin 512) : EReal := ∑ l, h l * w l j

/-- The gate's argument for a normalised row. -/
def argRow (wl : Fin 1024 → Fin 128 → EReal) (w2 : Fin 128 → Fin 512 → EReal) (bg : Fin 512 → EReal) (h : Row) (j : Fin 512) : EReal :=
  (∑ a, (∑ l, h l * wl l a) * w2 a j) + bg j

/-- The logarithm of the logistic function, over sixteen. -/
def logGate (z : EReal) : EReal :=
  (min z 0 - Ideal.log (1 + Ideal.exp (0 - max z (-z)))) * Ideal.ofBits .f32 0x3D800000#32

/-- A number times its logistic. -/
def swish (p : EReal) : EReal := p * Ideal.div 1 (1 + Ideal.exp (-p))

/-- The half and the place of a column. -/
def half (e : Fin 1024) : Fin 2 := ⟨e.val / 512, by omega⟩
def place (e : Fin 1024) : Fin 512 := ⟨e.val % 512, by omega⟩

variable (W : Weights)

/-- A row, normalised. -/
def hRow (x : Row) : Row := rmsRow x W.g
/-- Its queries, keys, gates, values and output gates. -/
def qRow (x : Row) (j : Fin 512) : EReal := projRow (W.win 0) (hRow W x) j * Ideal.ofBits .f32 0x3DB504F3#32
def kRow (x : Row) (j : Fin 512) : EReal := projRow (W.win 1) (hRow W x) j
def gRow (x : Row) (j : Fin 512) : EReal := logGate (argRow W.wl W.w2 W.bg (hRow W x) j)
def vRow (x : Row) (e : Fin 1024) : EReal := projRow (W.win ⟨2 + (half e).val, by omega⟩) (hRow W x) (place e)
def oRow (x : Row) (e : Fin 1024) : EReal := swish (projRow (W.win ⟨4 + (half e).val, by omega⟩) (hRow W x) (place e)) * W.ng e

/-- A head's column among 512, and among 1024. -/
def at128 (h : Fin 4) (a : Fin 128) : Fin 512 := ⟨128 * h.val + a.val, by omega⟩
def at256 (h : Fin 4) (e : Fin 256) : Fin 1024 := ⟨256 * h.val + e.val, by omega⟩

/-- The running sum of a column of 64. -/
def run (g : Fin 64 → EReal) (i : Fin 64) : EReal := ∑ i' : Fin 64, if i'.val ≤ i.val then g i' else 0

/-- The states of the four heads. -/
abbrev Heads : Type := Fin 4 → Fin 128 → Fin 256 → EReal

/-- A head's state after a chunk, from the running sums, the keys and the head's values. -/
def nextAt (b k : Fin 64 → Fin 512 → EReal) (v : Fin 64 → Fin 256 → EReal) (S : Fin 128 → Fin 256 → EReal) (h : Fin 4) (a : Fin 128) (e : Fin 256) : EReal :=
  S a e * Ideal.exp (b 63 (at128 h a))
    + ∑ i, (k i (at128 h a) * Ideal.exp (b 63 (at128 h a) - b i (at128 h a))) * v i e

/-- A head's score of a row against another. -/
def scoreAt (b k q : Fin 64 → Fin 512 → EReal) (h : Fin 4) (i i' : Fin 64) : EReal :=
  if i'.val ≤ i.val then
    ∑ a, (q i (at128 h a) * Ideal.exp (b i (at128 h a))) * (k i' (at128 h a) * Ideal.exp (0 - b i' (at128 h a)))
  else 0

/-- A head's rows of output: the state read by the queries, and the scores against the values. -/
def mixAt (b k q : Fin 64 → Fin 512 → EReal) (v : Fin 64 → Fin 256 → EReal) (S : Fin 128 → Fin 256 → EReal) (h : Fin 4) (i : Fin 64) (e : Fin 256) : EReal :=
  (∑ a, (q i (at128 h a) * Ideal.exp (b i (at128 h a))) * S a e)
    + ∑ i', scoreAt b k q h i i' * v i' e

/-- The row over its root mean square, times the gate. -/
def gatedAt (o g : Fin 256 → EReal) (e : Fin 256) : EReal :=
  o e * Ideal.rsqrt (Ideal.div (∑ l, o l * o l) (Ideal.ofBits .f32 0x43800000#32) + Ideal.ofBits .f32 0x358637BD#32) * g e

/-- The running sums of a chunk's gates. -/
def bOf (x : Fin 64 → Row) (i : Fin 64) (j : Fin 512) : EReal := run (fun i' => gRow W (x i') j) i

/-- The states after a chunk. -/
def nextS (x : Fin 64 → Row) (S : Heads) : Heads := fun h =>
  nextAt (bOf W x) (fun i => kRow W (x i)) (fun i e => vRow W (x i) (at256 h e)) (S h) h

/-- The chunk's rows before the output matrix. -/
def yOf (x : Fin 64 → Row) (S : Heads) (i : Fin 64) (h : Fin 4) (e : Fin 256) : EReal :=
  gatedAt (mixAt (bOf W x) (fun i => kRow W (x i)) (fun i => qRow W (x i)) (fun i e => vRow W (x i) (at256 h e)) (S h) h i)
    (fun e => oRow W (x i) (at256 h e)) e

/-- The head and the place of a column. -/
def hd (e : Fin 1024) : Fin 4 := ⟨e.val / 256, by omega⟩
def pl (e : Fin 1024) : Fin 256 := ⟨e.val % 256, by omega⟩

/-- A row of a chunk's result. -/
def outOf (x : Fin 64 → Row) (S : Heads) (i : Fin 64) (d : Fin 1024) : EReal :=
  x i d + ∑ e, yOf W x S i (hd e) (pl e) * W.wout e d

/-- The rows of chunk `n`. -/
def chunkOf (x : ℕ → Row) (n : ℕ) (i : Fin 64) : Row := x (64 * n + i.val)

/-- The states before chunk `n` of a sequence of rows, begun at `S`. -/
def statesAt (x : ℕ → Row) (S : Heads) : ℕ → Heads
  | 0 => S
  | n + 1 => nextS W (chunkOf x n) (statesAt x S n)

/-- A row of the layer's result, begun at `S`. -/
def rowOut (x : ℕ → Row) (S : Heads) (r : ℕ) (d : Fin 1024) : EReal :=
  outOf W (chunkOf x (r / 64)) (statesAt W x S (r / 64)) ⟨r % 64, by omega⟩ d

/-- Chunks after the first `p` are those of the rows after them, begun at the state then reached. -/
theorem statesAt_add (x : ℕ → Row) (S : Heads) (p n : ℕ) :
    statesAt W x S (p + n) = statesAt W (fun r => x (64 * p + r)) (statesAt W x S p) n := by
  induction n with
  | zero => rfl
  | succ n ih =>
    show nextS W (chunkOf x (p + n)) (statesAt W x S (p + n)) = nextS W _ _
    rw [ih]
    congr 1
    funext i
    exact congrArg x (by omega)

/-- A row of the result, read from the chunk it is `p` chunks after. -/
theorem rowOut_add (x : ℕ → Row) (S : Heads) (p r : ℕ) (d : Fin 1024) :
    rowOut W x S (64 * p + r) d = rowOut W (fun r => x (64 * p + r)) (statesAt W x S p) r d := by
  unfold rowOut
  have e : (64 * p + r) / 64 = p + r / 64 := by omega
  have e' : (64 * p + r) % 64 = r % 64 := by omega
  simp only [e, e', statesAt_add]
  congr 1
  funext i
  exact congrArg x (by omega)

end Cert.GlaTile

end
-- ==== Proof.GlaRef.lean ====
/- The arrays the gated linear attention's reference computes, and what each holds at an index. -/
module

public import proofs.«01_k».proof.Proof.GlaSpec
public import proofs.«01_k».proof.Proof.Ref
public import proofs.«01_k».proof.Proof.Gen.GlaReferenceIdeal.Run

@[expose] public section

set_option maxRecDepth 16384

noncomputable section

namespace Cert.GlaRef

open Idealize.ShloMosaic Idealize.ShloMosaic.TcCoe Idealize.ShloMosaic.StableHlo
open Idealize.ShloMosaic.Tactic
open Cert.GlaReferenceIdeal Cert.GlaReferenceIdeal.Gen Cert.ConvFfn Cert.GlaTile
open scoped BigOperators

/-- The normalised rows through the first matrix. -/
def proj (h : FVec Ideal S8x4096x1024 .f32) (w : FVec Ideal S1x1024x3088 .f32) : FVec Ideal S8x4096x3088 .f32 :=
  Host.dotGeneral dot_S8x4096x1024_S1024x3088_S8x4096x3088_2_0_01_1_n_n none h (shapeCast S1024x3088 w shapeCasts_S1x1024x3088_S1024x3088)

/-- An entry of the reference's projection is a sum over the normed row. -/
theorem proj_apply (h : FVec Ideal S8x4096x1024 .f32) (w : FVec Ideal S1x1024x3088 .f32) (b : Fin 8) (s : Fin 4096) (j : Fin 3088) :
    proj h w (ix3 b s j) = ∑ l : Fin 1024, h (ix3 b s l) * w (ix3 0 l j) := by
  unfold proj
  pointwise

/-- The gates' arguments. -/
def arg (P : FVec Ideal S8x4096x3088 .f32) (w : FVec Ideal S16x512 .f32) (g : FVec Ideal S512 .f32) : FVec Ideal S8x4096x512 .f32 :=
  addf (Host.dotGeneral dot_S8x4096x16_S16x512_S8x4096x512_2_0_01_1_n_n none
      (extractStridedSlice S8x4096x16 ![0, 0, 3072] P slices_S8x4096x3088_S8x4096x16_0_0_3072) w)
    (broadcastInDim S8x4096x512 ![0, 1, 2] bcast_S1x1x512_S8x4096x512_0_1_2 (broadcastInDim S1x1x512 ![2] bcast_S512_S1x1x512_2 g))

/-- An entry of the gate's argument: the low-rank product plus the bias. -/
theorem arg_apply (P : FVec Ideal S8x4096x3088 .f32) (w : FVec Ideal S16x512 .f32) (g : FVec Ideal S512 .f32) (b : Fin 8) (s : Fin 4096) (j : Fin 512) :
    arg P w g (ix3 b s j) = (∑ a : Fin 16, P (ix3 b s ⟨3072 + a.val, by omega⟩) * w (ix2 a j)) + g (ix1 j) := by
  unfold arg
  pointwise

/-- The softplus of a number is never minus infinity. -/
theorem soft_ne_bot (u : EReal) : Ideal.log (1 + Ideal.exp u) ≠ ⊥ := by
  induction u with
  | bot =>
    rw [show Ideal.exp ⊥ = 0 from rfl, add_zero, show (1 : EReal) = ((1 : ℝ) : EReal) from rfl]
    show (if (1 : ℝ) ≤ 0 then (⊥ : EReal) else (Real.log 1 : EReal)) ≠ ⊥
    rw [if_neg (by norm_num)]
    exact EReal.coe_ne_bot _
  | top =>
    rw [show Ideal.exp ⊤ = ⊤ from rfl, show (1 : EReal) = ((1 : ℝ) : EReal) from rfl, EReal.coe_add_top]
    exact bot_ne_top.symm
  | coe r =>
    rw [show Ideal.exp (r : EReal) = ((Real.exp r : ℝ) : EReal) from rfl, show (1 : EReal) = ((1 : ℝ) : EReal) from rfl, ← EReal.coe_add]
    show (if 1 + Real.exp r ≤ 0 then (⊥ : EReal) else (Real.log (1 + Real.exp r) : EReal)) ≠ ⊥
    rw [if_neg (by have := Real.exp_pos r; linarith)]
    exact EReal.coe_ne_bot _

/-- Dividing by sixteen is multiplying by its inverse. -/
theorem div_sixteen (x : EReal) : Ideal.div x (Ideal.ofBits .f32 0x41800000#32) = x * Ideal.ofBits .f32 0x3D800000#32 := by
  have h1 : Ideal.ofBits .f32 0x41800000#32 = ((16 : ℝ) : EReal) := by
    simp [Ideal.ofBits, Ideal.ieee, -EReal.coe_mul]; norm_num
  have h2 : Ideal.ofBits .f32 0x3D800000#32 = (((16 : ℝ)⁻¹ : ℝ) : EReal) := by
    simp [Ideal.ofBits, Ideal.ieee, -EReal.coe_mul]; norm_num
  rw [h1, h2, EReal.coe_inv]
  unfold Ideal.div
  rw [if_neg (by exact_mod_cast (by norm_num : (16 : ℝ) ≠ 0))]

/-- The gate as the reference takes it and as the kernel does. -/
theorem gate_same (z : EReal) : Ideal.div (-(max (-z) 0 + Ideal.log1p (Ideal.exp (-FloatOps.absf (F := Ideal) (φ := .f32) (-z)))))
    (Ideal.ofBits .f32 0x41800000#32) = logGate z := by
  rw [div_sixteen]
  unfold logGate
  congr 1
  have ha : FloatOps.absf (F := Ideal) (φ := .f32) (-z) = max z (-z) := by
    show max (-z) (- -z) = _
    rw [neg_neg, max_comm]
  rw [ha, show Ideal.log1p _ = Ideal.log (1 + Ideal.exp (-max z (-z))) from rfl,
    EReal.neg_add (Or.inl (ne_of_gt (lt_of_lt_of_le EReal.bot_lt_zero (le_max_right _ _)))) (Or.inr (soft_ne_bot _)), zero_sub]
  congr 1
  rcases le_total z 0 with h | h
  · rw [min_eq_left h, max_eq_left (by simpa using EReal.neg_le_neg_iff.mpr h), neg_neg]
  · rw [min_eq_right h, max_eq_right (by simpa using EReal.neg_le_neg_iff.mpr h), neg_zero]

/-- The zeros the gates are compared with. -/
def zeros : FVec Ideal S8x4096x512 .f32 := broadcastInDim S8x4096x512 ![] bcast_S_S8x4096x512 (constant S_ .f32 0x00000000#32)

/-- The logarithms of the logistic function. -/
def logistic (Z : FVec Ideal S8x4096x512 .f32) : FVec Ideal S8x4096x512 .f32 :=
  Host.negf (select (cmpf .une (subf (Host.negf Z) zeros) (subf (Host.negf Z) zeros)) (addf (Host.negf Z) zeros)
    (addf (maximumf (Host.negf Z) zeros) (Host.log1p (Host.exp (Host.negf (Host.absf (subf (Host.negf Z) zeros)))))))

/-- The gates: the logarithms over sixteen. -/
def gates (L : FVec Ideal S8x4096x512 .f32) : FVec Ideal S8x4096x512 .f32 :=
  Host.divf L (broadcastInDim S8x4096x512 ![] bcast_S_S8x4096x512 (constant S_ .f32 0x41800000#32))

/-- An entry of the gates is the layer's logarithmic gate. -/
theorem gates_apply (Z : FVec Ideal S8x4096x512 .f32) (b : Fin 8) (s : Fin 4096) (j : Fin 512) : gates (logistic Z) (ix3 b s j) = logGate (Z (ix3 b s j)) := by
  unfold gates logistic zeros
  pointwise
  rw [if_neg (by simp)]
  exact gate_same _

/-- Columns of 512 as four heads' chunks. -/
def heads (A : FVec Ideal S8x4096x512 .f32) : FVec Ideal S8x4x64x64x128 .f32 :=
  transpose S8x4x64x64x128 [0, 3, 1, 2, 4] (shapeCast S8x64x64x4x128 A shapeCasts_S8x4096x512_S8x64x64x4x128)
    transposes_S8x64x64x4x128_S8x4x64x64x128_0_3_1_2_4

/-- An entry of an array of 512 columns split into heads and chunks. -/
theorem heads_apply (A : FVec Ideal S8x4096x512 .f32) (b : Fin 8) (h : Fin 4) (n i : Fin 64) (a : Fin 128) :
    heads A (ix5 b h n i a) = A (ix3 b ⟨64 * n.val + i.val, by omega⟩ (at128 h a)) := by
  unfold heads at128
  pointwise
  rw [show (⟨n.val * 64 + i.val, by omega⟩ : Fin 4096) = ⟨64 * n.val + i.val, by omega⟩ from Fin.ext (by simp; omega),
    show (⟨h.val * 128 + a.val, by omega⟩ : Fin 512) = ⟨128 * h.val + a.val, by omega⟩ from Fin.ext (by simp; omega)]

/-- Columns of 1024 as four heads' chunks. -/
def wide (A : FVec Ideal S8x4096x1024 .f32) : FVec Ideal S8x4x64x64x256 .f32 :=
  transpose S8x4x64x64x256 [0, 3, 1, 2, 4] (shapeCast S8x64x64x4x256 A shapeCasts_S8x4096x1024_S8x64x64x4x256)
    transposes_S8x64x64x4x256_S8x4x64x64x256_0_3_1_2_4

/-- An entry of an array of 1024 columns split into heads and chunks. -/
theorem wide_apply (A : FVec Ideal S8x4096x1024 .f32) (b : Fin 8) (h : Fin 4) (n i : Fin 64) (e : Fin 256) :
    wide A (ix5 b h n i e) = A (ix3 b ⟨64 * n.val + i.val, by omega⟩ (at256 h e)) := by
  unfold wide at256
  pointwise
  rw [show (⟨n.val * 64 + i.val, by omega⟩ : Fin 4096) = ⟨64 * n.val + i.val, by omega⟩ from Fin.ext (by simp; omega),
    show (⟨h.val * 256 + e.val, by omega⟩ : Fin 1024) = ⟨256 * h.val + e.val, by omega⟩ from Fin.ext (by simp; omega)]

/-- The queries, scaled. -/
def queries (Q : FVec Ideal S8x4x64x64x128 .f32) : FVec Ideal S8x4x64x64x128 .f32 :=
  mulf Q (broadcastInDim S8x4x64x64x128 ![] bcast_S_S8x4x64x64x128 (constant S_ .f32 0x3DB504F3#32))

/-- An entry of the queries is scaled. -/
theorem queries_apply (Q : FVec Ideal S8x4x64x64x128 .f32) (b : Fin 8) (h : Fin 4) (n i : Fin 64) (a : Fin 128) :
    queries Q (ix5 b h n i a) = Q (ix5 b h n i a) * Ideal.ofBits .f32 0x3DB504F3#32 := by
  unfold queries
  pointwise

/-- A fold that adds is a sum. -/
theorem fold_sum {n : Nat} (f : Fin n → EReal) (v : EReal) : (List.finRange n).foldl (fun r k => r + f k) v = v + ∑ k, f k := by
  rw [Fin.sum_univ_def]
  generalize List.finRange n = l
  induction l generalizing v with
  | nil => simp
  | cons k l ih => rw [List.foldl_cons, ih, List.map_cons, List.sum_cons, add_assoc]

/-- A window's positions along its one long axis. -/
def spot (x : Fin 64) : Shape.Idx ⟨5, ![1, 1, 1, 64, 1]⟩ := ix5 (n0 := 1) (n1 := 1) (n2 := 1) (n3 := 64) (n4 := 1) 0 0 0 x 0

/-- The places of the summed window are numbered without repetition. -/
theorem spot_bijective : Function.Bijective spot := by
  constructor
  · intro x y h
    exact congrFun h 3
  · intro j
    refine ⟨j 3, (eq_ix5 j ▸ ?_)⟩
    have h0 : j 0 = (0 : Fin 1) := Subsingleton.elim (α := Fin 1) _ _
    have h1 : j 1 = (0 : Fin 1) := Subsingleton.elim (α := Fin 1) _ _
    have h2 : j 2 = (0 : Fin 1) := Subsingleton.elim (α := Fin 1) _ _
    have h4 : j 4 = (0 : Fin 1) := Subsingleton.elim (α := Fin 1) _ _
    rw [h0, h1, h2, h4]
    rfl

/-- A sum over the places of a window that lie in the array is the sum over the places up to its end. -/
theorem slide (g : Fin 64 → EReal) (i : Fin 64) : (∑ x : Fin 64, if h : 63 ≤ i.val + x.val then g ⟨i.val + x.val - 63, by omega⟩ else 0)
    = ∑ i' : Fin 64, if i'.val ≤ i.val then g i' else 0 := by
  refine Finset.sum_bij_ne_zero (fun x _ _ => if h : 63 ≤ i.val + x.val then (⟨i.val + x.val - 63, by omega⟩ : Fin 64) else 0) ?_ ?_ ?_ ?_
  · intros; exact Finset.mem_univ _
  · intro x _ hx y _ hy hxy
    by_cases h1 : 63 ≤ i.val + x.val
    · by_cases h2 : 63 ≤ i.val + y.val
      · rw [dif_pos h1, dif_pos h2] at hxy
        have := congrArg Fin.val hxy
        dsimp only at this
        exact Fin.ext (by omega)
      · exact absurd (dif_neg h2) hy
    · exact absurd (dif_neg h1) hx
  · intro i' _ hi
    by_cases h : i'.val ≤ i.val
    · have h' : 63 ≤ i.val + (63 - i.val + i'.val) := by omega
      have e : (⟨i.val + (63 - i.val + i'.val) - 63, by omega⟩ : Fin 64) = i' := Fin.ext (by dsimp only; omega)
      rw [if_pos h] at hi
      refine ⟨⟨63 - i.val + i'.val, by omega⟩, Finset.mem_univ _, ?_, ?_⟩
      · rw [dif_pos h', e]; exact hi
      · rw [dif_pos h', e]
    · exact absurd (if_neg h) hi
  · intro x _ hx
    by_cases h1 : 63 ≤ i.val + x.val
    · rw [dif_pos h1, dif_pos h1, if_pos (by dsimp only; omega)]
    · exact absurd (dif_neg h1) hx

/-- What a position of a window holds. -/
theorem cell (G : FVec Ideal S8x4x64x64x128 .f32) (b : Fin 8) (h : Fin 4) (n i : Fin 64) (a : Fin 128) (hr : (5 : ℕ) = 5)
    (w : Shape.Idx ⟨5, ![1, 1, 1, 64, 1]⟩) :
    (if hin : ∀ c : Fin 5, (![0, 0, 0, 63, 0] : Fin 5 → ℕ) c ≤ ((ix5 b h n i a : S8x4x64x64x128.Idx) (c.cast hr)).val * (![1, 1, 1, 1, 1] : Fin 5 → ℕ) c + (w c).val
        ∧ ((ix5 b h n i a : S8x4x64x64x128.Idx) (c.cast hr)).val * (![1, 1, 1, 1, 1] : Fin 5 → ℕ) c + (w c).val - (![0, 0, 0, 63, 0] : Fin 5 → ℕ) c < S8x4x64x64x128.size c
      then G (fun c => ⟨((ix5 b h n i a : S8x4x64x64x128.Idx) (c.cast hr)).val * (![1, 1, 1, 1, 1] : Fin 5 → ℕ) c + (w c).val - (![0, 0, 0, 63, 0] : Fin 5 → ℕ) c, (hin c).2⟩)
      else 0) = if hin : 63 ≤ i.val + (w 3).val then G (ix5 b h n ⟨i.val + (w 3).val - 63, by have : (w 3).val < 64 := (w 3).isLt; omega⟩ a) else 0 := by
  obtain ⟨x, rfl⟩ := spot_bijective.2 w
  by_cases h63 : 63 ≤ i.val + x.val
  · rw [dif_pos (show 63 ≤ i.val + (spot x 3).val from h63), dif_pos ?_]
    · congr 1
      funext c
      fin_cases c
      · exact Fin.ext (show b.val * 1 + 0 - 0 = b.val by omega)
      · exact Fin.ext (show h.val * 1 + 0 - 0 = h.val by omega)
      · exact Fin.ext (show n.val * 1 + 0 - 0 = n.val by omega)
      · exact Fin.ext (show i.val * 1 + x.val - 63 = i.val + x.val - 63 by omega)
      · exact Fin.ext (show a.val * 1 + 0 - 0 = a.val by omega)
    · intro c
      fin_cases c
      · exact (show 0 ≤ b.val * 1 + 0 ∧ b.val * 1 + 0 - 0 < 8 by omega)
      · exact (show 0 ≤ h.val * 1 + 0 ∧ h.val * 1 + 0 - 0 < 4 by omega)
      · exact (show 0 ≤ n.val * 1 + 0 ∧ n.val * 1 + 0 - 0 < 64 by omega)
      · exact (show 63 ≤ i.val * 1 + x.val ∧ i.val * 1 + x.val - 63 < 64 by omega)
      · exact (show 0 ≤ a.val * 1 + 0 ∧ a.val * 1 + 0 - 0 < 128 by omega)
  · rw [dif_neg (show ¬ 63 ≤ i.val + (spot x 3).val from h63), dif_neg ?_]
    intro hin
    have := (hin 3).1
    exact h63 (by have e : 63 ≤ i.val * 1 + x.val := this; omega)

/-- A sum over the windows that end at a place is the running sum. -/
theorem window_same (G : FVec Ideal S8x4x64x64x128 .f32) (z : S_.Idx → Ideal .f32)
    (hw : S8x4x64x64x128.ReduceWindows ![1, 1, 1, 64, 1] ![1, 1, 1, 1, 1] ![0, 0, 0, 63, 0] ![0, 0, 0, 0, 0] S8x4x64x64x128)
    (b : Fin 8) (h : Fin 4) (n i : Fin 64) (a : Fin 128) (hz : z (Shape.Idx.first h_S_) = 0) :
    Host.reduceWindowAdd (F := Ideal) ![1, 1, 1, 64, 1] ![1, 1, 1, 1, 1] ![0, 0, 0, 63, 0] ![0, 0, 0, 0, 0] G z hw h_S_ (ix5 b h n i a)
      = ∑ i' : Fin 64, if i'.val ≤ i.val then G (ix5 b h n i' a) else 0 := by
  show Ideal.hostReduceWindowAdd _ _ _ _ hw G (z (Shape.Idx.first h_S_)) (ix5 b h n i a) = _
  rw [hz]
  unfold Ideal.hostReduceWindowAdd Host.reduceWindow
  dsimp only
  rw [fold_sum, zero_add, ← slide (fun i' => G (ix5 b h n i' a)) i]
  refine (Fintype.sum_equiv (Shape.rowMajor ⟨5, ![1, 1, 1, 64, 1]⟩).symm _ (fun w : Shape.Idx ⟨5, ![1, 1, 1, 64, 1]⟩ =>
    if hin : 63 ≤ i.val + (w 3).val then G (ix5 b h n ⟨i.val + (w 3).val - 63, by have : (w 3).val < 64 := (w 3).isLt; omega⟩ a) else 0) ?_).trans ?_
  · intro k
    convert cell G b h n i a rfl ((Shape.rowMajor ⟨5, ![1, 1, 1, 64, 1]⟩).symm k)
  · exact (Fintype.sum_bijective spot spot_bijective _ _ fun x => rfl).symm

/-- The running sums. -/
def sums (G : FVec Ideal S8x4x64x64x128 .f32) : FVec Ideal S8x4x64x64x128 .f32 :=
  Host.reduceWindowAdd ![1, 1, 1, 64, 1] ![1, 1, 1, 1, 1] ![0, 0, 0, 63, 0] ![0, 0, 0, 0, 0] G (broadcastInDim S_ ![] bcast_S_S_ (constant S_ .f32 0x00000000#32))
    reduceWindows_S8x4x64x64x128_S8x4x64x64x128_w1s1p0_0_w1s1p0_0_w1s1p0_0_w64s1p63_0_w1s1p0_0 h_S_

/-- An entry of the summed gates is the sum over the chunk's rows up to it. -/
theorem sums_apply (G : FVec Ideal S8x4x64x64x128 .f32) (b : Fin 8) (h : Fin 4) (n i : Fin 64) (a : Fin 128) :
    sums G (ix5 b h n i a) = run (fun i' => G (ix5 b h n i' a)) i := by
  unfold sums run
  pointwise
  exact window_same _ _ _ _ _ _ _ _ (by simp [broadcastInDim, constant])

/-- The last running sum of a chunk. -/
def last (B : FVec Ideal S8x4x64x64x128 .f32) : FVec Ideal S8x4x64x1x128 .f32 :=
  extractStridedSlice S8x4x64x1x128 ![0, 0, 0, 63, 0] B slices_S8x4x64x64x128_S8x4x64x1x128_0_0_0_63_0

/-- The mask of a score. -/
def mask : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

/-- An array times the exponentials of another, and times those of its negative. -/
def grown (A B : FVec Ideal S8x4x64x64x128 .f32) : FVec Ideal S8x4x64x64x128 .f32 := mulf A (Host.exp B)
def shrunk (A B : FVec Ideal S8x4x64x64x128 .f32) : FVec Ideal S8x4x64x64x128 .f32 := mulf A (Host.exp (Host.negf B))

/-- The products of the queries and the keys. -/
def products (QE KE : FVec Ideal S8x4x64x64x128 .f32) : FVec Ideal S8x4x64x64x64 .f32 :=
  Host.dotGeneral dot_S8x4x64x64x128_S8x4x64x64x128_S8x4x64x64x64_4_4_3_3_012_012 none QE KE

/-- The scores within a chunk. -/
def scores (QE KE : FVec Ideal S8x4x64x64x128 .f32) : FVec Ideal S8x4x64x64x64 .f32 :=
  select (broadcastInDim S8x4x64x64x64 ![3, 4] bcast_S64x64_S8x4x64x64x64_3_4 mask)
    (products QE KE)
    (broadcastInDim S8x4x64x64x64 ![] bcast_S_S8x4x64x64x64 (constant S_ .f32 0x00000000#32))

/-- Comparing two places as words is comparing them. -/
theorem mask_same : ∀ i i' : Fin 64, Scalar.select (IntOp.cmpi CmpIPredicate.sge (IntOp.addi (BitVec.ofNat 32 i.val) 0#32) (BitVec.ofNat 32 i'.val)) 1#1 0#1
    = if i'.val ≤ i.val then 1#1 else 0#1 := by
  decide

/-- The mask is set at and below the diagonal. -/
theorem mask_apply (i i' : Fin 64) : mask (ix2 i i') = if i'.val ≤ i.val then 1#1 else 0#1 := by
  unfold mask
  pointwise
  exact mask_same i i'

/-- An entry of the masked scores of a chunk. -/
theorem scores_apply (Q K B : FVec Ideal S8x4x64x64x128 .f32) (b : Fin 8) (h : Fin 4) (n i i' : Fin 64) :
    scores (grown Q B) (shrunk K B) (ix5 b h n i i') = if i'.val ≤ i.val then ∑ a : Fin 128, (Q (ix5 b h n i a) * Ideal.exp (B (ix5 b h n i a)))
      * (K (ix5 b h n i' a) * Ideal.exp (0 - B (ix5 b h n i' a))) else 0 := by
  unfold scores products grown shrunk
  pointwise
  rw [mask_apply]
  by_cases hi : i'.val ≤ i.val
  · rw [if_pos hi, if_pos hi]
    simp [Scalar.select]
  · rw [if_neg hi, if_neg hi]
    simp [Scalar.select]

/-- The scores against the values. -/
def within (P : FVec Ideal S8x4x64x64x64 .f32) (Vv : FVec Ideal S8x4x64x64x256 .f32) : FVec Ideal S8x4x64x64x256 .f32 :=
  Host.dotGeneral dot_S8x4x64x64x64_S8x4x64x64x256_S8x4x64x64x256_4_3_3_4_012_012 none P Vv

/-- An entry of what a chunk's own values add. -/
theorem within_apply (P : FVec Ideal S8x4x64x64x64 .f32) (Vv : FVec Ideal S8x4x64x64x256 .f32) (b : Fin 8) (h : Fin 4) (n i : Fin 64) (e : Fin 256) :
    within P Vv (ix5 b h n i e) = ∑ i' : Fin 64, P (ix5 b h n i i') * Vv (ix5 b h n i' e) := by
  unfold within
  pointwise

/-- What each chunk adds to the states, chunk by chunk. -/
def added (K B : FVec Ideal S8x4x64x64x128 .f32) (L : FVec Ideal S8x4x64x1x128 .f32) (Vv : FVec Ideal S8x4x64x64x256 .f32) : FVec Ideal S64x8x4x128x256 .f32 :=
  transpose S64x8x4x128x256 [2, 0, 1, 3, 4] (Host.dotGeneral dot_S8x4x64x64x128_S8x4x64x64x256_S8x4x64x128x256_3_3_4_4_012_012 none
    (mulf K (Host.exp (subf (broadcastInDim S8x4x64x64x128 ![0, 1, 2, 3, 4] bcast_S8x4x64x1x128_S8x4x64x64x128_0_1_2_3_4 L) B))) Vv)
    transposes_S8x4x64x128x256_S64x8x4x128x256_2_0_1_3_4

/-- An entry of what a chunk adds to the state. -/
theorem added_apply (K B : FVec Ideal S8x4x64x64x128 .f32) (Vv : FVec Ideal S8x4x64x64x256 .f32) (n : Fin 64) (b : Fin 8) (h : Fin 4) (a : Fin 128) (e : Fin 256) :
    added K B (last B) Vv (ix5 n b h a e) = ∑ i : Fin 64, (K (ix5 b h n i a) * Ideal.exp (B (ix5 b h n 63 a) - B (ix5 b h n i a))) * Vv (ix5 b h n i e) := by
  unfold added last
  pointwise

/-- What each chunk multiplies the states by. -/
def decays (L : FVec Ideal S8x4x64x1x128 .f32) : FVec Ideal S64x8x4x128 .f32 :=
  transpose S64x8x4x128 [2, 0, 1, 3] (Host.exp (shapeCast S8x4x64x128 L shapeCasts_S8x4x64x1x128_S8x4x64x128))
    transposes_S8x4x64x128_S64x8x4x128_2_0_1_3

/-- An entry of a chunk's decay. -/
theorem decays_apply (B : FVec Ideal S8x4x64x64x128 .f32) (n : Fin 64) (b : Fin 8) (h : Fin 4) (a : Fin 128) :
    decays (last B) (ix4 n b h a) = Ideal.exp (B (ix5 b h n 63 a)) := by
  unfold decays last
  pointwise

/-- The heads' rows: the scores against the values, and the states read by the queries. -/
def mixed (I : FVec Ideal S8x4x64x64x256 .f32) (QE : FVec Ideal S8x4x64x64x128 .f32) (St : FVec Ideal S64x8x4x128x256 .f32) : FVec Ideal S8x4x64x64x256 .f32 :=
  addf I (Host.dotGeneral dot_S8x4x64x64x128_S8x4x64x128x256_S8x4x64x64x256_4_3_3_4_012_012 none QE
    (transpose S8x4x64x128x256 [1, 2, 0, 3, 4] St transposes_S64x8x4x128x256_S8x4x64x128x256_1_2_0_3_4))

/-- An entry of the mixed values: the chunk's own and those of the state before it. -/
theorem mixed_apply (I : FVec Ideal S8x4x64x64x256 .f32) (QE : FVec Ideal S8x4x64x64x128 .f32) (St : FVec Ideal S64x8x4x128x256 .f32)
    (b : Fin 8) (h : Fin 4) (n i : Fin 64) (e : Fin 256) :
    mixed I QE St (ix5 b h n i e) = I (ix5 b h n i e) + ∑ a : Fin 128, QE (ix5 b h n i a) * St (ix5 n b h a e) := by
  unfold mixed
  pointwise

/-- The heads' rows in the order of the sequence. -/
def ordered (O : FVec Ideal S8x4x64x64x256 .f32) : FVec Ideal S8x4096x4x256 .f32 :=
  shapeCast S8x4096x4x256 (transpose S8x64x64x4x256 [0, 2, 3, 1, 4] O transposes_S8x4x64x64x256_S8x64x64x4x256_0_2_3_1_4) shapeCasts_S8x64x64x4x256_S8x4096x4x256

/-- An entry of the mixed values put back in the order of the sequence. -/
theorem ordered_apply (O : FVec Ideal S8x4x64x64x256 .f32) (b : Fin 8) (s : Fin 4096) (h : Fin 4) (e : Fin 256) :
    ordered O (ix4 b s h e) = O (ix5 b h ⟨s.val / 64, by omega⟩ ⟨s.val % 64, by omega⟩ e) := by
  unfold ordered
  pointwise

/-- The heads' rows, normalised. -/
def normed (O : FVec Ideal S8x4096x4x256 .f32) (g : FVec Ideal S256 .f32) : FVec Ideal S8x4096x1024 .f32 :=
  shapeCast S8x4096x1024 (mulf (mulf O (broadcastInDim S8x4096x4x256 ![0, 1, 2, 3] bcast_S8x4096x4x1_S8x4096x4x256_0_1_2_3 (Host.rsqrt (addf (Host.divf
    (broadcastInDim S8x4096x4x1 ![0, 1, 2] bcast_S8x4096x4_S8x4096x4x1_0_1_2
      (Host.reduceAdd (mulf O O) (constant S_ .f32 0x00000000#32) reducesTo_S8x4096x4x256_S8x4096x4_d3 h_S_))
    (broadcastInDim S8x4096x4x1 ![] bcast_S_S8x4096x4x1 (constant S_ .f32 0x43800000#32)))
    (broadcastInDim S8x4096x4x1 ![] bcast_S_S8x4096x4x1 (constant S_ .f32 0x358637BD#32))))))
    (broadcastInDim S8x4096x4x256 ![0, 1, 2, 3] bcast_S1x1x1x256_S8x4096x4x256_0_1_2_3 (broadcastInDim S1x1x1x256 ![3] bcast_S256_S1x1x1x256_3 g)))
    shapeCasts_S8x4096x4x256_S8x4096x1024

/-- An entry of the heads' norm. -/
theorem normed_apply (O : FVec Ideal S8x4096x4x256 .f32) (g : FVec Ideal S256 .f32) (b : Fin 8) (s : Fin 4096) (e : Fin 1024) :
    normed O g (ix3 b s e) = O (ix4 b s (hd e) (pl e)) * Ideal.rsqrt (Ideal.div (∑ l : Fin 256, O (ix4 b s (hd e) l) * O (ix4 b s (hd e) l))
      (Ideal.ofBits .f32 0x43800000#32) + Ideal.ofBits .f32 0x358637BD#32) * g (ix1 (pl e)) := by
  unfold normed hd pl
  pointwise

/-- The output gates. -/
def swished (R : FVec Ideal S8x4096x1024 .f32) : FVec Ideal S8x4096x1024 .f32 :=
  mulf R (Host.divf (broadcastInDim S8x4096x1024 ![] bcast_S_S8x4096x1024 (constant S_ .f32 0x3F800000#32))
    (addf (broadcastInDim S8x4096x1024 ![] bcast_S_S8x4096x1024 (constant S_ .f32 0x3F800000#32)) (Host.exp (Host.negf R))))

/-- An entry of the output gate. -/
theorem swished_apply (R : FVec Ideal S8x4096x1024 .f32) (b : Fin 8) (s : Fin 4096) (e : Fin 1024) : swished R (ix3 b s e) = swish (R (ix3 b s e)) := by
  unfold swished swish
  pointwise

/-- The rows, with the gated heads through the output matrix added. -/
def result (X N R : FVec Ideal S8x4096x1024 .f32) (w : FVec Ideal S1x1024x1024 .f32) : FVec Ideal S32768x1024 .f32 :=
  shapeCast S32768x1024 (addf X (Host.dotGeneral dot_S8x4096x1024_S1024x1024_S8x4096x1024_2_0_01_1_n_n none (mulf N R)
    (shapeCast S1024x1024 w shapeCasts_S1x1024x1024_S1024x1024))) shapeCasts_S8x4096x1024_S32768x1024

/-- An entry of the result: the row plus the gated row times the output matrix. -/
theorem result_apply (X N R : FVec Ideal S8x4096x1024 .f32) (w : FVec Ideal S1x1024x1024 .f32) (r : Fin 32768) (d : Fin 1024) :
    result X N R w (ix2 r d) = X (ix3 ⟨r.val / 4096, by omega⟩ ⟨r.val % 4096, by omega⟩ d)
      + ∑ e : Fin 1024, (N (ix3 ⟨r.val / 4096, by omega⟩ ⟨r.val % 4096, by omega⟩ e) * R (ix3 ⟨r.val / 4096, by omega⟩ ⟨r.val % 4096, by omega⟩ e)) * w (ix3 0 e d) := by
  unfold result
  pointwise

/-- An entry of the queries grown by the summed gates. -/
theorem grown_apply (A B : FVec Ideal S8x4x64x64x128 .f32) (b : Fin 8) (h : Fin 4) (n i : Fin 64) (a : Fin 128) :
    grown A B (ix5 b h n i a) = A (ix5 b h n i a) * Ideal.exp (B (ix5 b h n i a)) := rfl

end Cert.GlaRef

end
-- ==== Proof.GlaRefFrame.lean ====
/- The reference's frame: no operation of it writes an argument. -/
module

public import proofs.«01_k».proof.Proof.Gen.GlaReferenceIdeal.Run

@[expose] public section

noncomputable section

namespace Cert.GlaReferenceIdeal.Value

open Idealize.ShloMosaic Idealize.ShloMosaic.TcCoe Idealize.ShloMosaic.StableHlo
open Idealize.SL.Sem Cert.GlaReferenceIdeal.Gen

variable {F : FTy → Type} [FloatOps F]
variable (m : (ℓ : Loc nD τ sig) → Buf (Elt F) ℓ) (ρ : Dev nD → PrngReg)

/-- What the operations of a stretch after the loop write. -/
abbrev written9 : List (Ref sig .tc) := [main_v61, main_v62, main_v63, main_v64, main_v65, main_v66, main_cst_8, main_v67, main_v68, main_cst_9, main_v69, main_v70, main_cst_10, main_v71, main_v72, main_v73, main_v74, main_v75, main_v76, main_v77, main_v78, main_v79]

/-- What the first stretch after the loop writes. -/
theorem writes9 : (hostOps0_9 : List (HloOp τ sig (Elt F))).Forall fun op => op.writes ⊆ (written9.map (Proc.devRef (τ := τ) .tc)).toFinset :=
  StableHlo.forall_writes_sub_of_map rfl

/-- What the operations of a stretch after the loop write. -/
abbrev written10 : List (Ref sig .tc) := [main_call7_v0, main_call7_v1, main_call7_cst, main_call7_v2, main_call7_v3, main_call7_cst_0, main_call7_v4, main_call7_v5, main_v80]

/-- What the second stretch after the loop writes. -/
theorem writes10 : (hostOps0_10 : List (HloOp τ sig (Elt F))).Forall fun op => op.writes ⊆ (written10.map (Proc.devRef (τ := τ) .tc)).toFinset :=
  StableHlo.forall_writes_sub_of_map rfl

/-- What the operations of a stretch after the loop write. -/
abbrev written11 : List (Ref sig .tc) := [main_v81, main_v82, main_v83, main_v84, main_v85]

/-- What the third stretch after the loop writes. -/
theorem writes11 : (hostOps0_11 : List (HloOp τ sig (Elt F))).Forall fun op => op.writes ⊆ (written11.map (Proc.devRef (τ := τ) .tc)).toFinset :=
  StableHlo.forall_writes_sub_of_map rfl

/-- What the operations before the loop write, what those of a trip write, and what those after it write. -/
abbrev writtenBefore : List (Ref sig .tc) := hostOps0_W ++ hostOps0_1_W ++ hostOps0_2_W ++ hostOps0_3_W ++ hostOps0_4_W ++ hostOps0_5_W ++ hostOps0_6_W ++ hostOps0_7_W ++ hostOps0_8_W

/-- What a trip writes. -/
abbrev writtenTrip : List (Ref sig .tc) := condOps_W ++ while0Ops0_W ++ while0Ops0_1_W ++ while0Ops0_2_W ++ while0Ops0_3_W ++ while0Ops0_4_W

/-- What the operations after the loop write. -/
abbrev writtenAfter : List (Ref sig .tc) := written9 ++ written10 ++ written11

/-- The operations before the loop leave every buffer they do not write. -/
theorem entry_kept (c : Dev nD) (r : Ref sig .tc) (h : r ∉ writtenBefore) : entryContents (F := F) preI m c (Proc.devRef .tc r) = m ((c.tc : Thread nD τ).loc r) := by
  simp only [writtenBefore, List.mem_append, not_or] at h
  obtain ⟨⟨⟨⟨⟨⟨⟨⟨h0, h1⟩, h2⟩, h3⟩, h4⟩, h5⟩, h6⟩, h7⟩, h8⟩ := h
  simp only [entryContents, afterL_cons, afterL_nil]
  rw [after_of_writes_sub hostOps0_8 _ hostOps0_8_writes h8, after_of_writes_sub hostOps0_7 _ hostOps0_7_writes h7, after_of_writes_sub hostOps0_6 _ hostOps0_6_writes h6, after_of_writes_sub hostOps0_5 _ hostOps0_5_writes h5, after_of_writes_sub hostOps0_4 _ hostOps0_4_writes h4, after_of_writes_sub hostOps0_3 _ hostOps0_3_writes h3, after_of_writes_sub hostOps0_2 _ hostOps0_2_writes h2, after_of_writes_sub hostOps0_1 _ hostOps0_1_writes h1, after_of_writes_sub hostOps0 _ hostOps0_writes h0]

/-- What no operation of a trip writes is as it was before the loop. -/
theorem trips_same (c : Dev nD) (r : Ref sig .tc) (h : r ∉ writtenTrip) : ∀ k, atK m k c (Proc.devRef .tc r) = entryContents preI m c (Proc.devRef .tc r)
  | 0 => rfl
  | k + 1 => by
    have ih := trips_same c r h k
    simp only [writtenTrip, List.mem_append, not_or] at h
    obtain ⟨⟨⟨⟨⟨a, b0⟩, b1⟩, b2⟩, b3⟩, b4⟩ := h
    rw [show atK m (k + 1) c = afterL bodyI (after condOps (atK m k c)) from rfl]
    simp only [afterL_cons, afterL_nil]
    rw [after_of_writes_sub while0Ops0_4 _ while0Ops0_4_writes b4, after_of_writes_sub while0Ops0_3 _ while0Ops0_3_writes b3, after_of_writes_sub while0Ops0_2 _ while0Ops0_2_writes b2, after_of_writes_sub while0Ops0_1 _ while0Ops0_1_writes b1, after_of_writes_sub while0Ops0 _ while0Ops0_writes b0, after_of_writes_sub condOps _ condOps_writes a, ih]
    simp only [entryContents, afterL_cons, afterL_nil]

/-- After any number of rounds, a buffer written neither before nor in the loop is as at the start. -/
theorem trips_kept (c : Dev nD) (r : Ref sig .tc) (h0 : r ∉ writtenBefore) (h : r ∉ writtenTrip) (k : ℕ) :
    atK m k c (Proc.devRef .tc r) = m ((c.tc : Thread nD τ).loc r) :=
  (trips_same m c r h k).trans (entry_kept m c r h0)

/-- A buffer no operation writes ends as it was launched. -/
theorem kept (c : Dev nD) (r : Ref sig .tc) (h0 : r ∉ writtenBefore) (h1 : r ∉ writtenTrip) (h2 : r ∉ writtenAfter) :
    finalContents condOps preI bodyI postI 64 m c (Proc.devRef .tc r) = m ((c.tc : Thread nD τ).loc r) := by
  have ih := trips_kept m c r h0 h1 64
  simp only [writtenTrip, writtenAfter, List.mem_append, not_or] at h1 h2
  obtain ⟨⟨b0, b1⟩, b2⟩ := h2
  simp only [finalContents, afterL_cons, afterL_nil]
  rw [after_of_writes_sub hostOps0_11 _ writes11 b2, after_of_writes_sub hostOps0_10 _ writes10 b1, after_of_writes_sub hostOps0_9 _ writes9 b0,
    after_of_writes_sub condOps _ condOps_writes h1.1.1.1.1.1]
  exact ih

/-- Every run of the reference ends, with the arguments as they were. -/
theorem arguments_kept : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_arg0 rfl).trans (kept m c main_arg0 (by decide) (by decide) (by decide)),
    (h c main_arg1 rfl).trans (kept m c main_arg1 (by decide) (by decide) (by decide)),
    (h c main_arg2 rfl).trans (kept m c main_arg2 (by decide) (by decide) (by decide)),
    (h c main_arg3 rfl).trans (kept m c main_arg3 (by decide) (by decide) (by decide)),
    (h c main_arg4 rfl).trans (kept m c main_arg4 (by decide) (by decide) (by decide)),
    (h c main_arg5 rfl).trans (kept m c main_arg5 (by decide) (by decide) (by decide)),
    (h c main_arg6 rfl).trans (kept m c main_arg6 (by decide) (by decide) (by decide)),
    (h c main_arg7 rfl).trans (kept m c main_arg7 (by decide) (by decide) (by decide)),
    (h c main_arg8 rfl).trans (kept m c main_arg8 (by decide) (by decide) (by decide))⟩) (run_fold m ρ)

end Cert.GlaReferenceIdeal.Value

end
-- ==== Proof.GlaRefReads.lean ====
/- The gated linear attention's reference, a stretch of operations at a time. -/
module

public import proofs.«01_k».proof.Proof.GlaRef
public import proofs.«01_k».proof.Proof.GlaRefFrame

@[expose] public section

set_option maxRecDepth 16384

noncomputable section

namespace Cert.GlaRef

open Idealize.ShloMosaic Idealize.ShloMosaic.TcCoe Idealize.ShloMosaic.StableHlo
open Cert.GlaReferenceIdeal Cert.GlaReferenceIdeal.Gen Cert.GlaReferenceIdeal.Value Cert.ConvFfn Cert.GlaTile

variable (W : Valuation τ sig (Elt Ideal))

/-- The projected rows of some contents. -/
def projected : FVec Ideal S8x4096x3088 .f32 :=
  proj (rNorm (W (Proc.devRef .tc main_arg0)) (W (Proc.devRef .tc main_arg1))) (W (Proc.devRef .tc main_arg2))

/-! The contents after each stretch, and what a stretch leaves alone. -/

def s0 : Valuation τ sig (Elt Ideal) := after hostOps0 W
def s1 : Valuation τ sig (Elt Ideal) := after hostOps0_1 W
def s2 : Valuation τ sig (Elt Ideal) := after hostOps0_2 W
def s3 : Valuation τ sig (Elt Ideal) := after hostOps0_3 W
def s4 : Valuation τ sig (Elt Ideal) := after hostOps0_4 W
def s5 : Valuation τ sig (Elt Ideal) := after hostOps0_5 W
def s6 : Valuation τ sig (Elt Ideal) := after hostOps0_6 W
def s7 : Valuation τ sig (Elt Ideal) := after hostOps0_7 W
def s8 : Valuation τ sig (Elt Ideal) := after hostOps0_8 W
def s9 : Valuation τ sig (Elt Ideal) := after hostOps0_9 W
def s10 : Valuation τ sig (Elt Ideal) := after hostOps0_10 W
def s11 : Valuation τ sig (Elt Ideal) := after hostOps0_11 W

/-- Stretch 0 leaves every buffer it does not write. -/
theorem keep0 (r : Ref sig .tc) (h : r ∉ hostOps0_W) : s0 W (no_index (Proc.devRef .tc r)) = W (Proc.devRef .tc r) :=
  after_of_writes_sub hostOps0 _ hostOps0_writes h
/-- Stretch 1 leaves every buffer it does not write. -/
theorem keep1 (r : Ref sig .tc) (h : r ∉ hostOps0_1_W) : s1 W (no_index (Proc.devRef .tc r)) = W (Proc.devRef .tc r) :=
  after_of_writes_sub hostOps0_1 _ hostOps0_1_writes h
/-- Stretch 2 leaves every buffer it does not write. -/
theorem keep2 (r : Ref sig .tc) (h : r ∉ hostOps0_2_W) : s2 W (no_index (Proc.devRef .tc r)) = W (Proc.devRef .tc r) :=
  after_of_writes_sub hostOps0_2 _ hostOps0_2_writes h
/-- Stretch 3 leaves every buffer it does not write. -/
theorem keep3 (r : Ref sig .tc) (h : r ∉ hostOps0_3_W) : s3 W (no_index (Proc.devRef .tc r)) = W (Proc.devRef .tc r) :=
  after_of_writes_sub hostOps0_3 _ hostOps0_3_writes h
/-- Stretch 4 leaves every buffer it does not write. -/
theorem keep4 (r : Ref sig .tc) (h : r ∉ hostOps0_4_W) : s4 W (no_index (Proc.devRef .tc r)) = W (Proc.devRef .tc r) :=
  after_of_writes_sub hostOps0_4 _ hostOps0_4_writes h
/-- Stretch 5 leaves every buffer it does not write. -/
theorem keep5 (r : Ref sig .tc) (h : r ∉ hostOps0_5_W) : s5 W (no_index (Proc.devRef .tc r)) = W (Proc.devRef .tc r) :=
  after_of_writes_sub hostOps0_5 _ hostOps0_5_writes h
/-- Stretch 6 leaves every buffer it does not write. -/
theorem keep6 (r : Ref sig .tc) (h : r ∉ hostOps0_6_W) : s6 W (no_index (Proc.devRef .tc r)) = W (Proc.devRef .tc r) :=
  after_of_writes_sub hostOps0_6 _ hostOps0_6_writes h
/-- Stretch 7 leaves every buffer it does not write. -/
theorem keep7 (r : Ref sig .tc) (h : r ∉ hostOps0_7_W) : s7 W (no_index (Proc.devRef .tc r)) = W (Proc.devRef .tc r) :=
  after_of_writes_sub hostOps0_7 _ hostOps0_7_writes h
/-- Stretch 8 leaves every buffer it does not write. -/
theorem keep8 (r : Ref sig .tc) (h : r ∉ hostOps0_8_W) : s8 W (no_index (Proc.devRef .tc r)) = W (Proc.devRef .tc r) :=
  after_of_writes_sub hostOps0_8 _ hostOps0_8_writes h
/-- Stretch 9 leaves every buffer it does not write. -/
theorem keep9 (r : Ref sig .tc) (h : r ∉ written9) : s9 W (no_index (Proc.devRef .tc r)) = W (Proc.devRef .tc r) :=
  after_of_writes_sub hostOps0_9 _ writes9 h
/-- Stretch 10 leaves every buffer it does not write. -/
theorem keep10 (r : Ref sig .tc) (h : r ∉ written10) : s10 W (no_index (Proc.devRef .tc r)) = W (Proc.devRef .tc r) :=
  after_of_writes_sub hostOps0_10 _ writes10 h
/-- Stretch 11 leaves every buffer it does not write. -/
theorem keep11 (r : Ref sig .tc) (h : r ∉ written11) : s11 W (no_index (Proc.devRef .tc r)) = W (Proc.devRef .tc r) :=
  after_of_writes_sub hostOps0_11 _ writes11 h

/-! What each stretch computes. -/

/-- The columns of the queries. -/
theorem first_v15 : s0 W (no_index (Proc.devRef .tc main_v15)) = extractStridedSlice S8x4096x512 ![0, 0, 0] (projected W) slices_S8x4096x3088_S8x4096x512_0_0_0 := by
  unfold s0
  after_results
  rfl

/-- The columns of the keys. -/
theorem first_v16 : s0 W (no_index (Proc.devRef .tc main_v16)) = extractStridedSlice S8x4096x512 ![0, 0, 512] (projected W) slices_S8x4096x3088_S8x4096x512_0_0_512 := by
  unfold s0
  after_results
  rfl

/-- The columns of the values. -/
theorem first_v17 : s0 W (no_index (Proc.devRef .tc main_v17)) = extractStridedSlice S8x4096x1024 ![0, 0, 1024] (projected W) slices_S8x4096x3088_S8x4096x1024_0_0_1024 := by
  unfold s0
  after_results
  rfl

/-- The columns of the output gate. -/
theorem first_v18 : s0 W (no_index (Proc.devRef .tc main_v18)) = extractStridedSlice S8x4096x1024 ![0, 0, 2048] (projected W) slices_S8x4096x3088_S8x4096x1024_0_0_2048 := by
  unfold s0
  after_results
  rfl

/-- The argument of the decay gate. -/
theorem first_v23 : s0 W (no_index (Proc.devRef .tc main_v23)) = arg (projected W) (W (Proc.devRef .tc main_arg3)) (W (Proc.devRef .tc main_arg4)) := by
  unfold s0
  after_results
  rfl

/-- The logarithm of the gate before its temperature. -/
theorem gates_v24 : s1 W (no_index (Proc.devRef .tc main_v24)) = logistic (W (Proc.devRef .tc main_v23)) := by
  unfold s1
  after_results
  rfl

/-- The queries by head and chunk. -/
theorem split_v30 : s2 W (no_index (Proc.devRef .tc main_v30)) = queries (heads (W (Proc.devRef .tc main_v15))) := by
  unfold s2
  after_results
  rfl

/-- The keys by head and chunk. -/
theorem split_v32 : s2 W (no_index (Proc.devRef .tc main_v32)) = heads (W (Proc.devRef .tc main_v16)) := by
  unfold s2
  after_results
  rfl

/-- The values by head and chunk. -/
theorem split_v34 : s2 W (no_index (Proc.devRef .tc main_v34)) = wide (W (Proc.devRef .tc main_v17)) := by
  unfold s2
  after_results
  rfl

/-- The gates by head and chunk. -/
theorem split_v36 : s2 W (no_index (Proc.devRef .tc main_v36)) = heads (gates (W (Proc.devRef .tc main_v24))) := by
  unfold s2
  after_results
  rfl

/-- The summed gates. -/
theorem sums_v37 : s3 W (no_index (Proc.devRef .tc main_v37)) = sums (W (Proc.devRef .tc main_v36)) := by
  unfold s3
  after_results
  rfl

/-- The whole sum of each chunk. -/
theorem decay_v38 : s4 W (no_index (Proc.devRef .tc main_v38)) = last (W (Proc.devRef .tc main_v37)) := by
  unfold s4
  after_results
  rfl

/-- The queries grown by the summed gates. -/
theorem decay_v40 : s4 W (no_index (Proc.devRef .tc main_v40)) = grown (W (Proc.devRef .tc main_v30)) (W (Proc.devRef .tc main_v37)) := by
  unfold s4
  after_results
  rfl

/-- The keys shrunk by the summed gates. -/
theorem decay_v43 : s4 W (no_index (Proc.devRef .tc main_v43)) = shrunk (W (Proc.devRef .tc main_v32)) (W (Proc.devRef .tc main_v37)) := by
  unfold s4
  after_results
  rfl

/-- The array of ones the mask is cut from. -/
theorem decay_v44 : s4 W (no_index (Proc.devRef .tc main_v44)) = broadcastInDim S64x64 ![] bcast_S_S64x64 (constantI S_ 1 1#1) := by
  unfold s4
  after_results

/-- The mask of a chunk. -/
theorem mask_v45 : s5 W (no_index (Proc.devRef .tc main_v45)) = select (cmpi .sge (addi (iotaInDim S64x64 32 0) (broadcastInDim S64x64 ![] bcast_S_S64x64 (constantI S_ 32 0#32))) (iotaInDim S64x64 32 1)) (W (Proc.devRef .tc main_v44)) (broadcastInDim S64x64 ![] bcast_S_S64x64 (constantI S_ 1 0#1)) := by
  unfold s5
  after_results
  rfl

/-- The scores of a chunk before the mask. -/
theorem score_v46 : s6 W (no_index (Proc.devRef .tc main_v46)) = products (W (Proc.devRef .tc main_v40)) (W (Proc.devRef .tc main_v43)) := by
  unfold s6
  after_results
  rfl

/-- The zero that stands outside the mask. -/
theorem score_cst_4 : s6 W (no_index (Proc.devRef .tc main_cst_4)) = constant (F := Ideal) S_ .f32 0x00000000#32 := by
  unfold s6
  after_results

/-- The masked scores. -/
theorem masked_v47 : s7 W (no_index (Proc.devRef .tc main_v47)) = select (broadcastInDim S8x4x64x64x64 ![3, 4] bcast_S64x64_S8x4x64x64x64_3_4 (W (Proc.devRef .tc main_v45))) (W (Proc.devRef .tc main_v46)) (broadcastInDim S8x4x64x64x64 ![] bcast_S_S8x4x64x64x64 (W (Proc.devRef .tc main_cst_4))) := by
  unfold s7
  after_results
  rfl

/-- What each chunk's own values add. -/
theorem chunks_v48 : s8 W (no_index (Proc.devRef .tc main_v48)) = within (W (Proc.devRef .tc main_v47)) (W (Proc.devRef .tc main_v34)) := by
  unfold s8
  after_results
  rfl

/-- What each chunk adds to the state. -/
theorem chunks_v60_0 : s8 W (no_index (Proc.devRef .tc main_v60_0)) = added (W (Proc.devRef .tc main_v32)) (W (Proc.devRef .tc main_v37)) (W (Proc.devRef .tc main_v38)) (W (Proc.devRef .tc main_v34)) := by
  unfold s8
  after_results
  rfl

/-- Each chunk's decay. -/
theorem chunks_v60_1 : s8 W (no_index (Proc.devRef .tc main_v60_1)) = decays (W (Proc.devRef .tc main_v38)) := by
  unfold s8
  after_results
  rfl

/-- The state the loop starts from: zero. -/
theorem chunks_v60_3 : s8 W (no_index (Proc.devRef .tc main_v60_3)) = broadcastInDim S8x4x128x256 ![] bcast_S_S8x4x128x256 (constant (F := Ideal) S_ .f32 0x00000000#32) := by
  unfold s8
  after_results
  rfl

/-- The record of the states the loop starts from: zero. -/
theorem chunks_v60_4 : s8 W (no_index (Proc.devRef .tc main_v60_4)) = broadcastInDim S64x8x4x128x256 ![] bcast_S_S64x8x4x128x256 (constant (F := Ideal) S_ .f32 0x00000000#32) := by
  unfold s8
  after_results
  rfl

/-- The heads' norm of the mixed values. -/
theorem after_v79 : s9 W (no_index (Proc.devRef .tc main_v79)) = normed (ordered (mixed (W (Proc.devRef .tc main_v48)) (W (Proc.devRef .tc main_v40)) (W (Proc.devRef .tc main_v60_4)))) (W (Proc.devRef .tc main_arg5)) := by
  unfold s9
  after_results
  rfl

/-- The output gate. -/
theorem after_v80 : s10 W (no_index (Proc.devRef .tc main_v80)) = swished (W (Proc.devRef .tc main_v18)) := by
  unfold s10
  after_results
  rfl

/-- The result. -/
theorem after_v85 : s11 W (no_index (Proc.devRef .tc main_v85)) = result (W (Proc.devRef .tc main_arg0)) (W (Proc.devRef .tc main_v79)) (W (Proc.devRef .tc main_v80)) (W (Proc.devRef .tc main_arg6)) := by
  unfold s11
  after_results
  rfl

/-- The contents the loop is entered with. -/
def entry : Valuation τ sig (Elt Ideal) := s8 (s7 (s6 (s5 (s4 (s3 (s2 (s1 (s0 W))))))))

/-- The queries, keys, values and running sums of some contents. -/
def qs : FVec Ideal S8x4x64x64x128 .f32 :=
  queries (heads (extractStridedSlice S8x4096x512 ![0, 0, 0] (projected W) slices_S8x4096x3088_S8x4096x512_0_0_0))
def ks : FVec Ideal S8x4x64x64x128 .f32 :=
  heads (extractStridedSlice S8x4096x512 ![0, 0, 512] (projected W) slices_S8x4096x3088_S8x4096x512_0_0_512)
def vs : FVec Ideal S8x4x64x64x256 .f32 :=
  wide (extractStridedSlice S8x4096x1024 ![0, 0, 1024] (projected W) slices_S8x4096x3088_S8x4096x1024_0_0_1024)
def bs : FVec Ideal S8x4x64x64x128 .f32 :=
  sums (heads (gates (logistic (arg (projected W) (W (Proc.devRef .tc main_arg3)) (W (Proc.devRef .tc main_arg4))))))

/-- The grown queries, from the arguments. -/
theorem entry_v40 : entry W (Proc.devRef .tc main_v40) = grown (qs W) (bs W) := by
  unfold entry
  simp (disch := decide) only [keep0, keep1, keep2, keep3, keep4, keep5, keep6, keep7, keep8, first_v15, first_v16, first_v17, first_v18, first_v23,
    gates_v24, split_v30, split_v32, split_v34, split_v36, sums_v37, decay_v38, decay_v40, decay_v43, decay_v44, mask_v45, score_v46, score_cst_4,
    masked_v47]
  rfl

/-- What each chunk's own values add, from the arguments. -/
theorem entry_v48 : entry W (Proc.devRef .tc main_v48) = within (scores (grown (qs W) (bs W)) (shrunk (ks W) (bs W))) (vs W) := by
  unfold entry
  simp (disch := decide) only [keep0, keep1, keep2, keep3, keep4, keep5, keep6, keep7, keep8, first_v15, first_v16, first_v17, first_v18, first_v23,
    gates_v24, split_v30, split_v32, split_v34, split_v36, sums_v37, decay_v38, decay_v40, decay_v43, decay_v44, mask_v45, score_v46, score_cst_4,
    masked_v47, chunks_v48]
  rfl

/-- What each chunk adds to the state, from the arguments. -/
theorem entry_v60_0 : entry W (Proc.devRef .tc main_v60_0) = added (ks W) (bs W) (last (bs W)) (vs W) := by
  unfold entry
  simp (disch := decide) only [keep0, keep1, keep2, keep3, keep4, keep5, keep6, keep7, keep8, first_v15, first_v16, first_v17, first_v18, first_v23,
    gates_v24, split_v30, split_v32, split_v34, split_v36, sums_v37, decay_v38, decay_v40, decay_v43, decay_v44, mask_v45, score_v46, score_cst_4,
    masked_v47, chunks_v60_0]
  rfl

/-- Each chunk's decay, from the arguments. -/
theorem entry_v60_1 : entry W (Proc.devRef .tc main_v60_1) = decays (last (bs W)) := by
  unfold entry
  simp (disch := decide) only [keep0, keep1, keep2, keep3, keep4, keep5, keep6, keep7, keep8, first_v15, first_v16, first_v17, first_v18, first_v23,
    gates_v24, split_v30, split_v32, split_v34, split_v36, sums_v37, decay_v38, decay_v40, decay_v43, decay_v44, mask_v45, score_v46, score_cst_4,
    masked_v47, chunks_v60_1]
  rfl

/-- The columns of the output gate, from the arguments. -/
theorem entry_v18 : entry W (Proc.devRef .tc main_v18) = extractStridedSlice S8x4096x1024 ![0, 0, 2048] (projected W) slices_S8x4096x3088_S8x4096x1024_0_0_2048 := by
  unfold entry
  simp (disch := decide) only [keep0, keep1, keep2, keep3, keep4, keep5, keep6, keep7, keep8, first_v15, first_v16, first_v17, first_v18, first_v23,
    gates_v24, split_v30, split_v32, split_v34, split_v36, sums_v37, decay_v38, decay_v40, decay_v43, decay_v44, mask_v45, score_v46, score_cst_4,
    masked_v47]

end Cert.GlaRef

end
-- ==== Proof.GlaValues.lean ====
/- The values of the attention's tile, read at a place. -/
module

public import proofs.«01_k».proof.Proof.GlaSpec
public import proofs.«01_k».proof.Proof.GlaProgram
public import Idealize.ShloMosaic.Lib.Pipeline.Value

@[expose] public section

noncomputable section

namespace Cert.GlaTile

open Idealize.ShloMosaic Idealize.ShloMosaic.TcCoe Cert.ConvFfn
open Cert.GlaIdeal
open scoped BigOperators

variable [Cert.GlaIdeal.Facts]

/-- An entry of the kernel's row norm. -/
theorem normed_apply (x : Vec Ideal S256x1024 .f32) (g : Vec Ideal S1x1024 .f32) (p : Fin 256) (k : Fin 1024) :
    normed x g (ix2 p k) = rmsRow (fun l => x (ix2 p l)) (fun l => g (ix2 0 l)) k := by
  pointwise [normed, rmsRow]

/-- An entry of the kernel's gate argument. -/
theorem gateArg_apply (h : Vec Ideal S256x1024 .bf16) (wl : Vec Ideal S1024x128 .bf16) (w2 : Vec Ideal S128x512 .bf16) (b : Vec Ideal S1x512 .f32)
    (p : Fin 256) (j : Fin 512) : gateArg h wl w2 b (ix2 p j)
      = argRow (fun l a => wl (ix2 l a)) (fun a j => w2 (ix2 a j)) (fun j => b (ix2 0 j)) (fun l => h (ix2 p l)) j := by
  pointwise [gateArg, argRow]

/-- An entry of the kernel's gate is the logarithmic gate. -/
theorem gate_apply (z : FVec Ideal S256x512 .f32) (p : Fin 256) (j : Fin 512) : gate z (ix2 p j) = logGate (z (ix2 p j)) := by
  pointwise [gate, logGate]
  rfl

/-- An entry of the kernel's queries. -/
theorem queries_apply (h : Vec Ideal S256x1024 .bf16) (w : Vec Ideal S1x1024x512 .bf16) (p : Fin 256) (j : Fin 512) :
    queries h w (ix2 p j) = projRow (fun l j => w (ix3 0 l j)) (fun l => h (ix2 p l)) j * Ideal.ofBits .f32 0x3DB504F3#32 := by
  pointwise [queries, proj, projRow]

/-- An entry of the kernel's keys. -/
theorem keys_apply (h : Vec Ideal S256x1024 .bf16) (w : Vec Ideal S1x1024x512 .bf16) (p : Fin 256) (j : Fin 512) :
    keys h w (ix2 p j) = projRow (fun l j => w (ix3 0 l j)) (fun l => h (ix2 p l)) j := by
  pointwise [keys, proj, projRow]

/-- An entry of the kernel's values. -/
theorem vals_apply (h : Vec Ideal S256x1024 .bf16) (w : Vec Ideal S1x1024x512 .bf16) (p : Fin 256) (j : Fin 512) :
    vals h w (ix2 p j) = projRow (fun l j => w (ix3 0 l j)) (fun l => h (ix2 p l)) j := by
  pointwise [vals, proj, projRow]

/-- An entry of the kernel's output gate, with the heads' norm scale. -/
theorem outGate_apply (h : Vec Ideal S256x1024 .bf16) (w : Vec Ideal S1x1024x512 .bf16) (g : Vec Ideal S1x512 .f32) (p : Fin 256) (j : Fin 512) :
    outGate h w g (ix2 p j) = swish (projRow (fun l j => w (ix3 0 l j)) (fun l => h (ix2 p l)) j) * g (ix2 0 j) := by
  pointwise [outGate, proj, projRow, swish]
  rfl

/-- An entry of the kernel's output: the row plus the product with the output matrix. -/
theorem added_apply (x : Vec Ideal S512x1024 .f32) (y : Vec Ideal S512x1024 .bf16) (w : Vec Ideal S1024x1024 .bf16) (p : Fin 512) (d : Fin 1024) :
    added x y w (ix2 p d) = x (ix2 p d) + ∑ e, y (ix2 p e) * w (ix2 e d) := by
  pointwise [added]

/-- An entry of a head's normed and gated rows. -/
theorem gated_apply (o : FVec Ideal S64x256 .f32) (g : Vec Ideal S64x256 .f32) (i : Fin 64) (e : Fin 256) :
    gated o g (ix2 i e) = gatedAt (fun e => o (ix2 i e)) (fun e => g (ix2 i e)) e := by
  pointwise [gated, gatedAt]

/-- The sum of the last `n` entries up to the `i`-th. -/
def window (f : ℕ → EReal) (n i : ℕ) : EReal := ∑ k ∈ Finset.range n, if k ≤ i then f (i - k) else 0

/-- A window and the one before it make one twice as long. -/
theorem window_double (f : ℕ → EReal) (n i : ℕ) : window f n i + (if i < n then 0 else window f n (i - n)) = window f (n + n) i := by
  unfold window
  rw [Finset.sum_range_add]
  congr 1
  split_ifs with h
  · refine (Finset.sum_eq_zero fun k _ => if_neg (by omega)).symm
  · refine Finset.sum_congr rfl fun k _ => ?_
    by_cases hk : k ≤ i - n
    · rw [if_pos hk, if_pos (by omega)]
      exact congrArg f (by omega)
    · rw [if_neg hk, if_neg (by omega)]

/-- The window of sixty-four holds every entry up to the `i`-th. -/
theorem window_all (f : ℕ → EReal) (i : Fin 64) : window f 64 i.val = run (fun i' => f i'.val) i := by
  unfold window run
  rw [Fin.sum_univ_eq_sum_range (fun k => if k ≤ i.val then f k else 0) 64, ← Finset.sum_filter, ← Finset.sum_filter]
  have e : (Finset.range 64).filter (fun k => k ≤ i.val) = Finset.range (i.val + 1) := by
    ext k; simp only [Finset.mem_filter, Finset.mem_range]; omega
  rw [e]
  exact Finset.sum_range_reflect f (i.val + 1)

/-- A column of 64 rows, as a sequence. -/
def column (g : Vec Ideal S64x512 .f32) (j : Fin 512) (n : ℕ) : EReal := if h : n < 64 then g (ix2 ⟨n, h⟩ j) else 0

/-- One shift: every row and the row `n` above it. -/
theorem shift_apply (n r : ℕ) (A : FVec Ideal S64x512 .f32) (f : ℕ → EReal) (w : ℕ) (hw : w = n) (hn : n + r = 64) (j : Fin 512) (hA : ∀ i : Fin 64, A (ix2 i j) = window f w i.val)
    (hs : S64x512.Slices ![0, 0] ⟨2, ![r, 512]⟩)
    (hc : Shape.Concatenates [(⟨2, ![n, 512]⟩ : Shape), (⟨2, ![r, 512]⟩ : Shape)] S64x512 0) (i : Fin 64) :
    addf A (concatenate S64x512 0 [⟨⟨2, ![n, 512]⟩, (broadcast (⟨2, ![n, 512]⟩ : Shape) (Scalar.ofBits .f32 0x00000000#32) : FVec Ideal (⟨2, ![n, 512]⟩ : Shape) .f32)⟩,
      ⟨⟨2, ![r, 512]⟩, (extractStridedSlice (⟨2, ![r, 512]⟩ : Shape) ![0, 0] A hs : FVec Ideal (⟨2, ![r, 512]⟩ : Shape) .f32)⟩] hc) (ix2 i j) = window f (n + n) i.val := by
  subst hw
  rw [← window_double]
  pointwise
  rw [hA]
  split_ifs with h
  · rfl
  · refine congrArg _ ((congrArg A ?_).trans (hA ⟨i.val - w, by omega⟩))
    funext a
    match a with
    | ⟨0, _⟩ => rfl
    | ⟨1, _⟩ => rfl

/-- An entry of the kernel's summed gates is the running sum. -/
theorem sums_apply (g : Vec Ideal S64x512 .f32) (i : Fin 64) (j : Fin 512) : sums g (ix2 i j) = run (fun i' => g (ix2 i' j)) i := by
  have e : run (fun i' => g (ix2 i' j)) i = window (column g j) 64 i.val := by
    rw [window_all]
    congr 1
    funext i'
    rw [column, dif_pos i'.isLt]
  rw [e]
  have h0 : ∀ i : Fin 64, addf g (broadcastTo S64x512 (broadcast S1x512 (Scalar.ofBits .f32 0x00000000#32) : FVec Ideal S1x512 .f32) Facts₀.broadcasts_S1x512_S64x512) (ix2 i j)
      = window (column g j) 1 i.val := by
    intro i
    pointwise [window]
    simp [column]
  exact shift_apply 32 32 _ _ _ rfl rfl j (shift_apply 16 48 _ _ _ rfl rfl j (shift_apply 8 56 _ _ _ rfl rfl j (shift_apply 4 60 _ _ _ rfl rfl j
    (shift_apply 2 62 _ _ _ rfl rfl j (shift_apply 1 63 _ _ _ rfl rfl j h0 _ _) _ _) _ _) _ _) _ _) _ _ i

/-- An entry of the queries grown by the summed gates. -/
theorem qDec_apply (b : FVec Ideal S64x512 .f32) (q : Vec Ideal S64x512 .f32) (i : Fin 64) (j : Fin 512) :
    qDec b q (ix2 i j) = q (ix2 i j) * Ideal.exp (b (ix2 i j)) := by
  pointwise [qDec]

/-- An entry of the keys shrunk by the summed gates. -/
theorem kInv_apply (b : FVec Ideal S64x512 .f32) (k : Vec Ideal S64x512 .f32) (i : Fin 64) (j : Fin 512) :
    kInv b k (ix2 i j) = k (ix2 i j) * Ideal.exp (0 - b (ix2 i j)) := by
  pointwise [kInv]

/-- An entry of the keys decayed to the end of the chunk. -/
theorem kEnd_apply (b : FVec Ideal S64x512 .f32) (k : Vec Ideal S64x512 .f32) (i : Fin 64) (j : Fin 512) :
    kEnd b k (ix2 i j) = k (ix2 i j) * Ideal.exp (b (ix2 63 j) - b (ix2 i j)) := by
  pointwise [kEnd, lastSum]

/-- An entry of a head's columns. -/
theorem cols_apply (h : Fin 4) (x : FVec Ideal S64x512 .bf16) (i : Fin 64) (a : Fin 128) : cols h x (ix2 i a) = x (ix2 i (at128 h a)) := by
  pointwise [cols, at128]

/-- An entry of a head's masked scores. -/
theorem scores_apply (h : Fin 4) (b : FVec Ideal S64x512 .f32) (k q : Vec Ideal S64x512 .f32) (i i' : Fin 64) :
    scores h b k q (ix2 i i') = scoreAt (fun i j => b (ix2 i j)) (fun i j => k (ix2 i j)) (fun i j => q (ix2 i j)) h i i' := by
  pointwise [scores, causal, scoreAt]
  simp only [cols_apply, qDec_apply, kInv_apply]
  have e : IntOp.cmpi .sge (BitVec.ofNat 32 i.val) (BitVec.ofNat 32 i'.val) = if i'.val ≤ i.val then 1#1 else 0#1 :=
    (by decide +kernel : ∀ i i' : Fin 64, IntOp.cmpi .sge (BitVec.ofNat 32 i.val) (BitVec.ofNat 32 i'.val) = if i'.val ≤ i.val then 1#1 else 0#1) i i'
  rw [e]
  split_ifs <;> rfl

/-- An entry of a head's decay: each row's decay over the chunk, the same in every column. -/
theorem decay_apply (h : Fin 4) (b : FVec Ideal S64x512 .f32) (a a' : Fin 128) : decay h b (ix2 a a') = Ideal.exp (b (ix2 63 (at128 h a))) := by
  pointwise [decay, lastSum, at128]

/-- An entry of what a chunk adds to a head's state. -/
theorem inc_apply (h : Fin 4) (b : FVec Ideal S64x512 .f32) (k : Vec Ideal S64x512 .f32) (v : Vec Ideal S64x256 .bf16) (a : Fin 128) (e : Fin 256) :
    inc h b k v (ix2 a e) = ∑ i, (k (ix2 i (at128 h a)) * Ideal.exp (b (ix2 63 (at128 h a)) - b (ix2 i (at128 h a)))) * v (ix2 i e) := by
  pointwise [inc]
  simp only [cols_apply, kEnd_apply]

/-- An entry of a head's next state. -/
theorem next_apply (h : Fin 4) (b : FVec Ideal S64x512 .f32) (k : Vec Ideal S64x512 .f32) (v : Vec Ideal S64x256 .bf16) (st : FVec Ideal S128x256 .f32)
    (a : Fin 128) (e : Fin 256) : next h b st (inc h b k v) (ix2 a e)
      = nextAt (fun i j => b (ix2 i j)) (fun i j => k (ix2 i j)) (fun i e => v (ix2 i e)) (fun a e => st (ix2 a e)) h a e := by
  pointwise [next, nextAt]
  simp only [inc_apply, decay_apply, dite_eq_ite, ite_self]

/-- An entry of a head's mixed values. -/
theorem mix_apply (h : Fin 4) (b : FVec Ideal S64x512 .f32) (k q : Vec Ideal S64x512 .f32) (st : FVec Ideal S128x256 .f32) (v : Vec Ideal S64x256 .bf16)
    (i : Fin 64) (e : Fin 256) : mix h b k q st v (ix2 i e)
      = mixAt (fun i j => b (ix2 i j)) (fun i j => k (ix2 i j)) (fun i j => q (ix2 i j)) (fun i e => v (ix2 i e)) (fun a e => st (ix2 a e)) h i e := by
  pointwise [mix, mixAt]
  simp only [cols_apply, qDec_apply, scores_apply]

end Cert.GlaTile

end
-- ==== Proof.GlaSubs.lean ====
/- The projections of a tile: what the body's first part leaves in the scratch. -/
module

public import proofs.«01_k».proof.Proof.GlaValues
public import proofs.«01_k».proof.Proof.GlaKeeps

@[expose] public section

noncomputable section

namespace Cert.GlaTile

open Idealize.ShloMosaic Idealize.ShloMosaic.TcCoe
open Idealize.SL Idealize.SL.RA Idealize.SL.BI Idealize.SL.Sem
open Cert.GlaIdeal Cert.GlaIdeal.Gen

/-! ## Rules -/

section Rules

variable {F : FTy → Type} [FloatOps F]
variable {nD : Nat} {τ : Topo} {sig : RefSig} {Λ : Labels} {U : Type} [URA U]
variable {defs : Defs nD τ sig (Elt F) Λ} {𝒱 : Variants} {c : Dev nD}
variable {M : (k : Fin 23) → Memref sig .tc .vmem (shp k) (ety k)}

/-- A load whose value has a property that does not mention the state, and what follows. -/
theorem Does.get {β : Type} (k : Fin 23) (r : LoadRect (shp k)) (hl : (M k).view.LoadsAt r) {Q : St F → Prop} {R : β → St F → Prop}
    (V : (r.shape.Idx → Elt F (ety k)) → Prop) (hV : ∀ s, Q s → V fun x => s k (r.idx x))
    {f : (r.shape.Idx → Elt F (ety k)) → Prog (TpuEff nD τ sig (Elt F) Λ .tc) β}
    (h : ∀ a, V a → Does (U := U) defs 𝒱 c M Q (f a) R) : Does (U := U) defs 𝒱 c M Q (Prog.lift (.load (M k) r hl) >>= f) R := by
  refine Does.bind (Does.load k r hl (R := fun a s => V a ∧ Q s) fun s hs => ⟨hV s hs, hs⟩) fun a s hs => ?_
  exact h a hs.1 s hs.2

/-- A store, and what follows. -/
theorem Does.set {β : Type} (k : Fin 23) (r : Rect (shp k)) (w : r.shape.Idx → Elt F (ety k)) (hx : ((M k).access r).Stores Finset.univ)
    (hm : Finset.univ = Finset.univ ∨ ∀ a, r.stride a = 1) {Q : St F → Prop} (Q' : St F → Prop) {R : β → St F → Prop}
    (hs : ∀ s, Q s → Q' (Function.update s k (put (s k) r w))) {f : PUnit → Prog (TpuEff nD τ sig (Elt F) Λ .tc) β}
    (h : Does (U := U) defs 𝒱 c M Q' (f ⟨⟩) R) : Does (U := U) defs 𝒱 c M Q (Prog.lift (.store (M k) r w Finset.univ hx hm) >>= f) R :=
  Does.bind (Does.store k r w hx hm (R := fun _ s => Q' s) hs) fun _ => h

/-- A program whose value has a property that does not mention the state, and what follows. -/
theorem Does.have {α β : Type} {p : Prog (TpuEff nD τ sig (Elt F) Λ .tc) α} {f : α → Prog (TpuEff nD τ sig (Elt F) Λ .tc) β}
    {Q Q' : St F → Prop} {V : α → Prop} {R : β → St F → Prop} (hp : Does (U := U) defs 𝒱 c M Q p fun a s => V a ∧ Q' s)
    (h : ∀ a, V a → Does (U := U) defs 𝒱 c M Q' (f a) R) : Does (U := U) defs 𝒱 c M Q (p >>= f) R :=
  Does.bind hp fun a s hs => h a hs.1 s hs.2

end Rules

/-! ## Boxes -/

/-- A box of a two-dimensional array, read. -/
theorem box2 {α : Type} {n0 n1 k0 k1 : ℕ} (v : (⟨2, ![n0, n1]⟩ : Shape).Idx → α) (o0 o1 : ℕ)
    (inb : ∀ a : Fin 2, (![o0, o1] : Fin 2 → ℕ) a + (![k0, k1] : Fin 2 → ℕ) a ≤ (![n0, n1] : Fin 2 → ℕ) a)
    (a : Fin k0) (b : Fin k1) (a' : Fin n0) (b' : Fin n1) (ha : a'.val = o0 + a.val) (hb : b'.val = o1 + b.val) :
    v ((Rect.unit (s := ⟨2, ![n0, n1]⟩) ![o0, o1] ![k0, k1] inb).toLoadRect.idx (ix2 a b)) = v (ix2 a' b') := by
  congr 1
  funext d
  apply Fin.ext
  match d with
  | ⟨0, _⟩ => show o0 + 1 * a.val = a'.val; omega
  | ⟨1, _⟩ => show o1 + 1 * b.val = b'.val; omega

/-- A box of a three-dimensional array, read. -/
theorem box3 {α : Type} {n0 n1 n2 k0 k1 k2 : ℕ} (v : (⟨3, ![n0, n1, n2]⟩ : Shape).Idx → α) (o0 o1 o2 : ℕ)
    (inb : ∀ a : Fin 3, (![o0, o1, o2] : Fin 3 → ℕ) a + (![k0, k1, k2] : Fin 3 → ℕ) a ≤ (![n0, n1, n2] : Fin 3 → ℕ) a)
    (a : Fin k0) (b : Fin k1) (d : Fin k2) (a' : Fin n0) (b' : Fin n1) (d' : Fin n2) (ha : a'.val = o0 + a.val) (hb : b'.val = o1 + b.val)
    (hd : d'.val = o2 + d.val) :
    v ((Rect.unit (s := ⟨3, ![n0, n1, n2]⟩) ![o0, o1, o2] ![k0, k1, k2] inb).toLoadRect.idx (ix3 a b d)) = v (ix3 a' b' d') := by
  congr 1
  funext i
  apply Fin.ext
  match i with
  | ⟨0, _⟩ => show o0 + 1 * a.val = a'.val; omega
  | ⟨1, _⟩ => show o1 + 1 * b.val = b'.val; omega
  | ⟨2, _⟩ => show o2 + 1 * d.val = d'.val; omega

/-- A place inside a stored box. -/
theorem put2_in {α : Type} {n0 n1 k0 k1 : ℕ} (v : (⟨2, ![n0, n1]⟩ : Shape).Idx → α) (o0 o1 : ℕ)
    (inb : ∀ a : Fin 2, (![o0, o1] : Fin 2 → ℕ) a + (![k0, k1] : Fin 2 → ℕ) a ≤ (![n0, n1] : Fin 2 → ℕ) a)
    (w : (⟨2, ![k0, k1]⟩ : Shape).Idx → α) (a : Fin k0) (b : Fin k1) (a' : Fin n0) (b' : Fin n1) (ha : a'.val = o0 + a.val) (hb : b'.val = o1 + b.val) :
    put v (Rect.unit (s := ⟨2, ![n0, n1]⟩) ![o0, o1] ![k0, k1] inb) w (ix2 a' b') = w (ix2 a b) := by
  have e : (Rect.unit (s := ⟨2, ![n0, n1]⟩) ![o0, o1] ![k0, k1] inb).emb (ix2 a b) = ix2 a' b' := by
    funext d
    apply Fin.ext
    match d with
    | ⟨0, _⟩ => show o0 + 1 * a.val = a'.val; omega
    | ⟨1, _⟩ => show o1 + 1 * b.val = b'.val; omega
  rw [← e, put_emb]

/-- A place outside a stored box. -/
theorem put2_out {α : Type} {n0 n1 k0 k1 : ℕ} (v : (⟨2, ![n0, n1]⟩ : Shape).Idx → α) (o0 o1 : ℕ)
    (inb : ∀ a : Fin 2, (![o0, o1] : Fin 2 → ℕ) a + (![k0, k1] : Fin 2 → ℕ) a ≤ (![n0, n1] : Fin 2 → ℕ) a)
    (w : (⟨2, ![k0, k1]⟩ : Shape).Idx → α) (a' : Fin n0) (b' : Fin n1)
    (h : a'.val < o0 ∨ o0 + k0 ≤ a'.val ∨ b'.val < o1 ∨ o1 + k1 ≤ b'.val) :
    put v (Rect.unit (s := ⟨2, ![n0, n1]⟩) ![o0, o1] ![k0, k1] inb) w (ix2 a' b') = v (ix2 a' b') := by
  refine put_miss _ _ _ _ fun x hx => ?_
  have e0 : o0 + 1 * (x 0).val = a'.val := congrArg (fun y : (⟨2, ![n0, n1]⟩ : Shape).Idx => (y 0).val) hx
  have e1 : o1 + 1 * (x 1).val = b'.val := congrArg (fun y : (⟨2, ![n0, n1]⟩ : Shape).Idx => (y 1).val) hx
  have l0 : (x 0).val < k0 := (x 0).isLt
  have l1 : (x 1).val < k1 := (x 1).isLt
  omega

/-- A place inside a stored box of three dimensions. -/
theorem put3_in {α : Type} {n0 n1 n2 k0 k1 k2 : ℕ} (v : (⟨3, ![n0, n1, n2]⟩ : Shape).Idx → α) (o0 o1 o2 : ℕ)
    (inb : ∀ a : Fin 3, (![o0, o1, o2] : Fin 3 → ℕ) a + (![k0, k1, k2] : Fin 3 → ℕ) a ≤ (![n0, n1, n2] : Fin 3 → ℕ) a)
    (w : (⟨3, ![k0, k1, k2]⟩ : Shape).Idx → α) (a : Fin k0) (b : Fin k1) (d : Fin k2) (a' : Fin n0) (b' : Fin n1) (d' : Fin n2)
    (ha : a'.val = o0 + a.val) (hb : b'.val = o1 + b.val) (hd : d'.val = o2 + d.val) :
    put v (Rect.unit (s := ⟨3, ![n0, n1, n2]⟩) ![o0, o1, o2] ![k0, k1, k2] inb) w (ix3 a' b' d') = w (ix3 a b d) := by
  have e : (Rect.unit (s := ⟨3, ![n0, n1, n2]⟩) ![o0, o1, o2] ![k0, k1, k2] inb).emb (ix3 a b d) = ix3 a' b' d' := by
    funext i
    apply Fin.ext
    match i with
    | ⟨0, _⟩ => show o0 + 1 * a.val = a'.val; omega
    | ⟨1, _⟩ => show o1 + 1 * b.val = b'.val; omega
    | ⟨2, _⟩ => show o2 + 1 * d.val = d'.val; omega
  rw [← e, put_emb]

/-- A place of another first coordinate. -/
theorem put3_out {α : Type} {n0 n1 n2 k0 k1 k2 : ℕ} (v : (⟨3, ![n0, n1, n2]⟩ : Shape).Idx → α) (o0 o1 o2 : ℕ)
    (inb : ∀ a : Fin 3, (![o0, o1, o2] : Fin 3 → ℕ) a + (![k0, k1, k2] : Fin 3 → ℕ) a ≤ (![n0, n1, n2] : Fin 3 → ℕ) a)
    (w : (⟨3, ![k0, k1, k2]⟩ : Shape).Idx → α) (a' : Fin n0) (b' : Fin n1) (d' : Fin n2) (h : a'.val < o0 ∨ o0 + k0 ≤ a'.val) :
    put v (Rect.unit (s := ⟨3, ![n0, n1, n2]⟩) ![o0, o1, o2] ![k0, k1, k2] inb) w (ix3 a' b' d') = v (ix3 a' b' d') := by
  refine put_miss _ _ _ _ fun x hx => ?_
  have e0 : o0 + 1 * (x 0).val = a'.val := congrArg (fun y : (⟨3, ![n0, n1, n2]⟩ : Shape).Idx => (y 0).val) hx
  have l0 : (x 0).val < k0 := (x 0).isLt
  omega

/-! ## What the scratch holds -/

/-- The input blocks a tile reads. -/
structure Inputs (W : Weights) (x : ℕ → Row) (X : St Ideal) : Prop where
  x : ∀ r d : Fin 1024, X 0 (ix2 r d) = x r.val d
  g : ∀ d : Fin 1024, X 1 (ix2 0 d) = W.g d
  wl : ∀ (l : Fin 1024) (a : Fin 128), X 3 (ix2 l a) = W.wl l a
  w2 : ∀ (a : Fin 128) (j : Fin 512), X 4 (ix2 a j) = W.w2 a j
  bg : ∀ j : Fin 512, X 5 (ix2 0 j) = W.bg j
  ng : ∀ e : Fin 1024, X 6 (ix2 0 e) = W.ng e

/-- The inputs as they were, and the weights in the scratch. -/
structure Base (W : Weights) (X s : St Ideal) : Prop where
  keeps : Keeps X s
  win : ∀ (i : Fin 6) (l : Fin 1024) (j : Fin 512), s 13 (ix3 i l j) = W.win i l j
  wout : ∀ e d : Fin 1024, s 14 (ix2 e d) = W.wout e d

/-- Changing an operand that is neither input nor weights keeps inputs and weights. -/
theorem Base.update {W : Weights} {X s : St Ideal} (h : Base W X s) (k : Fin 23) (hk : 10 ≤ k.val) (h13 : k ≠ 13) (h14 : k ≠ 14)
    (w : (shp k).Idx → Elt Ideal (ety k)) : Base W X (Function.update s k w) where
  keeps := h.keeps.update k hk w
  win i l j := by rw [Function.update_of_ne (Ne.symm h13)]; exact h.win i l j
  wout e d := by rw [Function.update_of_ne (Ne.symm h14)]; exact h.wout e d

/-- Rows before `n` of an array hold `f`. -/
def Rows {C : ℕ} (A : (⟨2, ![1024, C]⟩ : Shape).Idx → EReal) (f : ℕ → Fin C → EReal) (n : ℕ) : Prop :=
  ∀ (r : Fin 1024) (j : Fin C), r.val < n → A (ix2 r j) = f r.val j

/-- So do the rows before block `i`, and of block `i` the columns before `m`. -/
def Part {C : ℕ} (A : (⟨2, ![1024, C]⟩ : Shape).Idx → EReal) (f : ℕ → Fin C → EReal) (R i m : ℕ) : Prop :=
  ∀ (r : Fin 1024) (j : Fin C), (r.val < R * i ∨ (r.val < R * (i + 1) ∧ j.val < m)) → A (ix2 r j) = f r.val j

/-- Another piece of the block's columns. -/
theorem Part.put {C : ℕ} {A : (⟨2, ![1024, C]⟩ : Shape).Idx → EReal} {f : ℕ → Fin C → EReal} {R i m k m' : ℕ} (h : Part A f R i m) (hm : m + k = m')
    (inb : ∀ a : Fin 2, (![R * i, m] : Fin 2 → ℕ) a + (![R, k] : Fin 2 → ℕ) a ≤ (![1024, C] : Fin 2 → ℕ) a)
    (w : (⟨2, ![R, k]⟩ : Shape).Idx → EReal) (hw : ∀ (p : Fin R) (j : Fin k) (hj : m + j.val < C), w (ix2 p j) = f (R * i + p.val) ⟨m + j.val, hj⟩) :
    Part (put A (Rect.unit (s := ⟨2, ![1024, C]⟩) ![R * i, m] ![R, k] inb) w) f R i m' := by
  subst hm
  intro r j hr
  have eR : R * (i + 1) = R * i + R := Nat.mul_succ R i
  have b1 : m + k ≤ C := inb 1
  rw [eR] at hr
  by_cases h1 : R * i ≤ r.val ∧ r.val < R * i + R ∧ m ≤ j.val ∧ j.val < m + k
  · rw [put2_in A (R * i) m inb w ⟨r.val - R * i, by omega⟩ ⟨j.val - m, by omega⟩ r j (by dsimp only; omega) (by dsimp only; omega), hw _ _ (by dsimp only; omega)]
    congr 1
    · dsimp only; omega
    · exact Fin.ext (by dsimp only; omega)
  · rw [put2_out A (R * i) m inb w r j (by omega)]
    refine h r j ?_
    rw [eR]
    omega

/-- A block's columns all done, the next block begins. -/
theorem Part.next {C : ℕ} {A : (⟨2, ![1024, C]⟩ : Shape).Idx → EReal} {f : ℕ → Fin C → EReal} {R i m : ℕ} (h : Part A f R i m) (hm : C ≤ m) :
    Part A f R (i + 1) 0 := by
  intro r j hr
  refine h r j ?_
  have := j.isLt
  omega

/-- Before the first block nothing is asked of an array being filled. -/
theorem Part.begin {C : ℕ} {A : (⟨2, ![1024, C]⟩ : Shape).Idx → EReal} {f : ℕ → Fin C → EReal} {R : ℕ} : Part A f R 0 0 := by
  intro r j hr
  omega

variable [Cert.GlaIdeal.Facts]

/-- A row of the queries the body computes is the layer's. -/
theorem queries_row (W : Weights) (y : Row) (h : Vec Ideal S256x1024 .bf16) (w : Vec Ideal S1x1024x512 .bf16) (p : Fin 256) (j : Fin 512)
    (hh : (fun l => h (ix2 p l)) = hRow W y) (hw : (fun l j => w (ix3 0 l j)) = W.win 0) (e : Fin 512) (he : j = e) : queries h w (ix2 p j) = qRow W y e := by
  subst he
  rw [queries_apply, hh, hw]
  rfl

/-- A row of the keys the body computes is the layer's. -/
theorem keys_row (W : Weights) (y : Row) (h : Vec Ideal S256x1024 .bf16) (w : Vec Ideal S1x1024x512 .bf16) (p : Fin 256) (j : Fin 512)
    (hh : (fun l => h (ix2 p l)) = hRow W y) (hw : (fun l j => w (ix3 0 l j)) = W.win 1) (e : Fin 512) (he : j = e) : keys h w (ix2 p j) = kRow W y e := by
  subst he
  rw [keys_apply, hh, hw]
  rfl

/-- A row of the decay gates the body computes is the layer's. -/
theorem gate_row (W : Weights) (y : Row) (h : Vec Ideal S256x1024 .bf16) (wl : Vec Ideal S1024x128 .bf16) (w2 : Vec Ideal S128x512 .bf16) (b : Vec Ideal S1x512 .f32)
    (p : Fin 256) (j : Fin 512) (hh : (fun l => h (ix2 p l)) = hRow W y) (hl : (fun l a => wl (ix2 l a)) = W.wl) (h2 : (fun a j => w2 (ix2 a j)) = W.w2)
    (hb : (fun j => b (ix2 0 j)) = W.bg) (e : Fin 512) (he : j = e) : gate (gateArg h wl w2 b) (ix2 p j) = gRow W y e := by
  subst he
  rw [gate_apply, gateArg_apply, hh, hl, h2, hb]
  rfl

/-- A row of the values the body computes is the layer's. -/
theorem vals_row (W : Weights) (y : Row) (n : Fin 2) (i : Fin 6) (hi : i.val = 2 + n.val) (h : Vec Ideal S256x1024 .bf16) (w : Vec Ideal S1x1024x512 .bf16)
    (p : Fin 256) (j : Fin 512) (hh : (fun l => h (ix2 p l)) = hRow W y) (hw : (fun l j => w (ix3 0 l j)) = W.win i) (e : Fin 1024)
    (he : e.val = 512 * n.val + j.val) : vals h w (ix2 p j) = vRow W y e := by
  rw [vals_apply, hh, hw]
  unfold vRow
  have h1 : (⟨2 + (half e).val, by omega⟩ : Fin 6) = i := Fin.ext (by show 2 + e.val / 512 = i.val; omega)
  have h2 : place e = j := Fin.ext (by show e.val % 512 = j.val; omega)
  rw [h1, h2]

/-- A row of the output gate the body computes is the layer's. -/
theorem outGate_row (W : Weights) (y : Row) (n : Fin 2) (i : Fin 6) (hi : i.val = 4 + n.val) (h : Vec Ideal S256x1024 .bf16) (w : Vec Ideal S1x1024x512 .bf16)
    (g : Vec Ideal S1x512 .f32) (p : Fin 256) (j : Fin 512) (hh : (fun l => h (ix2 p l)) = hRow W y) (hw : (fun l j => w (ix3 0 l j)) = W.win i) (e : Fin 1024)
    (he : e.val = 512 * n.val + j.val) (hg : g (ix2 0 j) = W.ng ⟨512 * n.val + j.val, by omega⟩) : outGate h w g (ix2 p j) = oRow W y e := by
  rw [outGate_apply, hh, hw, hg]
  unfold oRow
  have h1 : (⟨4 + (half e).val, by omega⟩ : Fin 6) = i := Fin.ext (by show 4 + e.val / 512 = i.val; omega)
  have h2 : place e = j := Fin.ext (by show e.val % 512 = j.val; omega)
  have h3 : (⟨512 * n.val + j.val, by omega⟩ : Fin 1024) = e := Fin.ext he.symm
  rw [h1, h2, h3]

section Tile

variable (W : Weights) (x : ℕ → Row) (S : Heads) (X : St Ideal)

/-- Within block `i` of the projections: how many columns of each array are done. -/
structure Mid (i q k g v o : ℕ) (s : St Ideal) : Prop where
  base : Base W X s
  st : ∀ (h : Fin 4) (a : Fin 128) (e : Fin 256), s 15 (ix3 h a e) = S h a e
  q : Part (s 17 : S1024x512.Idx → EReal) (fun r => qRow W (x r)) 256 i q
  k : Part (s 18 : S1024x512.Idx → EReal) (fun r => kRow W (x r)) 256 i k
  g : Part (s 20 : S1024x512.Idx → EReal) (fun r => gRow W (x r)) 256 i g
  v : Part (s 19 : S1024x1024.Idx → EReal) (fun r => vRow W (x r)) 256 i v
  o : Part (s 21 : S1024x1024.Idx → EReal) (fun r => oRow W (x r)) 256 i o

/-- The same, with the block's normalised rows. -/
structure MidH (i : Fin 4) (q k g v o : ℕ) (s : St Ideal) : Prop extends Mid W x S X i.val q k g v o s where
  hn : ∀ (p : Fin 256) (d : Fin 1024), s 16 (ix2 ⟨256 * i.val + p.val, by omega⟩ d) = hRow W (x (256 * i.val + p.val)) d

variable {W x S X}
variable {nD : Nat} {τ : Topo} {sig : RefSig} {Λ : Labels} {U : Type} [URA U]
variable {defs : Defs nD τ sig (Elt Ideal) Λ} {𝒱 : Variants} {c : Dev nD}
variable {M : (k : Fin 23) → Memref sig .tc .vmem (shp k) (ety k)} {hM : ∀ k, (M k).IsWhole}

/-- More of the queries. -/
theorem MidH.setQ {i : Fin 4} {q k g v o n : ℕ} {s : St Ideal} (h : MidH W x S X i q k g v o s) (A : S1024x512.Idx → EReal)
    (hA : Part A (fun r => qRow W (x r)) 256 i.val n) : MidH W x S X i n k g v o (Function.update s 17 A) := by
  have hb := h.base.update 17 (by decide) (by decide) (by decide) A
  have e (j : Fin 23) (hj : j ≠ 17) : Function.update s 17 A j = s j := Function.update_of_ne hj _ _
  have e17 : Function.update s 17 A 17 = A := Function.update_self ..
  generalize Function.update s 17 A = s' at *
  have e15 := e 15 (by decide)
  have e16 := e 16 (by decide)
  have e18 := e 18 (by decide)
  have e19 := e 19 (by decide)
  have e20 := e 20 (by decide)
  have e21 := e 21 (by decide)
  exact { base := hb, st := e15 ▸ h.st, hn := e16 ▸ h.hn, q := e17 ▸ hA, k := e18 ▸ h.k, g := e20 ▸ h.g, v := e19 ▸ h.v, o := e21 ▸ h.o }

/-- More of the keys. -/
theorem MidH.setK {i : Fin 4} {q k g v o n : ℕ} {s : St Ideal} (h : MidH W x S X i q k g v o s) (A : S1024x512.Idx → EReal)
    (hA : Part A (fun r => kRow W (x r)) 256 i.val n) : MidH W x S X i q n g v o (Function.update s 18 A) := by
  have hb := h.base.update 18 (by decide) (by decide) (by decide) A
  have e (j : Fin 23) (hj : j ≠ 18) : Function.update s 18 A j = s j := Function.update_of_ne hj _ _
  have e18 : Function.update s 18 A 18 = A := Function.update_self ..
  generalize Function.update s 18 A = s' at *
  have e15 := e 15 (by decide)
  have e16 := e 16 (by decide)
  have e17 := e 17 (by decide)
  have e19 := e 19 (by decide)
  have e20 := e 20 (by decide)
  have e21 := e 21 (by decide)
  exact { base := hb, st := e15 ▸ h.st, hn := e16 ▸ h.hn, q := e17 ▸ h.q, k := e18 ▸ hA, g := e20 ▸ h.g, v := e19 ▸ h.v, o := e21 ▸ h.o }

/-- More of the gates. -/
theorem MidH.setG {i : Fin 4} {q k g v o n : ℕ} {s : St Ideal} (h : MidH W x S X i q k g v o s) (A : S1024x512.Idx → EReal)
    (hA : Part A (fun r => gRow W (x r)) 256 i.val n) : MidH W x S X i q k n v o (Function.update s 20 A) := by
  have hb := h.base.update 20 (by decide) (by decide) (by decide) A
  have e (j : Fin 23) (hj : j ≠ 20) : Function.update s 20 A j = s j := Function.update_of_ne hj _ _
  have e20 : Function.update s 20 A 20 = A := Function.update_self ..
  generalize Function.update s 20 A = s' at *
  have e15 := e 15 (by decide)
  have e16 := e 16 (by decide)
  have e17 := e 17 (by decide)
  have e18 := e 18 (by decide)
  have e19 := e 19 (by decide)
  have e21 := e 21 (by decide)
  exact { base := hb, st := e15 ▸ h.st, hn := e16 ▸ h.hn, q := e17 ▸ h.q, k := e18 ▸ h.k, g := e20 ▸ hA, v := e19 ▸ h.v, o := e21 ▸ h.o }

/-- More of the values. -/
theorem MidH.setV {i : Fin 4} {q k g v o n : ℕ} {s : St Ideal} (h : MidH W x S X i q k g v o s) (A : S1024x1024.Idx → EReal)
    (hA : Part A (fun r => vRow W (x r)) 256 i.val n) : MidH W x S X i q k g n o (Function.update s 19 A) := by
  have hb := h.base.update 19 (by decide) (by decide) (by decide) A
  have e (j : Fin 23) (hj : j ≠ 19) : Function.update s 19 A j = s j := Function.update_of_ne hj _ _
  have e19 : Function.update s 19 A 19 = A := Function.update_self ..
  generalize Function.update s 19 A = s' at *
  have e15 := e 15 (by decide)
  have e16 := e 16 (by decide)
  have e17 := e 17 (by decide)
  have e18 := e 18 (by decide)
  have e20 := e 20 (by decide)
  have e21 := e 21 (by decide)
  exact { base := hb, st := e15 ▸ h.st, hn := e16 ▸ h.hn, q := e17 ▸ h.q, k := e18 ▸ h.k, g := e20 ▸ h.g, v := e19 ▸ hA, o := e21 ▸ h.o }

/-- More of the output gates. -/
theorem MidH.setO {i : Fin 4} {q k g v o n : ℕ} {s : St Ideal} (h : MidH W x S X i q k g v o s) (A : S1024x1024.Idx → EReal)
    (hA : Part A (fun r => oRow W (x r)) 256 i.val n) : MidH W x S X i q k g v n (Function.update s 21 A) := by
  have hb := h.base.update 21 (by decide) (by decide) (by decide) A
  have e (j : Fin 23) (hj : j ≠ 21) : Function.update s 21 A j = s j := Function.update_of_ne hj _ _
  have e21 : Function.update s 21 A 21 = A := Function.update_self ..
  generalize Function.update s 21 A = s' at *
  have e15 := e 15 (by decide)
  have e16 := e 16 (by decide)
  have e17 := e 17 (by decide)
  have e18 := e 18 (by decide)
  have e19 := e 19 (by decide)
  have e20 := e 20 (by decide)
  exact { base := hb, st := e15 ▸ h.st, hn := e16 ▸ h.hn, q := e17 ▸ h.q, k := e18 ▸ h.k, g := e20 ▸ h.g, v := e19 ▸ h.v, o := e21 ▸ hA }

/-- The block's normalised rows, stored. -/
theorem Mid.setH {i : Fin 4} {q k g v o : ℕ} {s : St Ideal} (h : Mid W x S X i.val q k g v o s) (A : S1024x1024.Idx → EReal)
    (hA : ∀ (p : Fin 256) (d : Fin 1024), A (ix2 ⟨256 * i.val + p.val, by omega⟩ d) = hRow W (x (256 * i.val + p.val)) d) :
    MidH W x S X i q k g v o (Function.update s 16 A) := by
  have hb := h.base.update 16 (by decide) (by decide) (by decide) A
  have e (j : Fin 23) (hj : j ≠ 16) : Function.update s 16 A j = s j := Function.update_of_ne hj _ _
  have e16 : Function.update s 16 A 16 = A := Function.update_self ..
  generalize Function.update s 16 A = s' at *
  have e15 := e 15 (by decide)
  have e17 := e 17 (by decide)
  have e18 := e 18 (by decide)
  have e19 := e 19 (by decide)
  have e20 := e 20 (by decide)
  have e21 := e 21 (by decide)
  exact { base := hb, st := e15 ▸ h.st, hn := e16 ▸ hA, q := e17 ▸ h.q, k := e18 ▸ h.k, g := e20 ▸ h.g, v := e19 ▸ h.v, o := e21 ▸ h.o }

/-- A block all done, the next one begins. -/
theorem Mid.next {i : ℕ} {s : St Ideal} (h : Mid W x S X i 512 512 512 1024 1024 s) : Mid W x S X (i + 1) 0 0 0 0 0 s :=
  { base := h.base, st := h.st, q := h.q.next (le_refl _), k := h.k.next (le_refl _), g := h.g.next (le_refl _), v := h.v.next (le_refl _), o := h.o.next (le_refl _) }

/-- The normed rows loaded from scratch are the layer's. -/
theorem load_hn {i : Fin 4} {q k g v o : ℕ} {s : St Ideal} (h : MidH W x S X i q k g v o s) (p : Fin 256) :
    (fun l : Fin 1024 => s 16 ((rRow i).toLoadRect.idx (ix2 p l))) = hRow W (x (256 * i.val + p.val)) :=
  funext fun l => (box2 (s 16) _ _ (in256x1024 i) p l ⟨256 * i.val + p.val, by omega⟩ l rfl (by simp)).trans (h.hn p l)

/-- A column chunk of the input matrix loaded from scratch is the layer's. -/
theorem load_win {s : St Ideal} (h : Base W X s) (n : Fin 6) :
    (fun (l : Fin 1024) (j : Fin 512) => s 13 ((rWin n).toLoadRect.idx (ix3 0 l j))) = W.win n :=
  funext fun l => funext fun j => (box3 (s 13) _ _ _ (inWin n) 0 l j n l j (by simp) (by simp) (by simp)).trans (h.win n l j)

/-- A half of the heads' norm scale loaded is the layer's. -/
theorem load_ng (hX : Inputs W x X) {s : St Ideal} (h : Base W X s) (n : Fin 2) (j : Fin 512) :
    s 6 ((rNg n).toLoadRect.idx (ix2 0 j)) = W.ng ⟨512 * n.val + j.val, by omega⟩ := by
  rw [h.keeps 6 (by decide)]
  exact (box2 (X 6) _ _ (inNg n) 0 j 0 ⟨512 * n.val + j.val, by omega⟩ (by simp) rfl).trans (hX.ng _)

variable (hX : Inputs W x X)
include hX

/-- The projections of 256 rows. -/
theorem sub_does (i : Fin 4) : Does (U := U) defs 𝒱 c M (Mid W x S X i.val 0 0 0 0 0) (sub M hM i)
    fun _ s => Mid W x S X (i.val + 1) 0 0 0 0 0 s := by
  unfold sub
  refine Does.get (F := Ideal) 0 (rRow i).toLoadRect _ (fun (a : S256x1024.Idx → EReal) => ∀ p : Fin 256, (fun d => a (ix2 p d)) = x (256 * i.val + p.val)) ?_ fun ax hax => ?_
  · intro s h p
    rw [h.base.keeps 0 (by decide)]
    exact funext fun d => (box2 (X 0) _ _ (in256x1024 i) p d ⟨256 * i.val + p.val, by omega⟩ d rfl (by simp)).trans (hX.x _ _)
  refine Does.get (F := Ideal) 1 _ _ (fun (a : S1x1024.Idx → EReal) => (fun d => a (ix2 0 d)) = W.g) ?_ fun ag hag => ?_
  · intro s h
    rw [h.base.keeps 1 (by decide)]
    exact funext fun d => (box2 (X 1) 0 0 _ 0 d 0 d rfl (by simp)).trans (hX.g _)
  refine Does.get (F := Ideal) 16 _ _ (fun _ => True) (fun _ _ => trivial) fun _ _ => ?_
  refine Does.set (F := Ideal) 16 (rRow i) _ _ _ (MidH W x S X i 0 0 0 0 0) ?_ ?_
  · intro s h
    refine h.setH (put (s 16) (rRow i) (normed (F := Ideal) ax ag)) fun p d => ?_
    refine (put2_in (α := EReal) (s 16) (256 * i.val) 0 (in256x1024 i) (normed (F := Ideal) ax ag) p d ⟨256 * i.val + p.val, by omega⟩ d rfl (by simp)).trans ?_
    refine (normed_apply ax ag p d).trans ?_
    rw [hax, hag]
    rfl
  refine Does.get (F := Ideal) 16 (rRow i).toLoadRect _ (fun (a : S256x1024.Idx → EReal) => ∀ p : Fin 256, (fun d => a (ix2 p d)) = hRow W (x (256 * i.val + p.val))) (fun s h => load_hn h) fun ah hah => ?_
  refine Does.get (F := Ideal) 3 _ _ (fun (a : S1024x128.Idx → EReal) => (fun l j => a (ix2 l j)) = W.wl) ?_ fun awl hawl => ?_
  · intro s h
    rw [h.base.keeps 3 (by decide)]
    exact funext fun l => funext fun d => (box2 (X 3) 0 0 _ l d l d (by simp) (by simp)).trans (hX.wl _ _)
  refine Does.get (F := Ideal) 4 _ _ (fun (a : S128x512.Idx → EReal) => (fun l j => a (ix2 l j)) = W.w2) ?_ fun aw2 haw2 => ?_
  · intro s h
    rw [h.base.keeps 4 (by decide)]
    exact funext fun l => funext fun d => (box2 (X 4) 0 0 _ l d l d (by simp) (by simp)).trans (hX.w2 _ _)
  refine Does.get (F := Ideal) 5 _ _ (fun (a : S1x512.Idx → EReal) => (fun j => a (ix2 0 j)) = W.bg) ?_ fun ab hab => ?_
  · intro s h
    rw [h.base.keeps 5 (by decide)]
    exact funext fun d => (box2 (X 5) 0 0 _ 0 d 0 d (by simp) (by simp)).trans (hX.bg _)
  refine Does.get (F := Ideal) 16 (rRow i).toLoadRect _ (fun (a : S256x1024.Idx → EReal) => ∀ p : Fin 256, (fun d => a (ix2 p d)) = hRow W (x (256 * i.val + p.val))) (fun s h => load_hn h) fun a0 h0 => ?_
  refine Does.get (F := Ideal) 13 (rWin 0).toLoadRect _ (fun (a : S1x1024x512.Idx → EReal) => (fun l j => a (ix3 0 l j)) = W.win 0) (fun s h => load_win h.base 0) fun w0 g0 => ?_
  refine Does.get (F := Ideal) 17 _ _ (fun _ => True) (fun _ _ => trivial) fun _ _ => ?_
  refine Does.set (F := Ideal) 17 (rNarrow i) _ _ _ (MidH W x S X i 512 0 0 0 0) ?_ ?_
  · intro s h
    refine h.setQ (put (s 17) (rNarrow i) (queries (F := Ideal) a0 w0)) ?_
    exact Part.put h.q rfl (in256x512' i) _ fun p j hj => queries_row W _ a0 w0 p j (h0 p) g0 _ (Fin.ext (Nat.zero_add _).symm)
  refine Does.get (F := Ideal) 16 (rRow i).toLoadRect _ (fun (a : S256x1024.Idx → EReal) => ∀ p : Fin 256, (fun d => a (ix2 p d)) = hRow W (x (256 * i.val + p.val))) (fun s h => load_hn h) fun a1 h1 => ?_
  refine Does.get (F := Ideal) 13 (rWin 1).toLoadRect _ (fun (a : S1x1024x512.Idx → EReal) => (fun l j => a (ix3 0 l j)) = W.win 1) (fun s h => load_win h.base 1) fun w1 g1 => ?_
  refine Does.get (F := Ideal) 18 _ _ (fun _ => True) (fun _ _ => trivial) fun _ _ => ?_
  refine Does.set (F := Ideal) 18 (rNarrow i) _ _ _ (MidH W x S X i 512 512 0 0 0) ?_ ?_
  · intro s h
    refine h.setK (put (s 18) (rNarrow i) (keys (F := Ideal) a1 w1)) ?_
    exact Part.put h.k rfl (in256x512' i) _ fun p j hj => keys_row W _ a1 w1 p j (h1 p) g1 _ (Fin.ext (Nat.zero_add _).symm)
  refine Does.get (F := Ideal) 20 _ _ (fun _ => True) (fun _ _ => trivial) fun _ _ => ?_
  refine Does.set (F := Ideal) 20 (rNarrow i) _ _ _ (MidH W x S X i 512 512 512 0 0) ?_ ?_
  · intro s h
    refine h.setG (put (s 20) (rNarrow i) (gate (gateArg (F := Ideal) ah awl aw2 ab))) ?_
    exact Part.put h.g rfl (in256x512' i) _ fun p j hj => gate_row W _ ah awl aw2 ab p j (hah p) hawl haw2 hab _ (Fin.ext (Nat.zero_add _).symm)
  refine Does.get (F := Ideal) 16 (rRow i).toLoadRect _ (fun (a : S256x1024.Idx → EReal) => ∀ p : Fin 256, (fun d => a (ix2 p d)) = hRow W (x (256 * i.val + p.val))) (fun s h => load_hn h) fun a2 h2 => ?_
  refine Does.get (F := Ideal) 13 (rWin 2).toLoadRect _ (fun (a : S1x1024x512.Idx → EReal) => (fun l j => a (ix3 0 l j)) = W.win 2) (fun s h => load_win h.base 2) fun w2 g2 => ?_
  refine Does.get (F := Ideal) 19 _ _ (fun _ => True) (fun _ _ => trivial) fun _ _ => ?_
  refine Does.set (F := Ideal) 19 (rHalf i 0) _ _ _ (MidH W x S X i 512 512 512 512 0) ?_ ?_
  · intro s h
    refine h.setV (put (s 19) (rHalf i 0) (vals (F := Ideal) a2 w2)) ?_
    exact Part.put h.v rfl (in256x512 i 0) _ fun p j hj => vals_row W _ 0 2 rfl a2 w2 p j (h2 p) g2 _ rfl
  refine Does.get (F := Ideal) 16 (rRow i).toLoadRect _ (fun (a : S256x1024.Idx → EReal) => ∀ p : Fin 256, (fun d => a (ix2 p d)) = hRow W (x (256 * i.val + p.val))) (fun s h => load_hn h) fun a3 h3 => ?_
  refine Does.get (F := Ideal) 13 (rWin 3).toLoadRect _ (fun (a : S1x1024x512.Idx → EReal) => (fun l j => a (ix3 0 l j)) = W.win 3) (fun s h => load_win h.base 3) fun w3 g3 => ?_
  refine Does.get (F := Ideal) 19 _ _ (fun _ => True) (fun _ _ => trivial) fun _ _ => ?_
  refine Does.set (F := Ideal) 19 (rHalf i 1) _ _ _ (MidH W x S X i 512 512 512 1024 0) ?_ ?_
  · intro s h
    refine h.setV (put (s 19) (rHalf i 1) (vals (F := Ideal) a3 w3)) ?_
    exact Part.put h.v rfl (in256x512 i 1) _ fun p j hj => vals_row W _ 1 3 rfl a3 w3 p j (h3 p) g3 _ rfl
  refine Does.get (F := Ideal) 16 (rRow i).toLoadRect _ (fun (a : S256x1024.Idx → EReal) => ∀ p : Fin 256, (fun d => a (ix2 p d)) = hRow W (x (256 * i.val + p.val))) (fun s h => load_hn h) fun a4 h4 => ?_
  refine Does.get (F := Ideal) 13 (rWin 4).toLoadRect _ (fun (a : S1x1024x512.Idx → EReal) => (fun l j => a (ix3 0 l j)) = W.win 4) (fun s h => load_win h.base 4) fun w4 g4 => ?_
  refine Does.get (F := Ideal) 6 (rNg 0).toLoadRect _ (fun (a : S1x512.Idx → EReal) => ∀ j : Fin 512, a (ix2 0 j) = W.ng ⟨512 * 0 + j.val, by omega⟩) (fun s h => load_ng hX h.base 0) fun n0 e0 => ?_
  refine Does.get (F := Ideal) 21 _ _ (fun _ => True) (fun _ _ => trivial) fun _ _ => ?_
  refine Does.set (F := Ideal) 21 (rHalf i 0) _ _ _ (MidH W x S X i 512 512 512 1024 512) ?_ ?_
  · intro s h
    refine h.setO (put (s 21) (rHalf i 0) (outGate (F := Ideal) a4 w4 n0)) ?_
    exact Part.put h.o rfl (in256x512 i 0) _ fun p j hj => outGate_row W _ 0 4 rfl a4 w4 n0 p j (h4 p) g4 _ rfl (e0 j)
  refine Does.get (F := Ideal) 16 (rRow i).toLoadRect _ (fun (a : S256x1024.Idx → EReal) => ∀ p : Fin 256, (fun d => a (ix2 p d)) = hRow W (x (256 * i.val + p.val))) (fun s h => load_hn h) fun a5 h5 => ?_
  refine Does.get (F := Ideal) 13 (rWin 5).toLoadRect _ (fun (a : S1x1024x512.Idx → EReal) => (fun l j => a (ix3 0 l j)) = W.win 5) (fun s h => load_win h.base 5) fun w5 g5 => ?_
  refine Does.get (F := Ideal) 6 (rNg 1).toLoadRect _ (fun (a : S1x512.Idx → EReal) => ∀ j : Fin 512, a (ix2 0 j) = W.ng ⟨512 * 1 + j.val, by omega⟩) (fun s h => load_ng hX h.base 1) fun n1 e1 => ?_
  refine Does.get (F := Ideal) 21 _ _ (fun _ => True) (fun _ _ => trivial) fun _ _ => ?_
  refine Does.store (F := Ideal) 21 (rHalf i 1) _ _ _ fun s h => ?_
  refine (MidH.setO (n := 1024) h (put (s 21) (rHalf i 1) (outGate (F := Ideal) a5 w5 n1)) ?_).toMid.next
  exact Part.put h.o rfl (in256x512 i 1) _ fun p j hj => outGate_row W _ 1 5 rfl a5 w5 n1 p j (h5 p) g5 _ rfl (e1 j)

/-- The projections of the tile. -/
theorem subs_does : Does (U := U) defs 𝒱 c M (Mid W x S X 0 0 0 0 0 0) (subs M hM) fun _ s => Mid W x S X 4 0 0 0 0 0 s := by
  unfold subs
  exact Does.bind (sub_does hX 0) fun _ => Does.bind (sub_does hX 1) fun _ => Does.bind (sub_does hX 2) fun _ => sub_does hX 3

end Tile

end Cert.GlaTile

end
-- ==== Proof.GlaChunks.lean ====
/- The chunks of a tile: what the body's second part leaves in the result's block and in the states. -/
module

public import proofs.«01_k».proof.Proof.GlaSubs

@[expose] public section

noncomputable section

namespace Cert.GlaTile

open Idealize.ShloMosaic Idealize.ShloMosaic.TcCoe
open Idealize.SL Idealize.SL.RA Idealize.SL.BI Idealize.SL.Sem
open Cert.GlaIdeal Cert.GlaIdeal.Gen
open scoped BigOperators

variable (W : Weights) (x : ℕ → Row) (S : Heads) (X : St Ideal)

/-- A row before the output matrix. -/
def yRow (r : ℕ) (e : Fin 1024) : EReal :=
  yOf W (chunkOf x (r / 64)) (statesAt W x S (r / 64)) ⟨r % 64, by omega⟩ (hd e) (pl e)

/-- An output row is the input row plus the mixed row times the output matrix. -/
theorem rowOut_eq (r : ℕ) (d : Fin 1024) : rowOut W x S r d = x r d + ∑ e, yRow W x S r e * W.wout e d := by
  show x (64 * (r / 64) + r % 64) d + _ = _
  rw [Nat.div_add_mod]
  rfl

/-- Among the chunks: the projections all there, the rows of `n` chunks and of the next one `m` columns, and `u` halves of the result. -/
structure Inv (n m u : ℕ) (s : St Ideal) : Prop extends Mid W x S X 4 0 0 0 0 0 s where
  y : Part (s 22 : S1024x1024.Idx → EReal) (yRow W x S) 64 n m
  out : Part (s 10 : S1024x1024.Idx → EReal) (rowOut W x S) 512 u 0

variable {W x S X}

/-- More rows before the output matrix. -/
theorem Inv.setY {n m o m' : ℕ} {s : St Ideal} (h : Inv W x S X n m o s) (A : S1024x1024.Idx → EReal)
    (hA : Part A (yRow W x S) 64 n m') : Inv W x S X n m' o (Function.update s 22 A) := by
  have hb := h.base.update 22 (by decide) (by decide) (by decide) A
  have e (j : Fin 23) (hj : j ≠ 22) : Function.update s 22 A j = s j := Function.update_of_ne hj _ _
  have e22 : Function.update s 22 A 22 = A := Function.update_self ..
  generalize Function.update s 22 A = s' at *
  have e10 := e 10 (by decide)
  have e15 := e 15 (by decide)
  have e17 := e 17 (by decide)
  have e18 := e 18 (by decide)
  have e19 := e 19 (by decide)
  have e20 := e 20 (by decide)
  have e21 := e 21 (by decide)
  exact { base := hb, st := e15 ▸ h.st, q := e17 ▸ h.q, k := e18 ▸ h.k, g := e20 ▸ h.g, v := e19 ▸ h.v, o := e21 ▸ h.o, y := e22 ▸ hA, out := e10 ▸ h.out }

/-- More rows of the result. -/
theorem Inv.setOut {n m o o' : ℕ} {s : St Ideal} (h : Inv W x S X n m o s) (A : S1024x1024.Idx → EReal)
    (hA : Part A (rowOut W x S) 512 o' 0) : Inv W x S X n m o' (Function.update s 10 A) := by
  have hb := h.base.update 10 (by decide) (by decide) (by decide) A
  have e (j : Fin 23) (hj : j ≠ 10) : Function.update s 10 A j = s j := Function.update_of_ne hj _ _
  have e10 : Function.update s 10 A 10 = A := Function.update_self ..
  generalize Function.update s 10 A = s' at *
  have e15 := e 15 (by decide)
  have e17 := e 17 (by decide)
  have e18 := e 18 (by decide)
  have e19 := e 19 (by decide)
  have e20 := e 20 (by decide)
  have e21 := e 21 (by decide)
  have e22 := e 22 (by decide)
  exact { base := hb, st := e15 ▸ h.st, q := e17 ▸ h.q, k := e18 ▸ h.k, g := e20 ▸ h.g, v := e19 ▸ h.v, o := e21 ▸ h.o, y := e22 ▸ h.y, out := e10 ▸ hA }

/-- A chunk's four heads all done, the next chunk begins. -/
theorem Inv.next {n o : ℕ} {s : St Ideal} (h : Inv W x S X n 1024 o s) : Inv W x S X (n + 1) 0 o s :=
  { h with y := h.y.next (le_refl _) }

variable [Cert.GlaIdeal.Facts]

variable (W x S)

/-- What was read for chunk `n`. -/
structure IsChunk (n : ℕ) (C : Chunk Ideal) : Prop where
  b : (fun (i : Fin 64) (j : Fin 512) => C.b (ix2 i j)) = bOf W (chunkOf x n)
  k : (fun (i : Fin 64) (j : Fin 512) => C.k (ix2 i j)) = fun i => kRow W (chunkOf x n i)
  q : (fun (i : Fin 64) (j : Fin 512) => C.q (ix2 i j)) = fun i => qRow W (chunkOf x n i)

/-- A head's values in chunk `n`. -/
def IsVals (n : ℕ) (h : Fin 4) (v : S64x256.Idx → EReal) : Prop :=
  (fun (i : Fin 64) (e : Fin 256) => v (ix2 i e)) = fun i e => vRow W (chunkOf x n i) (at256 h e)

/-- A head's state before chunk `n`. -/
def IsState (n : ℕ) (h : Fin 4) (st : S128x256.Idx → EReal) : Prop :=
  (fun (a : Fin 128) (e : Fin 256) => st (ix2 a e)) = statesAt W x S n h

/-- The four of them. -/
structure AreStates (n : ℕ) (P : States Ideal) : Prop where
  s0 : IsState W x S n 0 P.s0
  s1 : IsState W x S n 1 P.s1
  s2 : IsState W x S n 2 P.s2
  s3 : IsState W x S n 3 P.s3

variable {W x S}

/-- The state after one more chunk is the decayed state plus the chunk's increment. -/
theorem isState_next {n : ℕ} {h : Fin 4} {C : Chunk Ideal} (hC : IsChunk W x n C) {v : S64x256.Idx → EReal} (hv : IsVals W x n h v)
    {st : S128x256.Idx → EReal} (hst : IsState W x S n h st) : IsState W x S (n + 1) h (next (F := Ideal) h C.b st (inc (F := Ideal) h C.b C.k v)) := by
  funext a e
  refine (next_apply h C.b C.k v st a e).trans ?_
  rw [hC.b, hC.k, hv, hst]
  rfl

/-- What a head writes for a row of a chunk is the layer's gated row. -/
theorem mix_row {n : ℕ} {h : Fin 4} {C : Chunk Ideal} (hC : IsChunk W x n C) {v g : S64x256.Idx → EReal} (hv : IsVals W x n h v)
    (hg : ∀ i : Fin 64, (fun e : Fin 256 => g (ix2 i e)) = fun e => oRow W (chunkOf x n i) (at256 h e))
    {st : S128x256.Idx → EReal} (hst : IsState W x S n h st) (i : Fin 64) (e : Fin 256) (d : Fin 1024) (hd' : d.val = 256 * h.val + e.val) :
    gated (F := Ideal) (mix (F := Ideal) h C.b C.k C.q st v) g (ix2 i e) = yRow W x S (64 * n + i.val) d := by
  rw [gated_apply, hg]
  have hm : (fun e : Fin 256 => mix (F := Ideal) h C.b C.k C.q st v (ix2 i e))
      = mixAt (bOf W (chunkOf x n)) (fun i => kRow W (chunkOf x n i)) (fun i => qRow W (chunkOf x n i)) (fun i e => vRow W (chunkOf x n i) (at256 h e)) (statesAt W x S n h) h i := by
    funext e
    refine (mix_apply h C.b C.k C.q st v i e).trans ?_
    rw [hC.b, hC.k, hC.q, hv, hst]
  rw [hm]
  unfold yRow
  have e1 : (64 * n + i.val) / 64 = n := by omega
  have e2 : hd d = h := Fin.ext (by show d.val / 256 = h.val; omega)
  have e3 : pl d = e := Fin.ext (by show d.val % 256 = e.val; omega)
  have e4 : (⟨(64 * n + i.val) % 64, by omega⟩ : Fin 64) = i := Fin.ext (by show (64 * n + i.val) % 64 = i.val; omega)
  rw [e1, e2, e3, e4]
  rfl

variable {nD : Nat} {τ : Topo} {sig : RefSig} {Λ : Labels} {U : Type} [URA U]
variable {defs : Defs nD τ sig (Elt Ideal) Λ} {𝒱 : Variants} {c : Dev nD}
variable {M : (k : Fin 23) → Memref sig .tc .vmem (shp k) (ety k)} {hM : ∀ k, (M k).IsWhole}

/-- A chunk's rows of one of the narrow arrays. -/
theorem load_chunk {A : S1024x512.Idx → EReal} {f : ℕ → Fin 512 → EReal} (h : Part A f 256 4 0) (n : Fin 16) :
    (fun (i : Fin 64) (j : Fin 512) => A ((rChunk n).toLoadRect.idx (ix2 i j))) = fun i => f (64 * n.val + i.val) :=
  funext fun i => funext fun j => (box2 A _ _ (in64x512 n) i j ⟨64 * n.val + i.val, by omega⟩ j rfl (by simp)).trans
    (h _ _ (.inl (by dsimp only; omega)))

/-- A head's part of a chunk's rows of one of the wide arrays. -/
theorem load_head {A : S1024x1024.Idx → EReal} {f : ℕ → Fin 1024 → EReal} (h : Part A f 256 4 0) (n : Fin 16) (hd : Fin 4) :
    (fun (i : Fin 64) (e : Fin 256) => A ((rHead n hd).toLoadRect.idx (ix2 i e))) = fun i e => f (64 * n.val + i.val) (at256 hd e) :=
  funext fun i => funext fun e => (box2 A _ _ (in64x256 n hd) i e ⟨64 * n.val + i.val, by omega⟩ (at256 hd e) rfl rfl).trans
    (h _ _ (.inl (by dsimp only; omega)))

/-- Loading a chunk's queries, keys and summed gates gives the layer's. -/
theorem prep_does {m k o : ℕ} (n : Fin 16) : Does (U := U) defs 𝒱 c M (Inv W x S X m k o) (prep M n)
    fun C s => IsChunk W x n.val C ∧ Inv W x S X m k o s := by
  unfold prep
  refine Does.get (F := Ideal) 20 (rChunk n).toLoadRect _ (fun (a : S64x512.Idx → EReal) => (fun (i : Fin 64) (j : Fin 512) => a (ix2 i j)) = fun i => gRow W (x (64 * n.val + i.val)))
    (fun s h => load_chunk h.g n) fun g hg => ?_
  refine Does.get (F := Ideal) 18 (rChunk n).toLoadRect _ (fun (a : S64x512.Idx → EReal) => (fun (i : Fin 64) (j : Fin 512) => a (ix2 i j)) = fun i => kRow W (x (64 * n.val + i.val)))
    (fun s h => load_chunk h.k n) fun k hk => ?_
  refine Does.get (F := Ideal) 17 (rChunk n).toLoadRect _ (fun (a : S64x512.Idx → EReal) => (fun (i : Fin 64) (j : Fin 512) => a (ix2 i j)) = fun i => qRow W (x (64 * n.val + i.val)))
    (fun s h => load_chunk h.q n) fun q hq => ?_
  refine Does.pure fun s h => ⟨⟨?_, hk, hq⟩, h⟩
  funext i j
  refine (sums_apply g i j).trans ?_
  exact congrArg (fun f => Cert.GlaTile.run f i) (funext fun i' => congrFun (congrFun hg i') j)

/-- Loading a head's values of a chunk gives the layer's. -/
theorem valueRows_does {m k o : ℕ} (n : Fin 16) (h : Fin 4) : Does (U := U) defs 𝒱 c M (Inv W x S X m k o) (valueRows M n h)
    fun v s => IsVals W x n.val h v ∧ Inv W x S X m k o s := by
  unfold valueRows
  exact Does.load (F := Ideal) 19 (rHead n h).toLoadRect _ fun s hs => ⟨load_head hs.v n h, hs⟩

/-- A head of a chunk stores its gated rows and returns its next state. -/
theorem head_does {o m : ℕ} (n : Fin 16) (h : Fin 4) {C : Chunk Ideal} (hC : IsChunk W x n.val C) {v : S64x256.Idx → EReal} (hv : IsVals W x n.val h v)
    {st : S128x256.Idx → EReal} (hst : IsState W x S n.val h st) (hm : 256 * h.val + 256 = m) :
    Does (U := U) defs 𝒱 c M (Inv W x S X n.val (256 * h.val) o) (head M hM n h C st (inc (F := Ideal) h C.b C.k v))
      fun st' s => IsState W x S (n.val + 1) h st' ∧ Inv W x S X n.val m o s := by
  unfold head
  refine Does.have (valueRows_does n h) fun v' hv' => ?_
  refine Does.get (F := Ideal) 21 (rHead n h).toLoadRect _ (fun (a : S64x256.Idx → EReal) => (fun (i : Fin 64) (e : Fin 256) => a (ix2 i e)) = fun i e => oRow W (x (64 * n.val + i.val)) (at256 h e))
    (fun s hs => load_head hs.o n h) fun g hg => ?_
  refine Does.get (F := Ideal) 22 _ _ (fun _ => True) (fun _ _ => trivial) fun _ _ => ?_
  refine Does.set (F := Ideal) 22 (rHead n h) _ _ _ (Inv W x S X n.val m o) ?_ ?_
  · intro s hs
    refine hs.setY (put (s 22) (rHead n h) (gated (F := Ideal) (mix (F := Ideal) h C.b C.k C.q st v') g)) ?_
    exact Part.put hs.y hm (in64x256 n h) _ fun i e he => mix_row hC hv' (fun i => congrFun hg i) hst i e _ rfl
  exact Does.pure fun s hs => ⟨isState_next hC hv hst, hs⟩

/-- A chunk stores the gated rows of all four heads and returns their next states. -/
theorem chunk_does {o : ℕ} (n : Fin 16) {C : Chunk Ideal} (hC : IsChunk W x n.val C) {P : States Ideal} (hP : AreStates W x S n.val P) :
    Does (U := U) defs 𝒱 c M (Inv W x S X n.val 0 o) (chunk M hM n C P) fun P' s => AreStates W x S (n.val + 1) P' ∧ Inv W x S X (n.val + 1) 0 o s := by
  unfold chunk
  refine Does.have (valueRows_does n 0) fun v0 h0 => ?_
  refine Does.have (valueRows_does n 1) fun v1 h1 => ?_
  refine Does.have (valueRows_does n 2) fun v2 h2 => ?_
  refine Does.have (valueRows_does n 3) fun v3 h3 => ?_
  refine Does.have (head_does (m := 256) n 0 hC h0 hP.s0 rfl) fun s0 e0 => ?_
  refine Does.have (head_does (m := 512) n 1 hC h1 hP.s1 rfl) fun s1 e1 => ?_
  refine Does.have (head_does (m := 768) n 2 hC h2 hP.s2 rfl) fun s2 e2 => ?_
  refine Does.have (head_does (m := 1024) n 3 hC h3 hP.s3 rfl) fun s3 e3 => ?_
  exact Does.pure fun s hs => ⟨⟨e0, e1, e2, e3⟩, hs.next⟩

variable (W x S) in
/-- What is known between two steps. -/
def Ready (n : ℕ) (p : Chunk Ideal × States Ideal) : Prop := IsChunk W x n p.1 ∧ AreStates W x S n p.2

/-- One round of the loop over chunks: it prepares the next chunk and finishes this one. -/
theorem step_does {o : ℕ} (n : Fin 15) {p : Chunk Ideal × States Ideal} (hp : Ready W x S n.val p) :
    Does (U := U) defs 𝒱 c M (Inv W x S X n.val 0 o) (step M hM n p) fun p' s => Ready W x S (n.val + 1) p' ∧ Inv W x S X (n.val + 1) 0 o s := by
  unfold step
  refine Does.have (prep_does ⟨n.val + 1, by omega⟩) fun C hC => ?_
  refine Does.have (chunk_does ⟨n.val, by omega⟩ hp.1 hp.2) fun P hP => ?_
  exact Does.pure fun s hs => ⟨⟨hC, hP⟩, hs⟩

/-- After the chunks: the result's block, and the states of the first `j` heads, written back. -/
structure Final (W : Weights) (x : ℕ → Row) (S : Heads) (X : St Ideal) (j : ℕ) (s : St Ideal) : Prop where
  base : Base W X s
  out : ∀ r d : Fin 1024, s 10 (ix2 r d) = rowOut W x S r.val d
  st : ∀ (h : Fin 4) (a : Fin 128) (e : Fin 256), h.val < j → s 15 (ix3 h a e) = statesAt W x S 16 h a e

/-- When both halves of the tile are written, the output block is complete. -/
theorem Inv.final {n m : ℕ} {s : St Ideal} (h : Inv W x S X n m 2 s) : Final W x S X 0 s :=
  ⟨h.base, fun r d => h.out r d (.inl r.isLt), fun _ _ _ h => absurd h (Nat.not_lt_zero _)⟩

/-- Storing one more head's state keeps what is known and adds that state. -/
theorem Final.setState {j : Fin 4} {s : St Ideal} (h : Final W x S X j.val s) (A : S4x128x256.Idx → EReal)
    (hA : ∀ (i : Fin 4) (a : Fin 128) (e : Fin 256), i.val < j.val + 1 → A (ix3 i a e) = statesAt W x S 16 i a e) :
    Final W x S X (j.val + 1) (Function.update s 15 A) := by
  have hb := h.base.update 15 (by decide) (by decide) (by decide) A
  have e10 : Function.update s 15 A 10 = s 10 := Function.update_of_ne (by decide) _ _
  have e15 : Function.update s 15 A 15 = A := Function.update_self ..
  generalize Function.update s 15 A = s' at *
  exact ⟨hb, e10 ▸ h.out, e15 ▸ hA⟩

/-- A head's state after the tile is stored in the scratch. -/
theorem putState_does (j : Fin 4) {st : S128x256.Idx → EReal} (hst : IsState W x S 16 j st) :
    Does (U := U) defs 𝒱 c M (Final W x S X j.val) (putState M j st) fun _ s => Final W x S X (j.val + 1) s := by
  unfold putState
  refine Does.get (F := Ideal) 15 _ _ (fun _ => True) (fun _ _ => trivial) fun _ _ => ?_
  refine Does.store (F := Ideal) 15 (rState j) _ _ _ fun s h => ?_
  refine h.setState (put (s 15) (rState j) (shapeCast (α := EReal) S1x128x256 st Facts₀.shapeCasts_S128x256_S1x128x256)) fun i a e hi => ?_
  by_cases hij : i = j
  · subst hij
    refine (put3_in (α := EReal) (s 15) i.val 0 0 (inState i) (shapeCast (α := EReal) S1x128x256 st Facts₀.shapeCasts_S128x256_S1x128x256) 0 a e i a e (by simp) (by simp) (by simp)).trans ?_
    refine Eq.trans ?_ (congrFun (congrFun hst a) e)
    pointwise
  · have : i.val ≠ j.val := fun h => hij (Fin.ext h)
    refine (put3_out (α := EReal) (s 15) j.val 0 0 (inState j) (shapeCast (α := EReal) S1x128x256 st Facts₀.shapeCasts_S128x256_S1x128x256) i a e (by omega)).trans ?_
    exact h.st i a e (by omega)

variable (hX : Inputs W x X)
include hX

/-- Half of the result's rows. -/
theorem outRows_does {n m : ℕ} (o : Fin 2) (hn : 8 * (o.val + 1) ≤ n) : Does (U := U) defs 𝒱 c M (Inv W x S X n m o.val) (outRows M o)
    fun _ s => Inv W x S X n m (o.val + 1) s := by
  unfold outRows
  refine Does.get (F := Ideal) 0 (rOut o).toLoadRect _ (fun (a : S512x1024.Idx → EReal) => ∀ (p : Fin 512) (d : Fin 1024), a (ix2 p d) = x (512 * o.val + p.val) d) ?_ fun ax hax => ?_
  · intro s h p d
    rw [h.base.keeps 0 (by decide)]
    exact (box2 (X 0) _ _ (in512x1024 o) p d ⟨512 * o.val + p.val, by omega⟩ d rfl (by simp)).trans (hX.x _ _)
  refine Does.get (F := Ideal) 22 (rOut o).toLoadRect _ (fun (a : S512x1024.Idx → EReal) => ∀ (p : Fin 512) (e : Fin 1024), a (ix2 p e) = yRow W x S (512 * o.val + p.val) e) ?_ fun ay hay => ?_
  · intro s h p d
    exact (box2 (s 22) _ _ (in512x1024 o) p d ⟨512 * o.val + p.val, by omega⟩ d rfl (by simp)).trans (h.y _ _ (.inl (by dsimp only; omega)))
  refine Does.get (F := Ideal) 14 _ _ (fun (a : S1024x1024.Idx → EReal) => ∀ e d : Fin 1024, a (ix2 e d) = W.wout e d) ?_ fun aw haw => ?_
  · intro s h e d
    exact (box2 (s 14) 0 0 _ e d e d (by simp) (by simp)).trans (h.base.wout e d)
  refine Does.get (F := Ideal) 10 _ _ (fun _ => True) (fun _ _ => trivial) fun _ _ => ?_
  refine Does.store (F := Ideal) 10 (rOut o) _ _ _ fun s h => ?_
  refine h.setOut (put (s 10) (rOut o) (added (F := Ideal) ax ay aw)) ?_
  have hp : Part (put (s 10 : S1024x1024.Idx → EReal) (rOut o) (added (F := Ideal) ax ay aw)) (rowOut W x S) 512 o.val 1024 :=
    Part.put h.out rfl (in512x1024 o) _ fun p d hd => by
      refine (added_apply ax ay aw p d).trans ?_
      rw [rowOut_eq, hax]
      have ed : (⟨0 + d.val, hd⟩ : Fin 1024) = d := Fin.ext (Nat.zero_add _)
      rw [ed]
      simp only [hay, haw]
  exact hp.next (le_refl _)

/-- The chunks of the tile. -/
theorem chunks_does : Does (U := U) defs 𝒱 c M (fun s => Inv W x S X 0 0 0 s) (chunks M hM) fun _ s => Final W x S X 4 s := by
  unfold chunks
  have gs (h : Fin 4) : Does (U := U) defs 𝒱 c M (fun s => Inv W x S X 0 0 0 s) (getState M h) fun st s => IsState W x S 0 h st ∧ Inv W x S X 0 0 0 s := by
    unfold getState
    refine Does.get (F := Ideal) 15 (rState h).toLoadRect _ (fun (a : S1x128x256.Idx → EReal) => ∀ (i : Fin 128) (e : Fin 256), a (ix3 0 i e) = S h i e) ?_ fun a ha => ?_
    · intro s hs i e
      exact (box3 (s 15) _ _ _ (inState h) 0 i e h i e (by simp) (by simp) (by simp)).trans (hs.st h i e)
    refine Does.pure fun s hs => ⟨?_, hs⟩
    funext i e
    refine Eq.trans ?_ (ha i e)
    pointwise
  refine Does.have (gs 0) fun s0 h0 => Does.have (gs 1) fun s1 h1 => Does.have (gs 2) fun s2 h2 => Does.have (gs 3) fun s3 h3 => ?_
  refine Does.have (prep_does 0) fun C hC => ?_
  refine Does.have (step_does 0 (p := (C, ⟨s0, s1, s2, s3⟩)) ⟨hC, ⟨h0, h1, h2, h3⟩⟩) fun p1 h1 => ?_
  refine Does.have (step_does 1 h1) fun p2 h2 => Does.have (step_does 2 h2) fun p3 h3 => Does.have (step_does 3 h3) fun p4 h4 =>
    Does.have (step_does 4 h4) fun p5 h5 => Does.have (step_does 5 h5) fun p6 h6 => Does.have (step_does 6 h6) fun p7 h7 => Does.have (step_does 7 h7) fun p8 h8 => ?_
  refine Does.bind (outRows_does hX (n := 8) (m := 0) 0 (by decide)) fun _ => ?_
  refine Does.have (step_does 8 h8) fun p9 h9 => Does.have (step_does 9 h9) fun p10 h10 => Does.have (step_does 10 h10) fun p11 h11 =>
    Does.have (step_does 11 h11) fun p12 h12 => Does.have (step_does 12 h12) fun p13 h13 => Does.have (step_does 13 h13) fun p14 h14 =>
    Does.have (step_does 14 h14) fun p15 h15 => ?_
  refine Does.have (chunk_does 15 h15.1 h15.2) fun P hP => ?_
  refine Does.bind (outRows_does hX (n := 16) (m := 0) 1 (by decide)) fun _ => ?_
  refine Does.bind (Does.mono (putState_does 0 hP.s0) (fun s (h : Inv W x S X 16 0 2 s) => h.final) fun _ _ h => h) fun _ => ?_
  refine Does.bind (putState_does 1 hP.s1) fun _ => Does.bind (putState_does 2 hP.s2) fun _ => putState_does 3 hP.s3

end Cert.GlaTile

end
-- ==== Proof.GlaPoint.lean ====
/- The body at a grid point: six points keep the weights, the others each do a tile. -/
module

public import proofs.«01_k».proof.Proof.GlaChunks

@[expose] public section

noncomputable section

namespace Cert.GlaTile

open Idealize.ShloMosaic Idealize.ShloMosaic.TcCoe
open Idealize.SL Idealize.SL.RA Idealize.SL.BI Idealize.SL.Sem
open Cert.GlaIdeal Cert.GlaIdeal.Gen
open scoped BigOperators

/-! ## The conditions at a point -/

/-- The first condition holds at the first six points. -/
theorem cond1_iff : ∀ i : grid0.Coords, (k0_cond1 i = 1#1) ↔ (i 0).val < 6 := by decide +kernel
/-- The second condition holds at the first six points. -/
theorem cond2_iff : ∀ i : grid0.Coords, (k0_cond2 i = 1#1) ↔ (i 0).val < 6 := by decide +kernel
/-- The third condition holds at the first four points. -/
theorem cond3_iff : ∀ i : grid0.Coords, (k0_cond3 i = 1#1) ↔ (i 0).val < 4 := by decide +kernel
/-- The fourth condition holds from the seventh point on. -/
theorem cond4_iff : ∀ i : grid0.Coords, (k0_cond4 i = 1#1) ↔ 6 ≤ (i 0).val := by decide +kernel
/-- A tile is the first of its sequence at every fourth point. -/
theorem first_iff : ∀ i : grid0.Coords, 6 ≤ (i 0).val → ((first i = 1#1) ↔ ((i 0).val - 6) % 4 = 0) := by decide +kernel
/-- A loading point's place in the input matrix kept in scratch. -/
theorem off1_eq : ∀ i : grid0.Coords, (i 0).val < 6 → k0_off1 i = ![(i 0).val, 0, 0] := by decide +kernel
/-- A loading point's place in the output matrix kept in scratch. -/
theorem off2_eq : ∀ i : grid0.Coords, (i 0).val < 4 → k0_off2 i = ![256 * (i 0).val, 0] := by decide +kernel

section Point

variable (W : Weights) (X : St Ideal) (D : S1024x1024.Idx → EReal)

/-- After `n` points of keeping: the first slices of the weights, and the result's block untouched. -/
structure Kept (n : ℕ) (s : St Ideal) : Prop where
  keeps : Keeps X s
  win : ∀ (i : Fin 6) (l : Fin 1024) (j : Fin 512), i.val < n → s 13 (ix3 i l j) = W.win i l j
  wout : ∀ e d : Fin 1024, e.val < 256 * n → s 14 (ix2 e d) = W.wout e d
  out : s 10 = D

variable {W X D}
variable {nD : Nat} {τ : Topo} {sig : RefSig} {Λ : Labels} {U : Type} [URA U]
variable {defs : Defs nD τ sig (Elt Ideal) Λ} {𝒱 : Variants} {c : Dev nD}
variable {M : (k : Fin 23) → Memref sig .tc .vmem (shp k) (ety k)} {hM : ∀ k, (M k).IsWhole}
variable [Cert.GlaIdeal.Facts]

/-- A slice of the first weights stored, of whatever offsets. -/
theorem keepWin_at (v : S6x1024x512.Idx → EReal) (n : ℕ) (o : Fin 3 → ℕ) (ho : o = ![n, 0, 0]) (inb : ∀ a, o a + S1x1024x512.size a ≤ S6x1024x512.size a)
    (w : S1x1024x512.Idx → EReal) (i : Fin 6) (l : Fin 1024) (j : Fin 512) :
    put v (Rect.unit (s := S6x1024x512) o S1x1024x512.size inb) w (ix3 i l j) = if i.val = n then w (ix3 0 l j) else v (ix3 i l j) := by
  subst ho
  split_ifs with h
  · exact put3_in v n 0 0 inb w 0 l j i l j (by simpa using h) (by simp) (by simp)
  · exact put3_out v n 0 0 inb w i l j (by omega)

/-- A slice of the output matrix stored, of whatever offsets. -/
theorem keepOut_at (v : S1024x1024.Idx → EReal) (n : ℕ) (o : Fin 2 → ℕ) (ho : o = ![256 * n, 0]) (inb : ∀ a, o a + S256x1024.size a ≤ S1024x1024.size a)
    (w : S256x1024.Idx → EReal) (e d : Fin 1024) :
    put v (Rect.unit (s := S1024x1024) o S256x1024.size inb) w (ix2 e d)
      = if h : 256 * n ≤ e.val ∧ e.val < 256 * n + 256 then w (ix2 ⟨e.val - 256 * n, by omega⟩ d) else v (ix2 e d) := by
  subst ho
  split_ifs with h
  · exact put2_in v (256 * n) 0 inb w ⟨e.val - 256 * n, by omega⟩ d e d (by dsimp only; omega) (by simp)
  · exact put2_out v (256 * n) 0 inb w e d (by omega)

/-- Half of a keeping point: the first weights' slice is there. -/
structure Kept1 (W : Weights) (X : St Ideal) (D : S1024x1024.Idx → EReal) (n : ℕ) (s : St Ideal) : Prop where
  keeps : Keeps X s
  win : ∀ (i : Fin 6) (l : Fin 1024) (j : Fin 512), i.val < n + 1 → s 13 (ix3 i l j) = W.win i l j
  wout : ∀ e d : Fin 1024, e.val < 256 * n → s 14 (ix2 e d) = W.wout e d
  out : s 10 = D

/-- A loading point adds its chunk of the input matrix to the scratch. -/
theorem keepWin_does (i : grid0.Coords) (h1 : k0_cond1 i = 1#1) (h2 : k0_cond2 i = 1#1)
    (hW : ∀ (n : Fin 6) (l : Fin 1024) (j : Fin 512), n.val = (i 0).val → X 2 (ix3 0 l j) = W.win n l j) :
    Does (U := U) defs 𝒱 c M (Kept W X D (i 0).val) (keepWin M hM i h1 h2) fun _ s => Kept1 W X D (i 0).val s := by
  unfold keepWin
  refine Does.get (F := Ideal) 2 _ _ (fun (a : S1x1024x512.Idx → EReal) => ∀ (l : Fin 1024) (j : Fin 512), a (ix3 0 l j) = X 2 (ix3 0 l j)) ?_ fun a ha => ?_
  · intro s h l j
    rw [h.keeps 2 (by decide)]
    exact box3 (X 2) 0 0 0 _ 0 l j 0 l j (by simp) (by simp) (by simp)
  refine Does.get (F := Ideal) 13 _ _ (fun _ => True) (fun _ _ => trivial) fun _ _ => ?_
  refine Does.store (F := Ideal) 13 _ _ _ _ fun s h => ?_
  have e (j : Fin 23) (hj : j ≠ 13) (A) : Function.update s 13 A j = s j := Function.update_of_ne hj _ _
  refine ⟨h.keeps.update 13 (by decide) _, fun n l j hn => ?_, ?_, ?_⟩
  · rw [Function.update_self]
    refine (keepWin_at (s 13) (i 0).val _ (off1_eq i ((cond1_iff i).1 h1)) _ _ n l j).trans ?_
    by_cases hh : n.val = (i 0).val
    · refine (if_pos hh).trans ?_
      refine Eq.trans ?_ (hW n l j hh)
      refine Eq.trans ?_ (ha l j)
      pointwise
    · exact (if_neg hh).trans (h.win n l j (by omega))
  · rw [e 14 (by decide)]; exact h.wout
  · rw [e 10 (by decide)]; exact h.out

/-- A loading point adds its chunk of the output matrix to the scratch. -/
theorem keepOut_does (i : grid0.Coords) (h1 : k0_cond1 i = 1#1) (h3 : k0_cond3 i = 1#1)
    (hO : ∀ (p : Fin 256) (e d : Fin 1024), e.val = 256 * (i 0).val + p.val → X 7 (ix3 0 p d) = W.wout e d) :
    Does (U := U) defs 𝒱 c M (Kept1 W X D (i 0).val) (keepOut M hM i h1 h3) fun _ s => Kept W X D ((i 0).val + 1) s := by
  unfold keepOut
  refine Does.get (F := Ideal) 7 _ _ (fun (a : S1x256x1024.Idx → EReal) => ∀ (p : Fin 256) (d : Fin 1024), a (ix3 0 p d) = X 7 (ix3 0 p d)) ?_ fun a ha => ?_
  · intro s h l j
    rw [h.keeps 7 (by decide)]
    exact box3 (X 7) 0 0 0 _ 0 l j 0 l j (by simp) (by simp) (by simp)
  refine Does.get (F := Ideal) 14 _ _ (fun _ => True) (fun _ _ => trivial) fun _ _ => ?_
  refine Does.store (F := Ideal) 14 _ _ _ _ fun s h => ?_
  have e (j : Fin 23) (hj : j ≠ 14) (A) : Function.update s 14 A j = s j := Function.update_of_ne hj _ _
  refine ⟨h.keeps.update 14 (by decide) _, ?_, fun r d hr => ?_, ?_⟩
  · rw [e 13 (by decide)]; exact h.win
  · rw [Function.update_self]
    refine (keepOut_at (s 14) (i 0).val _ (off2_eq i ((cond3_iff i).1 h3)) _ _ r d).trans ?_
    by_cases hh : 256 * (i 0).val ≤ r.val ∧ r.val < 256 * (i 0).val + 256
    · refine (dif_pos hh).trans ?_
      refine Eq.trans ?_ (hO ⟨r.val - 256 * (i 0).val, by omega⟩ r d (by dsimp only; omega))
      refine Eq.trans ?_ (ha _ d)
      pointwise
    · exact (dif_neg hh).trans (h.wout r d (by omega))
  · rw [e 10 (by decide)]; exact h.out

/-- A keeping point. -/
theorem body_keeps (i : grid0.Coords) (hi : (i 0).val < 6)
    (hW : ∀ (n : Fin 6) (l : Fin 1024) (j : Fin 512), n.val = (i 0).val → X 2 (ix3 0 l j) = W.win n l j)
    (hO : (i 0).val < 4 → ∀ (p : Fin 256) (e d : Fin 1024), e.val = 256 * (i 0).val + p.val → X 7 (ix3 0 p d) = W.wout e d) :
    Does (U := U) defs 𝒱 c M (Kept W X D (i 0).val) (body M hM i) fun _ s => Kept W X D ((i 0).val + 1) s := by
  have h1 := (cond1_iff i).2 hi
  have h2 := (cond2_iff i).2 hi
  have h4 : ¬ k0_cond4 i = 1#1 := fun h => absurd ((cond4_iff i).1 h) (by omega)
  unfold body keep
  rw [dif_pos h1, dif_pos h2, dif_neg h4]
  by_cases h3 : k0_cond3 i = 1#1
  · rw [dif_pos h3]
    exact Does.bind (Does.bind (keepWin_does i h1 h2 hW) fun _ => keepOut_does (hM := hM) i h1 h3 (hO ((cond3_iff i).1 h3))) fun _ => Does.pure fun _ h => h
  · rw [dif_neg h3]
    refine Does.bind (Does.bind (keepWin_does i h1 h2 hW) fun _ => Does.pure fun _ h => h) fun _ => Does.pure fun s (h : Kept1 W X D (i 0).val s) => ⟨h.keeps, h.win, fun e d _ => ?_, h.out⟩
    have : ¬ (i 0).val < 4 := fun hh => h3 ((cond3_iff i).2 hh)
    exact h.wout e d (by have := e.isLt; omega)

variable {x : ℕ → Row} {S : Heads}

/-- At the start of a tile: the weights, and the states unless a sequence begins. -/
structure Start (W : Weights) (S : Heads) (X : St Ideal) (go : Prop) (s : St Ideal) : Prop where
  base : Base W X s
  st : go → ∀ (h : Fin 4) (a : Fin 128) (e : Fin 256), s 15 (ix3 h a e) = S h a e

/-- Changing an operand that is neither input, weights nor states keeps what a tile starts from. -/
theorem Start.update {go : Prop} {s : St Ideal} (h : Start W S X go s) (k : Fin 23) (hk : 10 ≤ k.val) (h13 : k ≠ 13) (h14 : k ≠ 14) (h15 : k ≠ 15)
    (w : (shp k).Idx → Elt Ideal (ety k)) : Start W S X go (Function.update s k w) := by
  refine ⟨h.base.update k hk h13 h14 w, ?_⟩
  rw [Function.update_of_ne (Ne.symm h15)]
  exact h.st

/-- Passing on the next block's up-projection keeps what a tile starts from. -/
theorem passUp_does {go : Prop} : Does (U := U) defs 𝒱 c M (Start W S X go) (passUp M hM) fun _ s => Start W S X go s := by
  unfold passUp
  refine Does.get (F := Ideal) 8 _ _ (fun _ => True) (fun _ _ => trivial) fun _ _ => ?_
  refine Does.get (F := Ideal) 11 _ _ (fun _ => True) (fun _ _ => trivial) fun _ _ => ?_
  exact Does.store (F := Ideal) 11 _ _ _ _ fun s h => h.update 11 (by decide) (by decide) (by decide) (by decide) _

/-- Passing on the next block's down-projection keeps what a tile starts from. -/
theorem passDown_does {go : Prop} : Does (U := U) defs 𝒱 c M (Start W S X go) (passDown M hM) fun _ s => Start W S X go s := by
  unfold passDown
  refine Does.get (F := Ideal) 9 _ _ (fun _ => True) (fun _ _ => trivial) fun _ _ => ?_
  refine Does.get (F := Ideal) 12 _ _ (fun _ => True) (fun _ _ => trivial) fun _ _ => ?_
  exact Does.store (F := Ideal) 12 _ _ _ _ fun s h => h.update 12 (by decide) (by decide) (by decide) (by decide) _

/-- Clearing the states at the start of a sequence gives the empty states. -/
theorem clear_does {go : Prop} (hS : ∀ h a e, S h a e = 0) : Does (U := U) defs 𝒱 c M (Start W S X go) (clear M) fun _ s => Start W S X True s := by
  unfold clear
  refine Does.get (F := Ideal) 15 _ _ (fun _ => True) (fun _ _ => trivial) fun _ _ => ?_
  refine Does.store (F := Ideal) 15 _ _ _ _ fun s h => ⟨h.base.update 15 (by decide) (by decide) (by decide) _, fun _ i a e => ?_⟩
  rw [Function.update_self]
  refine (put3_in (α := EReal) (s 15) 0 0 0 _ _ i a e i a e (by simp) (by simp) (by simp)).trans ?_
  rw [hS]
  pointwise

/-- A tile, from known states. -/
theorem rest_does (hX : Inputs W x X) :
    Does (U := U) defs 𝒱 c M (Start W S X True) (subs M hM >>= fun _ => chunks M hM) fun _ s => Final W x S X 4 s := by
  have h1 : Does (U := U) defs 𝒱 c M (Start W S X True) (subs M hM) fun _ s => Mid W x S X 4 0 0 0 0 0 s :=
    Does.mono (subs_does hX) (fun s (h : Start W S X True s) =>
      { base := h.base, st := h.st trivial, q := Part.begin, k := Part.begin, g := Part.begin, v := Part.begin, o := Part.begin }) fun _ _ h => h
  have h2 : Does (U := U) defs 𝒱 c M (fun s => Mid W x S X 4 0 0 0 0 0 s) (chunks M hM) fun _ s => Final W x S X 4 s :=
    Does.mono (chunks_does hX) (fun s (h : Mid W x S X 4 0 0 0 0 0 s) => { h with y := Part.begin, out := Part.begin }) fun _ _ h => h
  exact Does.bind h1 fun _ => h2

/-- The tile of a point. -/
theorem tile_does {go : Prop} (hX : Inputs W x X) (i : grid0.Coords) (hS : first i = 1#1 → ∀ h a e, S h a e = 0) (hgo : ¬ first i = 1#1 → go) :
    Does (U := U) defs 𝒱 c M (Start W S X go) (tile M hM i) fun _ s => Final W x S X 4 s := by
  have hc (h : first i = 1#1) : Does (U := U) defs 𝒱 c M (Start W S X go) (clear M >>= fun _ => subs M hM >>= fun _ => chunks M hM) fun _ s => Final W x S X 4 s :=
    Does.bind (clear_does (hS h)) fun _ => rest_does hX
  have hn (h : ¬ first i = 1#1) : Does (U := U) defs 𝒱 c M (Start W S X go) (subs M hM >>= fun _ => chunks M hM) fun _ s => Final W x S X 4 s :=
    Does.mono (rest_does hX) (fun s hs => ⟨hs.base, fun _ => hs.st (hgo h)⟩) fun _ _ h => h
  unfold tile
  by_cases h5 : k0_cond5 i = 1#1 <;> by_cases h6 : k0_cond6 i = 1#1 <;> by_cases h : first i = 1#1 <;>
    simp only [h5, h6, h, dif_pos, dif_neg, not_false_eq_true, pure_bind]
  · exact Does.bind passUp_does fun _ => Does.bind passDown_does fun _ => hc h
  · exact Does.bind passUp_does fun _ => Does.bind passDown_does fun _ => hn h
  · exact Does.bind passUp_does fun _ => hc h
  · exact Does.bind passUp_does fun _ => hn h
  · exact Does.bind passDown_does fun _ => hc h
  · exact Does.bind passDown_does fun _ => hn h
  · exact hc h
  · exact hn h

/-- A point that does a tile. -/
theorem body_tiles {go : Prop} (hX : Inputs W x X) (i : grid0.Coords) (hi : 6 ≤ (i 0).val) (hS : first i = 1#1 → ∀ h a e, S h a e = 0)
    (hgo : ¬ first i = 1#1 → go) : Does (U := U) defs 𝒱 c M (Start W S X go) (body M hM i) fun _ s => Final W x S X 4 s := by
  have h1 : ¬ k0_cond1 i = 1#1 := fun h => Nat.not_lt.2 hi ((cond1_iff i).1 h)
  have h4 := (cond4_iff i).2 hi
  unfold body keep
  rw [dif_neg h1, dif_pos h4, pure_bind]
  exact tile_does hX i hS hgo

end Point

end Cert.GlaTile

end
-- ==== Proof.GlaHost.lean ====
/- What the attention's windows hold, read off the arguments. -/
module

public import proofs.«01_k».proof.Proof.GlaPoint
public import proofs.«01_k».proof.Proof.GlaFrame

@[expose] public section

set_option maxRecDepth 16384

noncomputable section

namespace Cert.GlaTile

open Idealize.ShloMosaic Idealize.ShloMosaic.TcCoe Idealize.ShloMosaic.StableHlo
open Idealize.SL.Sem
open Cert.GlaIdeal Cert.GlaIdeal.Gen

variable (m : (ℓ : Loc nD τ sig) → Buf (Elt Ideal) ℓ) (c : Dev nD)

/-- The weights, of the arguments: the gate's matrices padded with zeros, and the output norm's scale four times over. -/
def weights (a1 : S1024.Idx → EReal) (a2 : S1x1024x3088.Idx → EReal) (a3 : S16x512.Idx → EReal) (a4 : S512.Idx → EReal) (a5 : S256.Idx → EReal)
    (a6 : S1x1024x1024.Idx → EReal) : Weights where
  g d := a1 (ix1 d)
  win i l j := a2 (ix3 (n0 := 1) (n1 := 1024) (n2 := 3088) 0 l ⟨512 * i.val + j.val, by omega⟩)
  wl l a := if h : a.val < 16 then a2 (ix3 (n0 := 1) (n1 := 1024) (n2 := 3088) 0 l ⟨3072 + a.val, by omega⟩) else 0
  w2 a j := if h : a.val < 16 then a3 (ix2 (n0 := 16) (n1 := 512) ⟨a.val, h⟩ j) else 0
  bg j := a4 (ix1 j)
  ng e := a5 (ix1 (n0 := 256) ⟨e.val % 256, by omega⟩)
  wout e d := a6 (ix3 0 e d)

/-- The rows of a sequence. -/
def rowsOf (a0 : S8x4096x1024.Idx → EReal) (b : ℕ) (r : ℕ) : Row := fun d =>
  a0 (ix3 (n0 := 8) (n1 := 4096) ⟨b % 8, by omega⟩ ⟨r % 4096, by omega⟩ d)

/-- The kernel's weights and rows. -/
abbrev WK : Weights := weights (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))
abbrev xK (b : ℕ) : ℕ → Row := rowsOf (m ((c : Thread nD τ).loc main_arg0)) b

/-- The rows as the launch finds them: the argument, flattened. -/
theorem V_rows : V m c main_v12 = shapeCast S32768x1024 (m ((c : Thread nD τ).loc main_arg0)) shapeCasts_S8x4096x1024_S32768x1024 := by
  simp only [V, List.flatten_cons, List.flatten_nil, List.append_nil, List.cons_append, List.nil_append]
  after_results
  rfl

/-- The norm's scale as the launch finds it: the argument as a row. -/
theorem V_scale : V m c main_v11 = shapeCast S1x1024 (m ((c : Thread nD τ).loc main_arg1)) shapeCasts_S1024_S1x1024 := by
  simp only [V, List.flatten_cons, List.flatten_nil, List.append_nil, List.cons_append, List.nil_append]
  after_results
  rfl

/-- The gate's bias as the launch finds it: the argument as a row. -/
theorem V_bias : V m c main_v6 = shapeCast S1x512 (m ((c : Thread nD τ).loc main_arg4)) shapeCasts_S512_S1x512 := by
  simp only [V, List.flatten_cons, List.flatten_nil, List.append_nil, List.cons_append, List.nil_append]
  after_results
  rfl

/-- The heads' norm scale as the launch finds it: the argument four times over. -/
theorem V_norm : V m c main_v10 = shapeCast S1x1024 (shapeCast S1024 (broadcastInDim S4x256 ![0, 1] bcast_S1x256_S4x256_0_1
    (shapeCast S1x256 (m ((c : Thread nD τ).loc main_arg5)) shapeCasts_S256_S1x256)) shapeCasts_S4x256_S1024) shapeCasts_S1024_S1x1024 := by
  simp only [V, List.flatten_cons, List.flatten_nil, List.append_nil, List.cons_append, List.nil_append]
  after_results
  rfl

/-- The gate's second matrix as the launch finds it: padded with zero rows to 128. -/
theorem V_second : V m c main_v5 = (truncf .bf16 (pad S128x512 ![0, 0] ![112, 0] ![0, 0] (m ((c : Thread nD τ).loc main_arg3) : FVec Ideal S16x512 .f32)
    (sitofp (F := Ideal) .f32 (constantI S_ 32 0#32)) pads_S16x512_S128x512_01120_000 h_S_ : FVec Ideal S128x512 .f32) bitsLt_bf16_f32 : FVec Ideal S128x512 .bf16) := by
  simp only [V, List.flatten_cons, List.flatten_nil, List.append_nil, List.cons_append, List.nil_append]
  after_results
  rfl

/-- The gate's first matrix as the launch finds it: its 16 columns padded with zeros to 128. -/
theorem V_low : V m c main_v4 = (truncf .bf16 (pad S1024x128 ![0, 0] ![0, 112] ![0, 0] (shapeCast S1024x16
    (extractStridedSlice S1x1024x16 ![0, 0, 3072] (m ((c : Thread nD τ).loc main_arg2) : FVec Ideal S1x1024x3088 .f32) slices_S1x1024x3088_S1x1024x16_0_0_3072)
    shapeCasts_S1x1024x16_S1024x16 : FVec Ideal S1024x16 .f32)
    (sitofp (F := Ideal) .f32 (constantI S_ 32 0#32)) pads_S1024x16_S1024x128_000_01120 h_S_ : FVec Ideal S1024x128 .f32) bitsLt_bf16_f32 : FVec Ideal S1024x128 .bf16) := by
  simp only [V, List.flatten_cons, List.flatten_nil, List.append_nil, List.cons_append, List.nil_append]
  after_results
  rfl

/-- An entry of the heads' norm scale is the layer's. -/
theorem V_ng (e : Fin 1024) : (V m c main_v10 : S1x1024.Idx → EReal) (ix2 0 e) = (WK m c).ng e := by
  rw [V_norm]
  show _ = m ((c : Thread nD τ).loc main_arg5) (ix1 (n0 := 256) ⟨e.val % 256, by omega⟩)
  generalize m ((c : Thread nD τ).loc main_arg5) = w
  pointwise

/-- An entry of the padded second matrix: the argument's in the first 16 rows, zero after. -/
theorem second_read (w : FVec Ideal S16x512 .f32) (a : Fin 128) (j : Fin 512) : (truncf .bf16 (pad S128x512 ![0, 0] ![112, 0] ![0, 0] w
    (sitofp (F := Ideal) .f32 (constantI S_ 32 0#32)) pads_S16x512_S128x512_01120_000 h_S_ : FVec Ideal S128x512 .f32) bitsLt_bf16_f32 : FVec Ideal S128x512 .bf16) (ix2 a j)
      = if h : a.val < 16 then w (ix2 ⟨a.val, h⟩ j) else 0 := by
  pointwise
  by_cases h : a.val < 16
  · rw [dif_pos h, dif_pos h]
  · rw [dif_neg h, dif_neg h]
    simp [FloatOps.sitofp]

/-- An entry of the gate's second matrix is the layer's. -/
theorem V_w2 (a : Fin 128) (j : Fin 512) : (V m c main_v5 : S128x512.Idx → EReal) (ix2 a j) = (WK m c).w2 a j := by
  rw [V_second]
  exact second_read _ a j

/-- An entry of the padded first matrix: the argument's in the first 16 columns, zero after. -/
theorem low_read (w : FVec Ideal S1x1024x3088 .f32) (l : Fin 1024) (a : Fin 128) : (truncf .bf16 (pad S1024x128 ![0, 0] ![0, 112] ![0, 0] (shapeCast S1024x16
    (extractStridedSlice S1x1024x16 ![0, 0, 3072] w slices_S1x1024x3088_S1x1024x16_0_0_3072)
    shapeCasts_S1x1024x16_S1024x16 : FVec Ideal S1024x16 .f32)
    (sitofp (F := Ideal) .f32 (constantI S_ 32 0#32)) pads_S1024x16_S1024x128_000_01120 h_S_ : FVec Ideal S1024x128 .f32) bitsLt_bf16_f32 : FVec Ideal S1024x128 .bf16) (ix2 l a)
      = if h : a.val < 16 then w (ix3 0 l ⟨3072 + a.val, by omega⟩) else 0 := by
  pointwise
  by_cases h : a.val < 16
  · rw [dif_pos h, dif_pos h]
  · rw [dif_neg h, dif_neg h]
    simp [FloatOps.sitofp]

/-- An entry of the gate's first matrix is the layer's. -/
theorem V_wl (l : Fin 1024) (a : Fin 128) : (V m c main_v4 : S1024x128.Idx → EReal) (ix2 l a) = (WK m c).wl l a := by
  rw [V_low]
  exact low_read _ l a

/-- From the seventh point on, the points read the rows tile by tile. -/
theorem at_x : ∀ t : Fin cfg0.N, 6 ≤ t.val → win0_0.index t (0 : Fin 2) = t.val - 6 ∧ win0_0.index t (1 : Fin 2) = 0 :=
  (by decide +kernel : ∀ t : Fin grid0.N, _)
/-- Every point reads the norm's scale whole. -/
theorem at_g : ∀ t : Fin cfg0.N, win0_1.index t (0 : Fin 2) = 0 ∧ win0_1.index t (1 : Fin 2) = 0 :=
  (by decide +kernel : ∀ t : Fin grid0.N, _)
/-- The first six points read the six column chunks of the input matrix. -/
theorem at_w : ∀ t : Fin cfg0.N, t.val < 6 → win0_2.index t (0 : Fin 3) = 0 ∧ win0_2.index t (1 : Fin 3) = 0 ∧ win0_2.index t (2 : Fin 3) = t.val :=
  (by decide +kernel : ∀ t : Fin grid0.N, _)
/-- Every point reads the gate's first matrix whole. -/
theorem at_3 : ∀ t : Fin cfg0.N, win0_3.index t (0 : Fin 2) = 0 ∧ win0_3.index t (1 : Fin 2) = 0 :=
  (by decide +kernel : ∀ t : Fin grid0.N, _)
/-- Every point reads the gate's second matrix whole. -/
theorem at_4 : ∀ t : Fin cfg0.N, win0_4.index t (0 : Fin 2) = 0 ∧ win0_4.index t (1 : Fin 2) = 0 :=
  (by decide +kernel : ∀ t : Fin grid0.N, _)
/-- Every point reads the gate's bias whole. -/
theorem at_5 : ∀ t : Fin cfg0.N, win0_5.index t (0 : Fin 2) = 0 ∧ win0_5.index t (1 : Fin 2) = 0 :=
  (by decide +kernel : ∀ t : Fin grid0.N, _)
/-- Every point reads the heads' norm scale whole. -/
theorem at_6 : ∀ t : Fin cfg0.N, win0_6.index t (0 : Fin 2) = 0 ∧ win0_6.index t (1 : Fin 2) = 0 :=
  (by decide +kernel : ∀ t : Fin grid0.N, _)
/-- The first four points read the four row chunks of the output matrix. -/
theorem at_7 : ∀ t : Fin cfg0.N, t.val < 4 → win0_7.index t (0 : Fin 3) = 0 ∧ win0_7.index t (1 : Fin 3) = t.val ∧ win0_7.index t (2 : Fin 3) = 0 :=
  (by decide +kernel : ∀ t : Fin grid0.N, _)
/-- The points write the result tile by tile. -/
theorem at_10 : ∀ t : Fin cfg0.N, win0_10.index t (0 : Fin 2) = t.val - 6 ∧ win0_10.index t (1 : Fin 2) = 0 :=
  (by decide +kernel : ∀ t : Fin grid0.N, _)
/-- The result's block is written out from the seventh point on. -/
theorem flush_10 : ∀ t : Fin cfg0.N, (cfg0.win 10).flush t = decide (6 ≤ t.val) :=
  (by decide +kernel : ∀ t : Fin grid0.N, _)

/-- The block of the norm's scale a point reads is the layer's. -/
theorem blk_g (t : Fin cfg0.N) (d : Fin 1024) : iblk m c 1 t (ix2 0 d) = (WK m c).g d := by
  unfold iblk
  rw [View.read_apply]
  show V m c main_v11 _ = _
  rw [V_scale]
  refine shapeCast_apply _ _ _ _ ?_
  refine (rowMajor_val1 _).trans (Eq.trans ?_ (rowMajor_val2 _ 1024 rfl).symm)
  show d.val = (win0_1.index t 0 * 1 + 1 * 0) * 1024 + (win0_1.index t 1 * 1024 + 1 * d.val)
  rw [(at_g t).1, (at_g t).2]
  omega

/-- The block of the gate's bias a point reads is the layer's. -/
theorem blk_bg (t : Fin cfg0.N) (d : Fin 512) : iblk m c 5 t (ix2 0 d) = (WK m c).bg d := by
  unfold iblk
  rw [View.read_apply]
  show V m c main_v6 _ = _
  rw [V_bias]
  refine shapeCast_apply _ _ _ _ ?_
  refine (rowMajor_val1 _).trans (Eq.trans ?_ (rowMajor_val2 _ 512 rfl).symm)
  show d.val = (win0_5.index t 0 * 1 + 1 * 0) * 512 + (win0_5.index t 1 * 512 + 1 * d.val)
  rw [(at_5 t).1, (at_5 t).2]
  omega

/-- Row `p` of a tile's block is the row of its sequence. -/
theorem blk_x (t : Fin cfg0.N) (ht : 6 ≤ t.val) (r d : Fin 1024) :
    iblk m c 0 t (ix2 r d) = xK m c ((t.val - 6) / 4) (1024 * ((t.val - 6) % 4) + r.val) d := by
  have hN := lt_of_lt_of_eq t.isLt N_0
  unfold iblk
  rw [View.read_apply]
  show V m c main_v12 _ = _
  rw [V_rows]
  refine shapeCast_apply _ _ _ _ ?_
  refine (rowMajor_val3 _ 4194304 1024 rfl rfl).trans (Eq.trans ?_ (rowMajor_val2 _ 1024 rfl).symm)
  show (t.val - 6) / 4 % 8 * 4194304 + (1024 * ((t.val - 6) % 4) + r.val) % 4096 * 1024 + d.val
    = (win0_0.index t 0 * 1024 + 1 * r.val) * 1024 + (win0_0.index t 1 * 1024 + 1 * d.val)
  rw [(at_x t ht).1, (at_x t ht).2]
  omega

/-- The block of the gate's first matrix a point reads is the layer's. -/
theorem blk_wl (t : Fin cfg0.N) (l : Fin 1024) (a : Fin 128) : iblk m c 3 t (ix2 l a) = (WK m c).wl l a := by
  unfold iblk
  rw [View.read_apply]
  refine Eq.trans ?_ (V_wl m c l a)
  show V m c main_v4 _ = _
  congr 1
  funext x
  apply Fin.ext
  match x with
  | ⟨0, _⟩ => show win0_3.index t 0 * 1024 + 1 * l.val = l.val; rw [(at_3 t).1]; omega
  | ⟨1, _⟩ => show win0_3.index t 1 * 128 + 1 * a.val = a.val; rw [(at_3 t).2]; omega

/-- The block of the gate's second matrix a point reads is the layer's. -/
theorem blk_w2 (t : Fin cfg0.N) (a : Fin 128) (j : Fin 512) : iblk m c 4 t (ix2 a j) = (WK m c).w2 a j := by
  unfold iblk
  rw [View.read_apply]
  refine Eq.trans ?_ (V_w2 m c a j)
  show V m c main_v5 _ = _
  congr 1
  funext x
  apply Fin.ext
  match x with
  | ⟨0, _⟩ => show win0_4.index t 0 * 128 + 1 * a.val = a.val; rw [(at_4 t).1]; omega
  | ⟨1, _⟩ => show win0_4.index t 1 * 512 + 1 * j.val = j.val; rw [(at_4 t).2]; omega

/-- The block of the heads' norm scale a point reads is the layer's. -/
theorem blk_ng (t : Fin cfg0.N) (e : Fin 1024) : iblk m c 6 t (ix2 0 e) = (WK m c).ng e := by
  unfold iblk
  rw [View.read_apply]
  refine Eq.trans ?_ (V_ng m c e)
  show V m c main_v10 _ = _
  congr 1
  funext x
  apply Fin.ext
  match x with
  | ⟨0, _⟩ => show win0_6.index t 0 * 1 + 1 * 0 = 0; rw [(at_6 t).1]
  | ⟨1, _⟩ => show win0_6.index t 1 * 1024 + 1 * e.val = e.val; rw [(at_6 t).2]; omega

/-- The block of the output matrix one of the first four points reads holds its 256 rows. -/
theorem blk_wout (t : Fin cfg0.N) (ht : t.val < 4) (p : Fin 256) (e d : Fin 1024) (he : e.val = 256 * t.val + p.val) :
    iblk m c 7 t (ix3 0 p d) = (WK m c).wout e d := by
  unfold iblk
  rw [View.read_apply]
  show V m c main_arg6 _ = _
  rw [V_main_arg6]
  show _ = m ((c : Thread nD τ).loc main_arg6) (ix3 0 e d)
  obtain ⟨h0, h1, h2⟩ := at_7 t ht
  congr 1
  funext x
  apply Fin.ext
  match x with
  | ⟨0, _⟩ => show win0_7.index t 0 * 1 + 1 * 0 = 0; rw [h0]
  | ⟨1, _⟩ => show win0_7.index t 1 * 256 + 1 * p.val = e.val; rw [h1]; omega
  | ⟨2, _⟩ => show win0_7.index t 2 * 1024 + 1 * d.val = d.val; rw [h2]; omega

/-- The block of the input matrix one of the first six points reads holds its 512 columns. -/
theorem blk_win (t : Fin cfg0.N) (ht : t.val < 6) (n : Fin 6) (l : Fin 1024) (j : Fin 512) (hn : n.val = t.val) :
    X0_2 m c t (ix3 0 l j) = (WK m c).win n l j := by
  unfold X0_2 Pipeline.Window.fill
  rw [dif_pos (moved0_2 t _)]
  unfold iblk
  rw [View.read_apply]
  show V m c main_arg2 _ = _
  rw [V_main_arg2]
  show _ = m ((c : Thread nD τ).loc main_arg2) (ix3 (n0 := 1) (n1 := 1024) (n2 := 3088) 0 l ⟨512 * n.val + j.val, by omega⟩)
  obtain ⟨h0, h1, h2⟩ := at_w t ht
  congr 1
  funext x
  apply Fin.ext
  match x with
  | ⟨0, _⟩ => show win0_2.index t 0 * 1 + 1 * 0 = 0; rw [h0]
  | ⟨1, _⟩ => show win0_2.index t 1 * 1024 + 1 * l.val = l.val; rw [h1]; omega
  | ⟨2, _⟩ => show win0_2.index t 2 * 512 + 1 * j.val = 512 * n.val + j.val; rw [h2]; omega

end Cert.GlaTile

end
-- ==== Proof.GlaRefRows.lean ====
/- The gated linear attention's reference, read at an index: its queries, keys, values, gates and output gates are the layer's. -/
module

public import proofs.«01_k».proof.Proof.GlaRefReads
public import proofs.«01_k».proof.Proof.GlaHost

@[expose] public section

set_option maxRecDepth 16384

noncomputable section

namespace Cert.GlaRef

open Idealize.ShloMosaic Idealize.ShloMosaic.TcCoe Idealize.ShloMosaic.StableHlo
open Idealize.ShloMosaic.Tactic
open Cert.GlaReferenceIdeal Cert.GlaReferenceIdeal.Gen Cert.GlaReferenceIdeal.Value Cert.ConvFfn Cert.GlaTile
open scoped BigOperators

variable (W : Valuation τ sig (Elt Ideal))

/-- The layer's weights and rows, of some contents. -/
abbrev weightsOf : Weights := weights (W (Proc.devRef .tc main_arg1)) (W (Proc.devRef .tc main_arg2)) (W (Proc.devRef .tc main_arg3))
  (W (Proc.devRef .tc main_arg4)) (W (Proc.devRef .tc main_arg5)) (W (Proc.devRef .tc main_arg6))
abbrev rows (b : ℕ) : ℕ → Row := rowsOf (W (Proc.devRef .tc main_arg0)) b

/-- A row of a sequence. -/
theorem rowsOf_fin (a0 : S8x4096x1024.Idx → EReal) (b : Fin 8) (s : Fin 4096) (d : Fin 1024) : rowsOf a0 b.val s.val d = a0 (ix3 b s d) := by
  unfold rowsOf
  rw [show (⟨b.val % 8, by omega⟩ : Fin 8) = b from Fin.ext (Nat.mod_eq_of_lt b.isLt), show (⟨s.val % 4096, by omega⟩ : Fin 4096) = s from Fin.ext (Nat.mod_eq_of_lt s.isLt)]

/-- A normalised row. -/
theorem norm_row (b : Fin 8) (s : Fin 4096) (l : Fin 1024) : rNorm (W (Proc.devRef .tc main_arg0)) (W (Proc.devRef .tc main_arg1)) (ix3 b s l)
    = hRow (weightsOf W) (rows W b.val s.val) l := by
  refine (rNorm_apply _ _ b s l).trans ?_
  unfold hRow
  congr 1
  funext d
  exact (rowsOf_fin _ b s d).symm

/-- A projected row's column. -/
theorem projected_apply (b : Fin 8) (s : Fin 4096) (j : Fin 3088) : projected W (ix3 b s j)
    = ∑ l : Fin 1024, hRow (weightsOf W) (rows W b.val s.val) l * (W (Proc.devRef .tc main_arg2) : FVec Ideal S1x1024x3088 .f32) (ix3 0 l j) := by
  refine (proj_apply _ _ b s j).trans (Finset.sum_congr rfl fun l _ => ?_)
  rw [norm_row]

/-- A block of columns is its matrix's projection. -/
theorem block (b : Fin 8) (s : Fin 4096) (i : Fin 6) (j : Fin 512) (c : Fin 3088) (hc : c.val = 512 * i.val + j.val) :
    projected W (ix3 b s c) = projRow ((weightsOf W).win i) (hRow (weightsOf W) (rows W b.val s.val)) j := by
  rw [show c = ⟨512 * i.val + j.val, by omega⟩ from Fin.ext hc]
  exact projected_apply W b s _

/-- An entry of the reference's queries is the layer's. -/
theorem qs_apply (b : Fin 8) (h : Fin 4) (n i : Fin 64) (a : Fin 128) :
    qs W (ix5 b h n i a) = qRow (weightsOf W) (chunkOf (rows W b.val) n.val i) (at128 h a) := by
  unfold qs qRow
  rw [queries_apply, heads_apply]
  refine congrArg (· * _) (Eq.trans ?_ (block W b ⟨64 * n.val + i.val, by omega⟩ 0 (at128 h a) ⟨(at128 h a).val, by omega⟩ (by simp)))
  pointwise

/-- An entry of the reference's keys is the layer's. -/
theorem ks_apply (b : Fin 8) (h : Fin 4) (n i : Fin 64) (a : Fin 128) :
    ks W (ix5 b h n i a) = kRow (weightsOf W) (chunkOf (rows W b.val) n.val i) (at128 h a) := by
  unfold ks kRow
  rw [heads_apply]
  refine Eq.trans ?_ (block W b ⟨64 * n.val + i.val, by omega⟩ 1 (at128 h a) ⟨512 + (at128 h a).val, by omega⟩ (by simp))
  pointwise

/-- An entry of the reference's values is the layer's. -/
theorem vs_apply (b : Fin 8) (h : Fin 4) (n i : Fin 64) (e : Fin 256) :
    vs W (ix5 b h n i e) = vRow (weightsOf W) (chunkOf (rows W b.val) n.val i) (at256 h e) := by
  unfold vs vRow
  rw [wide_apply]
  refine Eq.trans ?_ (block W b ⟨64 * n.val + i.val, by omega⟩ ⟨2 + (half (at256 h e)).val, by omega⟩ (place (at256 h e)) ⟨1024 + (at256 h e).val, by omega⟩
    (by simp only [half, place]; omega))
  pointwise

/-- The output gates' argument. -/
theorem out_apply (b : Fin 8) (s : Fin 4096) (e : Fin 1024) :
    extractStridedSlice S8x4096x1024 ![0, 0, 2048] (projected W) slices_S8x4096x3088_S8x4096x1024_0_0_2048 (ix3 b s e)
      = projRow ((weightsOf W).win ⟨4 + (half e).val, by omega⟩) (hRow (weightsOf W) (rows W b.val s.val)) (place e) := by
  refine Eq.trans ?_ (block W b s ⟨4 + (half e).val, by omega⟩ (place e) ⟨2048 + e.val, by omega⟩ (by simp only [half, place]; omega))
  pointwise

/-- Sixteen columns filled up with zeros to 128 sum as the sixteen. -/
theorem filled (f : Fin 128 → EReal) (hf : ∀ a : Fin 128, 16 ≤ a.val → f a = 0) : ∑ a : Fin 128, f a = ∑ a : Fin 16, f ⟨a.val, by omega⟩ := by
  refine (Fin.sum_univ_add (M := EReal) (a := 16) (b := 112) f).trans ?_
  rw [show (∑ i : Fin 112, f (Fin.natAdd 16 i)) = 0 from Finset.sum_eq_zero fun i _ => hf _ (by simp), add_zero]
  rfl

section Low
variable (a1 : S1024.Idx → EReal) (a2 : S1x1024x3088.Idx → EReal) (a3 : S16x512.Idx → EReal) (a4 : S512.Idx → EReal) (a5 : S256.Idx → EReal)
  (a6 : S1x1024x1024.Idx → EReal) (a : Fin 16)

/-- The gate's first matrix, in a column that is not filled up. -/
theorem low_column (l : Fin 1024) : (weights a1 a2 a3 a4 a5 a6).wl l ⟨a.val, by omega⟩ = a2 (ix3 0 l ⟨3072 + a.val, by omega⟩) := by
  unfold weights
  dsimp only
  rw [dif_pos a.isLt]

/-- The gate's second matrix, in a row that is not filled up. -/
theorem low_row (j : Fin 512) : (weights a1 a2 a3 a4 a5 a6).w2 ⟨a.val, by omega⟩ j = a3 (ix2 a j) := by
  unfold weights
  dsimp only
  rw [dif_pos a.isLt]

end Low

/-- The gates' argument. -/
theorem arg_row (b : Fin 8) (s : Fin 4096) (j : Fin 512) :
    arg (projected W) (W (Proc.devRef .tc main_arg3)) (W (Proc.devRef .tc main_arg4)) (ix3 b s j)
      = argRow (weightsOf W).wl (weightsOf W).w2 (weightsOf W).bg (hRow (weightsOf W) (rows W b.val s.val)) j := by
  refine (arg_apply _ _ _ b s j).trans ?_
  unfold argRow
  refine congrArg (· + _) ?_
  refine Eq.trans ?_ (filled _ ?_).symm
  · refine Finset.sum_congr rfl fun a _ => ?_
    rw [projected_apply]
    refine congrArg₂ (· * ·) (Finset.sum_congr rfl fun l _ => congrArg (fun t : EReal => hRow (weightsOf W) (rows W b.val s.val) l * t) ?_) ?_
    · exact (low_column _ _ _ _ _ _ a l).symm
    · exact (low_row _ _ _ _ _ _ a j).symm
  · intro a ha
    have h0 : (weightsOf W).w2 a j = 0 := by
      unfold weightsOf weights
      dsimp only
      rw [dif_neg (by omega)]
    rw [h0, mul_zero]

/-- An entry of the reference's summed gates is the layer's. -/
theorem bs_apply (b : Fin 8) (h : Fin 4) (n i : Fin 64) (a : Fin 128) :
    bs W (ix5 b h n i a) = bOf (weightsOf W) (chunkOf (rows W b.val) n.val) i (at128 h a) := by
  unfold bs bOf
  rw [sums_apply]
  congr 1
  funext i'
  rw [heads_apply, gates_apply, arg_row]
  rfl

end Cert.GlaRef

end
-- ==== Proof.GlaRefLoop.lean ====
/- The gated linear attention's reference: the loop over the chunks. -/
module

public import proofs.«01_k».proof.Proof.GlaRef

@[expose] public section

set_option maxRecDepth 16384

noncomputable section

namespace Cert.GlaRef

open Idealize.ShloMosaic Idealize.ShloMosaic.TcCoe Idealize.ShloMosaic.StableHlo
open Idealize.ShloMosaic.Tactic
open Cert.GlaReferenceIdeal Cert.GlaReferenceIdeal.Gen Cert.GlaReferenceIdeal.Value
open scoped BigOperators

/-- A chunk's block of what the chunks add. -/
theorem pick5 (A : FVec Ideal S64x8x4x128x256 .f32) (st : Fin 5 → Int) (hs : S64x8x4x128x256.Slices (fun _ => 0) S1x8x4x128x256) (k : Fin 64)
    (h0 : st 0 = k.val) (h1 : st 1 = 0) (h2 : st 2 = 0) (h3 : st 3 = 0) (h4 : st 4 = 0) (b : Fin 8) (h : Fin 4) (a : Fin 128) (e : Fin 256) :
    Host.dynamicSlice S1x8x4x128x256 A st hs (ix5 0 b h a e) = A (ix5 k b h a e) := by
  refine (Host.dynamicSlice_apply A st hs _).trans (congrArg A ?_)
  funext c
  fin_cases c
  · refine Fin.ext ((congrArg (· + 0) (Host.clampedStart_of_le hs.1 st 0 k.val h0 (show k.val + 1 ≤ 64 by omega))).trans (Nat.add_zero _))
  · refine Fin.ext ((congrArg (· + b.val) (Host.clampedStart_of_le hs.1 st 1 0 h1 (show 0 + 8 ≤ 8 by omega))).trans (Nat.zero_add _))
  · refine Fin.ext ((congrArg (· + h.val) (Host.clampedStart_of_le hs.1 st 2 0 h2 (show 0 + 4 ≤ 4 by omega))).trans (Nat.zero_add _))
  · refine Fin.ext ((congrArg (· + a.val) (Host.clampedStart_of_le hs.1 st 3 0 h3 (show 0 + 128 ≤ 128 by omega))).trans (Nat.zero_add _))
  · refine Fin.ext ((congrArg (· + e.val) (Host.clampedStart_of_le hs.1 st 4 0 h4 (show 0 + 256 ≤ 256 by omega))).trans (Nat.zero_add _))

/-- A chunk's block of what the chunks multiply by. -/
theorem pick4 (D : FVec Ideal S64x8x4x128 .f32) (st : Fin 4 → Int) (hs : S64x8x4x128.Slices (fun _ => 0) S1x8x4x128) (k : Fin 64)
    (h0 : st 0 = k.val) (h1 : st 1 = 0) (h2 : st 2 = 0) (h3 : st 3 = 0) (b : Fin 8) (h : Fin 4) (a : Fin 128) :
    Host.dynamicSlice S1x8x4x128 D st hs (ix4 0 b h a) = D (ix4 k b h a) := by
  refine (Host.dynamicSlice_apply D st hs _).trans (congrArg D ?_)
  funext c
  fin_cases c
  · refine Fin.ext ((congrArg (· + 0) (Host.clampedStart_of_le hs.1 st 0 k.val h0 (show k.val + 1 ≤ 64 by omega))).trans (Nat.add_zero _))
  · refine Fin.ext ((congrArg (· + b.val) (Host.clampedStart_of_le hs.1 st 1 0 h1 (show 0 + 8 ≤ 8 by omega))).trans (Nat.zero_add _))
  · refine Fin.ext ((congrArg (· + h.val) (Host.clampedStart_of_le hs.1 st 2 0 h2 (show 0 + 4 ≤ 4 by omega))).trans (Nat.zero_add _))
  · refine Fin.ext ((congrArg (· + a.val) (Host.clampedStart_of_le hs.1 st 3 0 h3 (show 0 + 128 ≤ 128 by omega))).trans (Nat.zero_add _))

/-- Writing a block into its chunk. -/
theorem put5 (X : FVec Ideal S64x8x4x128x256 .f32) (U : FVec Ideal S1x8x4x128x256 .f32) (st : Fin 5 → Int)
    (hs : S64x8x4x128x256.Slices (fun _ => 0) S1x8x4x128x256) (k : Fin 64)
    (h0 : st 0 = k.val) (h1 : st 1 = 0) (h2 : st 2 = 0) (h3 : st 3 = 0) (h4 : st 4 = 0) (n : Fin 64) (b : Fin 8) (h : Fin 4) (a : Fin 128) (e : Fin 256) :
    Host.dynamicUpdateSlice X U st hs (ix5 n b h a e) = if n.val = k.val then U (ix5 0 b h a e) else X (ix5 n b h a e) := by
  have c0 := Host.clampedStart_of_le hs.1 st 0 k.val h0 (show k.val + 1 ≤ 64 by omega)
  have c1 := Host.clampedStart_of_le hs.1 st 1 0 h1 (show 0 + 8 ≤ 8 by omega)
  have c2 := Host.clampedStart_of_le hs.1 st 2 0 h2 (show 0 + 4 ≤ 4 by omega)
  have c3 := Host.clampedStart_of_le hs.1 st 3 0 h3 (show 0 + 128 ≤ 128 by omega)
  have c4 := Host.clampedStart_of_le hs.1 st 4 0 h4 (show 0 + 256 ≤ 256 by omega)
  refine (Host.dynamicUpdateSlice_apply X U st hs _).trans ?_
  by_cases hn : n.val = k.val
  · rw [if_pos hn, dif_pos ?_]
    · refine congrArg U ?_
      funext c
      fin_cases c
      · exact Fin.ext ((congrArg (n.val - ·) c0).trans (show n.val - k.val = 0 by omega))
      · exact Fin.ext (congrArg (b.val - ·) c1)
      · exact Fin.ext (congrArg (h.val - ·) c2)
      · exact Fin.ext (congrArg (a.val - ·) c3)
      · exact Fin.ext (congrArg (e.val - ·) c4)
    · intro c
      fin_cases c
      · refine ⟨c0.trans_le (show k.val ≤ n.val by omega), lt_of_lt_of_eq (show n.val < k.val + 1 by omega) (congrArg (· + 1) c0.symm)⟩
      · refine ⟨c1.trans_le (Nat.zero_le _), lt_of_lt_of_eq (show b.val < 0 + 8 by omega) (congrArg (· + 8) c1.symm)⟩
      · refine ⟨c2.trans_le (Nat.zero_le _), lt_of_lt_of_eq (show h.val < 0 + 4 by omega) (congrArg (· + 4) c2.symm)⟩
      · refine ⟨c3.trans_le (Nat.zero_le _), lt_of_lt_of_eq (show a.val < 0 + 128 by omega) (congrArg (· + 128) c3.symm)⟩
      · refine ⟨c4.trans_le (Nat.zero_le _), lt_of_lt_of_eq (show e.val < 0 + 256 by omega) (congrArg (· + 256) c4.symm)⟩
  · rw [if_neg hn, dif_neg ?_]
    intro hin
    have h5 := hin 0
    rw [c0] at h5
    have h6 : k.val ≤ n.val ∧ n.val < k.val + 1 := h5
    omega

/-- A trip's new states, from its chunk's blocks. -/
def body (d : FVec Ideal S1x8x4x128 .f32) (s : FVec Ideal S1x8x4x128x256 .f32) (S : FVec Ideal S8x4x128x256 .f32) : FVec Ideal S8x4x128x256 .f32 :=
  addf (mulf (broadcastInDim S8x4x128x256 ![0, 1, 2, 3] bcast_S8x4x128x1_S8x4x128x256_0_1_2_3 (broadcastInDim S8x4x128x1 ![0, 1, 2]
    bcast_S8x4x128_S8x4x128x1_0_1_2 (shapeCast S8x4x128 d shapeCasts_S1x8x4x128_S8x4x128))) S) (shapeCast S8x4x128x256 s shapeCasts_S1x8x4x128x256_S8x4x128x256)

/-- An entry of the state after a round: the decayed state plus what the chunk adds. -/
theorem body_apply (d : FVec Ideal S1x8x4x128 .f32) (s : FVec Ideal S1x8x4x128x256 .f32) (S : FVec Ideal S8x4x128x256 .f32) (b : Fin 8) (h : Fin 4) (a : Fin 128) (e : Fin 256) :
    body d s S (ix4 b h a e) = d (ix4 0 b h a) * S (ix4 b h a e) + s (ix5 0 b h a e) := by
  unfold body
  pointwise

/-- The states as a block. -/
def lifted (S : FVec Ideal S8x4x128x256 .f32) : FVec Ideal S1x8x4x128x256 .f32 :=
  broadcastInDim S1x8x4x128x256 ![1, 2, 3, 4] bcast_S8x4x128x256_S1x8x4x128x256_1_2_3_4 S

/-- An entry of the state as it is recorded. -/
theorem lifted_apply (S : FVec Ideal S8x4x128x256 .f32) (b : Fin 8) (h : Fin 4) (a : Fin 128) (e : Fin 256) : lifted S (ix5 0 b h a e) = S (ix4 b h a e) := by
  unfold lifted
  pointwise

/-- Where a trip's blocks begin. -/
def start5 (n : IVec S_ 32) (k : Fin 5) : Int :=
  (((![n, constantI S_ 32 0#32, constantI S_ 32 0#32, constantI S_ 32 0#32, constantI S_ 32 0#32] : Fin 5 → IVec S_ 32)) k (Shape.Idx.first h_S_)).toInt
def start4 (n : IVec S_ 32) (k : Fin 4) : Int :=
  (((![n, constantI S_ 32 0#32, constantI S_ 32 0#32, constantI S_ 32 0#32] : Fin 4 → IVec S_ 32)) k (Shape.Idx.first h_S_)).toInt

/-- The trip's number as a word is the number. -/
theorem word : ∀ k : Fin 64, (Scf.iv 0#32 1#32 k.val).toInt = (k.val : Int) := by decide

variable (V : Valuation τ sig (Elt Ideal))

/-- A round's effect on the state. -/
theorem step3 : step_main_v60_3 V = body (Host.dynamicSlice S1x8x4x128 (V (Proc.devRef .tc main_v60_1)) (start4 (V (Proc.devRef .tc main_v60_2))) sliceFits_S64x8x4x128_S1x8x4x128)
    (Host.dynamicSlice S1x8x4x128x256 (V (Proc.devRef .tc main_v60_0)) (start5 (V (Proc.devRef .tc main_v60_2))) sliceFits_S64x8x4x128x256_S1x8x4x128x256)
    (V (Proc.devRef .tc main_v60_3)) := by
  unfold step_main_v60_3 body start4 start5
  rfl

/-- A round's effect on the record of the states. -/
theorem step4 : step_main_v60_4 V = Host.dynamicUpdateSlice (V (Proc.devRef .tc main_v60_4)) (lifted (V (Proc.devRef .tc main_v60_3)))
    (start5 (V (Proc.devRef .tc main_v60_2))) updateFits_S64x8x4x128x256_S1x8x4x128x256 := by
  unfold step_main_v60_4 lifted start5
  rfl

/-- The states after some chunks. -/
def carried (A : FVec Ideal S64x8x4x128x256 .f32) (D : FVec Ideal S64x8x4x128 .f32) (b : Fin 8) (h : Fin 4) (a : Fin 128) (e : Fin 256) : ℕ → EReal
  | 0 => 0
  | k + 1 => if hk : k < 64 then D (ix4 ⟨k, hk⟩ b h a) * carried A D b h a e k + A (ix5 ⟨k, hk⟩ b h a e) else 0

/-- What the loop's buffers hold after some trips. -/
structure Held (A : FVec Ideal S64x8x4x128x256 .f32) (D : FVec Ideal S64x8x4x128 .f32) (k : ℕ) (X : Valuation τ sig (Elt Ideal)) : Prop where
  adds : X (Proc.devRef .tc main_v60_0) = A
  muls : X (Proc.devRef .tc main_v60_1) = D
  state (b : Fin 8) (h : Fin 4) (a : Fin 128) (e : Fin 256) : (X (Proc.devRef .tc main_v60_3) : FVec Ideal S8x4x128x256 .f32) (ix4 b h a e) = carried A D b h a e k
  before (n : Fin 64) (b : Fin 8) (h : Fin 4) (a : Fin 128) (e : Fin 256) :
    (X (Proc.devRef .tc main_v60_4) : FVec Ideal S64x8x4x128x256 .f32) (ix5 n b h a e) = if n.val < k then carried A D b h a e n.val else 0

/-- A trip takes the states one chunk on, and records the states before the chunk. -/
theorem held_step (A : FVec Ideal S64x8x4x128x256 .f32) (D : FVec Ideal S64x8x4x128 .f32) (k : Fin 64) (H : Held A D k.val V)
    (hc : V (Proc.devRef .tc main_v60_2) = fun _ => Scf.iv 0#32 1#32 k.val) : Held A D (k.val + 1) (STEP V) where
  adds := (STEP_main_v60_0 V).trans H.adds
  muls := (STEP_main_v60_1 V).trans H.muls
  state b h a e := by
    rw [STEP_main_v60_3, step3, hc, H.adds, H.muls]
    refine (body_apply _ _ _ b h a e).trans ?_
    rw [H.state, pick4 D _ _ k (word k) rfl rfl rfl, pick5 A _ _ k (word k) rfl rfl rfl rfl]
    rw [carried, dif_pos k.isLt]
  before n b h a e := by
    rw [STEP_main_v60_4, step4, hc]
    refine (put5 _ _ _ _ k (word k) rfl rfl rfl rfl n b h a e).trans ?_
    rw [lifted_apply, H.state, H.before]
    by_cases h1 : n.val = k.val
    · rw [if_pos h1, if_pos (by omega), h1]
    · rw [if_neg h1]
      by_cases h2 : n.val < k.val
      · rw [if_pos h2, if_pos (by omega)]
      · rw [if_neg h2, if_neg (by omega)]

/-- After some trips from contents whose states are empty. -/
theorem held (A : FVec Ideal S64x8x4x128x256 .f32) (D : FVec Ideal S64x8x4x128 .f32) (H : Held A D 0 V)
    (hc : ∀ k, STEP^[k] V (Proc.devRef .tc main_v60_2) = fun _ => Scf.iv 0#32 1#32 k) : ∀ k, k ≤ 64 → Held A D k (STEP^[k] V)
  | 0, _ => H
  | k + 1, hk => by
    rw [Function.iterate_succ_apply']
    exact held_step _ A D ⟨k, by omega⟩ (held A D H hc k (by omega)) (hc k)

end Cert.GlaRef

end
-- ==== Proof.GlaLaunch.lean ====
/- The launch of the gated linear attention, with its result followed: row by row it is what `rowOut` says. -/
module

public import proofs.«01_k».proof.Proof.GlaHost
public import Idealize.ShloMosaic.Lib.Pipeline.ValueKit.Geometry

@[expose] public section

set_option maxRecDepth 16384

noncomputable section

namespace Cert.GlaTile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GlaIdeal Cert.GlaIdeal.Gen

local notation "𝕄" => MT nD τ sig Unit (Elt Ideal) ℕ (UR sig nD τ) ℕ

variable (m : (ℓ : Loc nD τ sig) → Buf (Elt Ideal) ℓ) (ρ : Dev nD → PrngReg)

/-- The states before the first chunk. -/
def empty : Heads := fun _ _ _ => 0

/-- The states before tile `p` of sequence `b`. -/
def stateBefore (c : Dev nD) (b p : ℕ) : Heads := statesAt (WK m c) (xK m c b) empty (16 * p)

/-- The rows of tile `p` of sequence `b`. -/
def tileRows (c : Dev nD) (b p : ℕ) : ℕ → Row := fun r => xK m c b (1024 * p + r)

/-- The block of the result a tile's point leaves. -/
def tileOut (c : Dev nD) (t : ℕ) : S1024x1024.Idx → EReal := fun i =>
  rowOut (WK m c) (xK m c ((t - 6) / 4)) empty (1024 * ((t - 6) % 4) + (i 0).val) (i 1)

/-- A row of a tile's block is the layer's row, from the states before the tile. -/
theorem tileOut_eq (c : Dev nD) (t : ℕ) (r d : Fin 1024) :
    tileOut m c t (ix2 r d) = rowOut (WK m c) (tileRows m c ((t - 6) / 4) ((t - 6) % 4)) (stateBefore m c ((t - 6) / 4) ((t - 6) % 4)) r.val d := by
  have h := rowOut_add (WK m c) (xK m c ((t - 6) / 4)) empty (16 * ((t - 6) % 4)) r.val d
  have e : ∀ r, 64 * (16 * ((t - 6) % 4)) + r = 1024 * ((t - 6) % 4) + r := fun r => by omega
  simp only [e] at h
  exact h

/-- A block with the layer's rows is the tile's block. -/
theorem eq_tileOut (c : Dev nD) (t : ℕ) (A : S1024x1024.Idx → EReal) (h : ∀ r d : Fin 1024, A (ix2 r d)
    = rowOut (WK m c) (tileRows m c ((t - 6) / 4) ((t - 6) % 4)) (stateBefore m c ((t - 6) / 4) ((t - 6) % 4)) r.val d) : A = tileOut m c t := by
  funext i
  obtain ⟨r, d, rfl⟩ : ∃ r d, i = ix2 (n0 := 1024) (n1 := 1024) r d := ⟨i 0, i 1, eq_ix2 i⟩
  exact (h r d).trans (tileOut_eq m c t r d).symm

/-- The states after the 16 chunks of a tile are those before the next tile. -/
theorem state_succ (c : Dev nD) (b p : ℕ) : statesAt (WK m c) (tileRows m c b p) (stateBefore m c b p) 16 = stateBefore m c b (p + 1) := by
  have h := statesAt_add (WK m c) (xK m c b) empty (16 * p) 16
  have e : ∀ r, 64 * (16 * p) + r = 1024 * p + r := fun r => by omega
  simp only [e] at h
  refine h.symm.trans ?_
  unfold stateBefore
  rw [Nat.mul_succ]

/-- What the scratch holds before point `n`: the first slices of the weights, and within a sequence the states. -/
structure Held (c : Dev nD) (n : ℕ) (e13 : (shp 13).Idx → Elt Ideal (ety 13)) (e14 : (shp 14).Idx → Elt Ideal (ety 14))
    (e15 : (shp 15).Idx → Elt Ideal (ety 15)) : Prop where
  win : ∀ (i : Fin 6) (l : Fin 1024) (j : Fin 512), i.val < n → e13 (ix3 i l j) = (WK m c).win i l j
  wout : ∀ e d : Fin 1024, e.val < 256 * n → e14 (ix2 e d) = (WK m c).wout e d
  st : 6 ≤ n → (n - 6) % 4 ≠ 0 → ∀ (h : Fin 4) (a : Fin 128) (e : Fin 256),
    e15 (ix3 h a e) = stateBefore m c ((n - 6) / 4) ((n - 6) % 4) h a e

/-- The scratch before point `n`, and the generator's register. -/
def between (c : Dev nD) (n : ℕ) : sProp 𝕄 :=
  iprop((∃ e13 e14 e15, ⌜Held m c n e13 e14 e15⌝ ∗ owns (c : Thread nD τ) (Memref.whole cc0_scratch0 : Memref sig .tc .vmem _ _) fullShare e13 ∗ owns (c : Thread nD τ) (Memref.whole cc0_scratch1 : Memref sig .tc .vmem _ _) fullShare e14 ∗ owns (c : Thread nD τ) (Memref.whole cc0_scratch2 : Memref sig .tc .vmem _ _) fullShare e15) ∗ (∃ d, owns (c : Thread nD τ) (Memref.whole cc0_scratch3 : Memref sig .tc .vmem _ _) fullShare d) ∗ (∃ d, owns (c : Thread nD τ) (Memref.whole cc0_scratch4 : Memref sig .tc .vmem _ _) fullShare d) ∗ (∃ d, owns (c : Thread nD τ) (Memref.whole cc0_scratch5 : Memref sig .tc .vmem _ _) fullShare d) ∗ (∃ d, owns (c : Thread nD τ) (Memref.whole cc0_scratch6 : Memref sig .tc .vmem _ _) fullShare d) ∗ (∃ d, owns (c : Thread nD τ) (Memref.whole cc0_scratch7 : Memref sig .tc .vmem _ _) fullShare d) ∗ (∃ d, owns (c : Thread nD τ) (Memref.whole cc0_scratch8 : Memref sig .tc .vmem _ _) fullShare d) ∗ (∃ d, owns (c : Thread nD τ) (Memref.whole cc0_scratch9 : Memref sig .tc .vmem _ _) fullShare d) ∗ (∃ r, prngReg c r))

/-- What the body leaves in the windows: an input's block; of the result, the tile's rows; of the states passed on, nothing is said. -/
def follow (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => tileOut m c t.val
    | ⟨11, _⟩ => iblk m c 11 t
    | ⟨12, _⟩ => iblk m c 12 t
  Φ t := between m c t.val
  q _ := fullShare
  owed _ := 0

/-- The array behind an operand's window is the buffer the host left. -/
theorem follow_A (c : Dev nD) (w : Fin cfg0.W) : (follow m c).A w = V m c (Pipeline.arrRef spec0 w) := by
  dsimp only [follow]

/-- The block of operand 0 a point finds is the one the host handed over. -/
theorem found_0 (c : Dev nD) (t : Fin cfg0.N) (d) : (follow m c).before 0 t d = iblk m c 0 t :=
  before0_0_of m (follow m c) (by dsimp only [follow]) (fun _ => by dsimp only [follow]) t d

/-- The block of operand 1 a point finds is the one the host handed over. -/
theorem found_1 (c : Dev nD) (t : Fin cfg0.N) (d) : (follow m c).before 1 t d = iblk m c 1 t :=
  before0_1_of m (follow m c) (by dsimp only [follow]) (fun _ => by dsimp only [follow]) t d

/-- The block of the input matrix a point finds. -/
theorem found_2 (c : Dev nD) (t : Fin cfg0.N) (d) : (follow m c).before 2 t d = X0_2 m c t :=
  before0_2_of m (follow m c) (by dsimp only [follow]) (fun _ => by dsimp only [follow]) t d

/-- The block of operand 3 a point finds is the one the host handed over. -/
theorem found_3 (c : Dev nD) (t : Fin cfg0.N) (d) : (follow m c).before 3 t d = iblk m c 3 t :=
  before0_3_of m (follow m c) (by dsimp only [follow]) (fun _ => by dsimp only [follow]) t d

/-- The block of operand 4 a point finds is the one the host handed over. -/
theorem found_4 (c : Dev nD) (t : Fin cfg0.N) (d) : (follow m c).before 4 t d = iblk m c 4 t :=
  before0_4_of m (follow m c) (by dsimp only [follow]) (fun _ => by dsimp only [follow]) t d

/-- The block of operand 5 a point finds is the one the host handed over. -/
theorem found_5 (c : Dev nD) (t : Fin cfg0.N) (d) : (follow m c).before 5 t d = iblk m c 5 t :=
  before0_5_of m (follow m c) (by dsimp only [follow]) (fun _ => by dsimp only [follow]) t d

/-- The block of operand 6 a point finds is the one the host handed over. -/
theorem found_6 (c : Dev nD) (t : Fin cfg0.N) (d) : (follow m c).before 6 t d = iblk m c 6 t :=
  before0_6_of m (follow m c) (by dsimp only [follow]) (fun _ => by dsimp only [follow]) t d

/-- The block of operand 7 a point finds is the one the host handed over. -/
theorem found_7 (c : Dev nD) (t : Fin cfg0.N) (d) : (follow m c).before 7 t d = iblk m c 7 t :=
  before0_7_of m (follow m c) (by dsimp only [follow]) (fun _ => by dsimp only [follow]) t d

/-- The block of operand 8 a point finds is the one the host handed over. -/
theorem found_8 (c : Dev nD) (t : Fin cfg0.N) (d) : (follow m c).before 8 t d = iblk m c 8 t :=
  before0_8_of m (follow m c) (by dsimp only [follow]) (fun _ => by dsimp only [follow]) t d

/-- The block of operand 9 a point finds is the one the host handed over. -/
theorem found_9 (c : Dev nD) (t : Fin cfg0.N) (d) : (follow m c).before 9 t d = iblk m c 9 t :=
  before0_9_of m (follow m c) (by dsimp only [follow]) (fun _ => by dsimp only [follow]) t d

/-- The states passed on are not followed. -/
def aside : Fin cfg0.W → Bool := fun w => decide (11 ≤ w.val)

/-- A point's coordinate is its number. -/
theorem at_coords : ∀ t : Fin cfg0.N, (grid0.coords t 0).val = t.val := (by decide +kernel : ∀ t : Fin grid0.N, _)

/-- The first six points do not write the result. -/
theorem idle_10 : ∀ t : Fin cfg0.N, cfg0.idle 10 (grid0.coords t) = decide (t.val < 6) := (by decide +kernel : ∀ t : Fin grid0.N, _)

/-- One of the first six points leaves the result's block as it found it. -/
theorem leaves_early (c : Dev nD) (t : Fin cfg0.N) (ht : t.val < 6) (d) :
    (owns (c : Thread nD τ) (st0_10 t) fullShare ((follow m c).before 10 t d) : sProp 𝕄) ⊢ (follow m c).leavesExact 10 t := by
  unfold Dat.leavesExact
  rw [show cfg0.idle 10 (cfg0.grid.coords t) = true from (idle_10 t).trans (decide_eq_true ht),
    show (cfg0.win 10).flush t = false from (flush_10 t).trans (decide_eq_false (by omega))]
  iintro H
  iexists d
  iexact H

/-- A later point leaves its tile's block of the result. -/
theorem leaves_late (c : Dev nD) (t : Fin cfg0.N) (ht : 6 ≤ t.val) :
    (owns (c : Thread nD τ) (st0_10 t) fullShare (tileOut m c t.val) : sProp 𝕄) ⊢ (follow m c).leavesExact 10 t := by
  unfold Dat.leavesExact
  rw [show cfg0.idle 10 (cfg0.grid.coords t) = false from (idle_10 t).trans (decide_eq_false (by omega))]
  exact .rfl

/-- What the state holds after a point. -/
structure Done (c : Dev nD) (t : Fin cfg0.N) (X : St Ideal) (s : St Ideal) : Prop where
  keeps : Keeps X s
  held : Held m c (t.val + 1) (s 13) (s 14) (s 15)
  early : t.val < 6 → s 10 = X 10
  late : 6 ≤ t.val → s 10 = tileOut m c t.val

section Point

variable {U : Type} [URA U] {Λ : Labels} {defs' : Defs nD τ sig (Elt Ideal) Λ} {𝒱 : Variants}
variable {M : (k : Fin 23) → Memref sig .tc .vmem (shp k) (ety k)} {hM : ∀ k, (M k).IsWhole}

/-- A grid point, from what it finds, does what it should. -/
theorem point (c : Dev nD) (t : Fin cfg0.N) (e10 : (shp 10).Idx → Elt Ideal (ety 10)) (e11 : (shp 11).Idx → Elt Ideal (ety 11)) (e12 : (shp 12).Idx → Elt Ideal (ety 12)) (e13 : (shp 13).Idx → Elt Ideal (ety 13)) (e14 : (shp 14).Idx → Elt Ideal (ety 14)) (e15 : (shp 15).Idx → Elt Ideal (ety 15)) (e16 : (shp 16).Idx → Elt Ideal (ety 16)) (e17 : (shp 17).Idx → Elt Ideal (ety 17)) (e18 : (shp 18).Idx → Elt Ideal (ety 18)) (e19 : (shp 19).Idx → Elt Ideal (ety 19)) (e20 : (shp 20).Idx → Elt Ideal (ety 20)) (e21 : (shp 21).Idx → Elt Ideal (ety 21)) (e22 : (shp 22).Idx → Elt Ideal (ety 22)) (hh : Held m c t.val e13 e14 e15) :
    Does (U := U) defs' 𝒱 c M (fun s => s = entry m c t e10 e11 e12 e13 e14 e15 e16 e17 e18 e19 e20 e21 e22) (body M hM (grid0.coords t)) fun _ s => Done m c t (entry m c t e10 e11 e12 e13 e14 e15 e16 e17 e18 e19 e20 e21 e22) s := by
  have ec := at_coords t
  by_cases ht : t.val < 6
  · refine (body_keeps (W := WK m c) (X := entry m c t e10 e11 e12 e13 e14 e15 e16 e17 e18 e19 e20 e21 e22) (D := e10) (grid0.coords t) (by rw [ec]; exact ht)
      (fun n l j hn => blk_win m c t ht n l j (hn.trans ec)) (fun h4 p e d he => blk_wout m c t (by rw [← ec]; exact h4) p e d (by rw [← ec]; exact he))).mono
      (fun s hs => ?_) fun _ s hs => ?_
    · subst hs
      rw [ec]
      exact ⟨fun _ _ => rfl, hh.win, hh.wout, rfl⟩
    · rw [ec] at hs
      exact ⟨hs.keeps, ⟨hs.win, hs.wout, fun h6 h => absurd (by omega : (t.val + 1 - 6) % 4 = 0) h⟩, fun _ => hs.out, fun h => absurd h (by omega)⟩
  · have h6 : 6 ≤ t.val := by omega
    have hf := first_iff (grid0.coords t) (by rw [ec]; exact h6)
    rw [ec] at hf
    refine (body_tiles (W := WK m c) (x := tileRows m c ((t.val - 6) / 4) ((t.val - 6) % 4)) (S := stateBefore m c ((t.val - 6) / 4) ((t.val - 6) % 4))
      (X := entry m c t e10 e11 e12 e13 e14 e15 e16 e17 e18 e19 e20 e21 e22) (go := ¬ first (grid0.coords t) = 1#1)
      ⟨fun r d => blk_x m c t h6 r d, fun d => blk_g m c t d, fun l a => blk_wl m c t l a, fun a j => blk_w2 m c t a j, fun j => blk_bg m c t j, fun e => blk_ng m c t e⟩
      (grid0.coords t) (by rw [ec]; exact h6) (fun h1 h a e => ?_) id).mono (fun s hs => ?_) fun _ s hs => ?_
    · rw [hf.1 h1]
      rfl
    · subst hs
      exact ⟨⟨fun _ _ => rfl, fun i l j => hh.win i l j (by omega), fun e d => hh.wout e d (by omega)⟩, fun hn => hh.st h6 fun h => hn (hf.2 h)⟩
    · refine ⟨hs.base.keeps, ⟨fun i l j _ => hs.base.win i l j, fun e d _ => hs.base.wout e d, fun _ h h' a e => ?_⟩, fun h => absurd h ht, fun _ => ?_⟩
      · rw [show (t.val + 1 - 6) / 4 = (t.val - 6) / 4 from by omega, show (t.val + 1 - 6) % 4 = (t.val - 6) % 4 + 1 from by omega, ← state_succ]
        exact hs.st h' a e h'.isLt
      · exact eq_tileOut m c t.val (s 10) hs.out

end Point

/-- After the body, the operands are handed back with the scratch the next point needs. -/
theorem leave_followed (c : Dev nD) (t : Fin cfg0.N) (e10 : (shp 10).Idx → Elt Ideal (ety 10)) (e11 : (shp 11).Idx → Elt Ideal (ety 11)) (e12 : (shp 12).Idx → Elt Ideal (ety 12)) (e13 : (shp 13).Idx → Elt Ideal (ety 13)) (e14 : (shp 14).Idx → Elt Ideal (ety 14)) (e15 : (shp 15).Idx → Elt Ideal (ety 15)) (e16 : (shp 16).Idx → Elt Ideal (ety 16)) (e17 : (shp 17).Idx → Elt Ideal (ety 17)) (e18 : (shp 18).Idx → Elt Ideal (ety 18)) (e19 : (shp 19).Idx → Elt Ideal (ety 19)) (e20 : (shp 20).Idx → Elt Ideal (ety 20)) (e21 : (shp 21).Idx → Elt Ideal (ety 21)) (e22 : (shp 22).Idx → Elt Ideal (ety 22)) (s : St Ideal) (hs : Done m c t (entry m c t e10 e11 e12 e13 e14 e15 e16 e17 e18 e19 e20 e21 e22) s)
    (h10 : (owns (c : Thread nD τ) (st0_10 t) fullShare (s 10) : sProp 𝕄) ⊢ (follow m c).leavesExact 10 t) :
    iprop(held (U := UR sig nD τ) c (ops t) s ∗ (∃ r, prngReg c r) ∗ (follow m c).owesAt () t.castSucc) ⊢ (iprop((follow m c).Φ t.succ ∗ (follow m c).owesAt () t.castSucc ∗ owns (c : Thread nD τ) (st0_0 t) fullShare ((follow m c).after 0 t) ∗ owns (c : Thread nD τ) (st0_1 t) fullShare ((follow m c).after 1 t) ∗ owns (c : Thread nD τ) (st0_2 t) fullShare ((follow m c).after 2 t) ∗ owns (c : Thread nD τ) (st0_3 t) fullShare ((follow m c).after 3 t) ∗ owns (c : Thread nD τ) (st0_4 t) fullShare ((follow m c).after 4 t) ∗ owns (c : Thread nD τ) (st0_5 t) fullShare ((follow m c).after 5 t) ∗ owns (c : Thread nD τ) (st0_6 t) fullShare ((follow m c).after 6 t) ∗ owns (c : Thread nD τ) (st0_7 t) fullShare ((follow m c).after 7 t) ∗ owns (c : Thread nD τ) (st0_8 t) fullShare ((follow m c).after 8 t) ∗ owns (c : Thread nD τ) (st0_9 t) fullShare ((follow m c).after 9 t) ∗ (follow m c).leavesExact 10 t ∗ (∃ X, owns (c : Thread nD τ) (st0_11 t) fullShare X) ∗ (∃ X, owns (c : Thread nD τ) (st0_12 t) fullShare X)) : sProp 𝕄) := by
  rw [show (follow m c).Φ t.succ = between m c (t.val + 1) from rfl]
  unfold between
  have q0 : s 0 = iblk m c 0 t := hs.keeps 0 (by decide)
  have q1 : s 1 = iblk m c 1 t := hs.keeps 1 (by decide)
  have q2 : s 2 = X0_2 m c t := hs.keeps 2 (by decide)
  have q3 : s 3 = iblk m c 3 t := hs.keeps 3 (by decide)
  have q4 : s 4 = iblk m c 4 t := hs.keeps 4 (by decide)
  have q5 : s 5 = iblk m c 5 t := hs.keeps 5 (by decide)
  have q6 : s 6 = iblk m c 6 t := hs.keeps 6 (by decide)
  have q7 : s 7 = iblk m c 7 t := hs.keeps 7 (by decide)
  have q8 : s 8 = iblk m c 8 t := hs.keeps 8 (by decide)
  have q9 : s 9 = iblk m c 9 t := hs.keeps 9 (by decide)
  rw [held_chain, q0, q1, q2, q3, q4, q5, q6, q7, q8, q9]
  iintro ⟨⟨H0, H1, H2, H3, H4, H5, H6, H7, H8, H9, H10, H11, H12, S0, S1, S2, S3, S4, S5, S6, S7, S8, S9⟩, Hg, Ho⟩
  isplitl [S0 S1 S2 S3 S4 S5 S6 S7 S8 S9 Hg]
  · isplitl [S0 S1 S2]
    · iexists (s 13); iexists (s 14); iexists (s 15)
      isplitr; · ipureintro; exact hs.held
      isplitl [S0]; · iexact S0
      isplitl [S1]; · iexact S1
      iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply h10; iexact H10
  isplitl [H11]; · iexists _; iexact H11
  iexists _; iexact H12

/-- A grid point takes the scratch from what holds before it to what holds after it. -/
theorem sound_followed (c : Dev nD) (t : Fin cfg0.N) :
    iprop((follow m c).Φ t.castSucc ∗ (follow m c).owesAt () t.castSucc ∗ (∃ d, owns (c : Thread nD τ) (st0_0 t) fullShare ((follow m c).before 0 t d)) ∗ (∃ d, owns (c : Thread nD τ) (st0_1 t) fullShare ((follow m c).before 1 t d)) ∗ (∃ d, owns (c : Thread nD τ) (st0_2 t) fullShare ((follow m c).before 2 t d)) ∗ (∃ d, owns (c : Thread nD τ) (st0_3 t) fullShare ((follow m c).before 3 t d)) ∗ (∃ d, owns (c : Thread nD τ) (st0_4 t) fullShare ((follow m c).before 4 t d)) ∗ (∃ d, owns (c : Thread nD τ) (st0_5 t) fullShare ((follow m c).before 5 t d)) ∗ (∃ d, owns (c : Thread nD τ) (st0_6 t) fullShare ((follow m c).before 6 t d)) ∗ (∃ d, owns (c : Thread nD τ) (st0_7 t) fullShare ((follow m c).before 7 t d)) ∗ (∃ d, owns (c : Thread nD τ) (st0_8 t) fullShare ((follow m c).before 8 t d)) ∗ (∃ d, owns (c : Thread nD τ) (st0_9 t) fullShare ((follow m c).before 9 t d)) ∗ (∃ d, owns (c : Thread nD τ) (st0_10 t) fullShare ((follow m c).before 10 t d)) ∗ (∃ X, owns (c : Thread nD τ) (st0_11 t) fullShare X) ∗ (∃ X, owns (c : Thread nD τ) (st0_12 t) fullShare X))
      ⊢ wp Idealize.ShloMosaic.frame (wpE (defs₀ (F := Ideal)) Variants.none c none) Set.univ (body (ops t) (ops_whole t) (grid0.coords t))
        fun _ => (iprop((follow m c).Φ t.succ ∗ (follow m c).owesAt () t.succ ∗ owns (c : Thread nD τ) (st0_0 t) fullShare ((follow m c).after 0 t) ∗ owns (c : Thread nD τ) (st0_1 t) fullShare ((follow m c).after 1 t) ∗ owns (c : Thread nD τ) (st0_2 t) fullShare ((follow m c).after 2 t) ∗ owns (c : Thread nD τ) (st0_3 t) fullShare ((follow m c).after 3 t) ∗ owns (c : Thread nD τ) (st0_4 t) fullShare ((follow m c).after 4 t) ∗ owns (c : Thread nD τ) (st0_5 t) fullShare ((follow m c).after 5 t) ∗ owns (c : Thread nD τ) (st0_6 t) fullShare ((follow m c).after 6 t) ∗ owns (c : Thread nD τ) (st0_7 t) fullShare ((follow m c).after 7 t) ∗ owns (c : Thread nD τ) (st0_8 t) fullShare ((follow m c).after 8 t) ∗ owns (c : Thread nD τ) (st0_9 t) fullShare ((follow m c).after 9 t) ∗ (follow m c).leavesExact 10 t ∗ (∃ X, owns (c : Thread nD τ) (st0_11 t) fullShare X) ∗ (∃ X, owns (c : Thread nD τ) (st0_12 t) fullShare X)) : sProp 𝕄) := by
  rw [show (follow m c).owesAt () t.succ = (follow m c).owesAt () t.castSucc from rfl,
    show (follow m c).Φ t.castSucc = between m c t.val from rfl]
  unfold between
  simp only [found_0, found_1, found_2, found_3, found_4, found_5, found_6, found_7, found_8, found_9]
  iintro ⟨⟨⟨%e13, %e14, %e15, %hh, S0, S1, S2⟩, ⟨%e16, S3⟩, ⟨%e17, S4⟩, ⟨%e18, S5⟩, ⟨%e19, S6⟩, ⟨%e20, S7⟩, ⟨%e21, S8⟩, ⟨%e22, S9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%e11, H11⟩, ⟨%e12, H12⟩⟩
  have h := point m (U := UR sig nD τ) (defs' := defs₀ (F := Ideal)) (𝒱 := Variants.none) (M := ops t) (hM := ops_whole t) c t
    ((follow m c).before 10 t d10) e11 e12 e13 e14 e15 e16 e17 e18 e19 e20 e21 e22 hh _ rfl
  rw [held_chain] at h
  iapply (wp_wand_r _ _)
  isplitl [H0 H1 H2 H3 H4 H5 H6 H7 H8 H9 H10 H11 H12 S0 S1 S2 S3 S4 S5 S6 S7 S8 S9]
  · iapply h
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  iintro %a ⟨%s, %hs, H⟩
  have h10 : (owns (c : Thread nD τ) (st0_10 t) fullShare (s 10) : sProp 𝕄) ⊢ (follow m c).leavesExact 10 t := by
    by_cases ht : t.val < 6
    · rw [show s 10 = (follow m c).before 10 t d10 from hs.early ht]
      exact leaves_early m c t ht d10
    · rw [hs.late (by omega)]
      exact leaves_late m c t (by omega)
  iapply (leave_followed m c t _ _ _ _ _ _ _ _ _ _ _ _ _ s hs h10)
  isplitl [H]; · iexact H
  isplitl [Hg]; · iexact Hg
  iexact Ho

/-- Every grid point meets the launch's obligation, values included. -/
theorem obligation_followed (c : Dev nD) : BodyObligation (follow m c) (defs₀ (F := Ideal)) Variants.none () Set.univ aside := fun t => by
  rw [bigSep_W0, bigSep_W0, row]
  exact triple_restated (sound_followed m c t) rfl .rfl fun _ => .rfl

/-- Before the first point nothing is asked of the scratch. -/
theorem enter (c : Dev nD) : (Pipeline.ΦA spec0 c : sProp 𝕄) ⊢ (follow m c).Φ 0 := by
  rw [scratch_eq, show (follow m c).Φ 0 = between m c 0 from rfl]
  unfold between
  iintro ⟨⟨⟨%e13, S0⟩, ⟨%e14, S1⟩, ⟨%e15, S2⟩, ⟨%e16, S3⟩, ⟨%e17, S4⟩, ⟨%e18, S5⟩, ⟨%e19, S6⟩, ⟨%e20, S7⟩, ⟨%e21, S8⟩, ⟨%e22, S9⟩⟩, Hg⟩
  isplitl [S0 S1 S2]
  · iexists e13; iexists e14; iexists e15
    isplitr; · ipureintro; exact ⟨fun _ _ _ h => absurd h (Nat.not_lt_zero _), fun _ _ h => absurd h (Nat.not_lt_zero _), fun h => absurd h (by omega)⟩
    isplitl [S0]; · iexact S0
    isplitl [S1]; · iexact S1
    iexact S2
  isplitl [S3]; · iexists _; iexact S3
  isplitl [S4]; · iexists _; iexact S4
  isplitl [S5]; · iexists _; iexact S5
  isplitl [S6]; · iexists _; iexact S6
  isplitl [S7]; · iexists _; iexact S7
  isplitl [S8]; · iexists _; iexact S8
  isplitl [S9]; · iexists _; iexact S9
  iexact Hg

/-- After the last point the scratch is handed back. -/
theorem exit (c : Dev nD) : (follow m c).Φ (Fin.last cfg0.N) ⊢ (Pipeline.ΦA spec0 c : sProp 𝕄) := by
  rw [scratch_eq, show (follow m c).Φ (Fin.last cfg0.N) = between m c cfg0.N from rfl]
  unfold between
  iintro ⟨⟨%e13, %e14, %e15, %hh, S0, S1, S2⟩, S3, S4, S5, S6, S7, S8, S9, Hg⟩
  isplitl [S0 S1 S2 S3 S4 S5 S6 S7 S8 S9]
  · isplitl [S0]; · iexists _; iexact S0
    isplitl [S1]; · iexists _; iexact S1
    isplitl [S2]; · iexists _; iexact S2
    isplitl [S3]; · iexact S3
    isplitl [S4]; · iexact S4
    isplitl [S5]; · iexact S5
    isplitl [S6]; · iexact S6
    isplitl [S7]; · iexact S7
    isplitl [S8]; · iexact S8
    iexact S9
  iexact Hg

set_option backward.isDefEq.respectTransparency.types false in
/-- The whole program runs and its result array is what the points wrote. -/
theorem launched_followed : θ_run defs (onTc (τ := τ) (main (F := Ideal))) (s₀ m ρ) (fun r =>
    Pipeline.RDat.FramePost cfg0 (fun c => (follow m c).toRForget aside) (V m) r ∧ r.2.sem = fun _ => 0) :=
  Pipeline.θ_run_frame_track_forget (Q' := _) cfgs (fun _ => follow m) (0 : Fin 1) launch0 defs₀ Variants.none aside m ρ main
    (hbody := fun c => (obligation_followed m c).loose) (hshare := fun c => (follow m c).share_full fun _ => rfl)
    (howed := fun _ _ => rfl) (V := V m) (hmain := hmain m Variants.none) (hA := follow_A m) (hin := enter m) (hout := exit m)

/-- The result's array: row `R` is row `R % 4096` of sequence `R / 4096`. -/
def wholeRows (c : Dev nD) : S32768x1024.Idx → EReal := fun i =>
  rowOut (WK m c) (xK m c ((i 0).val / 4096)) empty ((i 0).val % 4096) (i 1)

/-- The result array after all the points holds the layer's rows. -/
theorem rows_final (c : Dev nD) : (follow m c).arrAt 10 cfg0.N = wholeRows m c := by
  refine (follow m c).arrAt_eq_of_covers 10 _ (by decide +kernel) fun t hf y => ?_
  have h6 : 6 ≤ t.val := of_decide_eq_true ((flush_10 t).symm.trans hf)
  have hN := lt_of_lt_of_eq t.isLt N_0
  obtain ⟨a0, a1⟩ := at_10 t
  show tileOut m c t.val _ = _
  have f0 : (((cfg0.win 10).blk t).view.emb y 0).val = win0_10.index t (0 : Fin 2) * 1024 + 1 * (y 0).val := rfl
  have f1 : (((cfg0.win 10).blk t).view.emb y 1).val = win0_10.index t (1 : Fin 2) * 1024 + 1 * (y 1).val := rfl
  have hy : (y 0).val < 1024 := (y 0).isLt
  unfold wholeRows tileOut
  rw [f0, a0]
  have g0 : ((t.val - 6) * 1024 + 1 * (y 0).val) / 4096 = (t.val - 6) / 4 := by omega
  have g1 : ((t.val - 6) * 1024 + 1 * (y 0).val) % 4096 = 1024 * ((t.val - 6) % 4) + (y 0).val := by omega
  rw [g0, g1]
  congr 1
  apply Fin.ext
  rw [f1, a1]
  show (y 1).val = _
  omega

/-- Every run ends with the result's array as `wholeRows` says, the arguments as they were and every semaphore at zero. -/
theorem value : θ_run defs (onTc (τ := τ) (main (F := Ideal))) ⟨m, fun _ => 0, ρ⟩ (fun r => (∀ c : Dev nD,
      r.2.mem ((c.tc : Thread nD τ).loc main_v13_0) = wholeRows m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ h => ⟨fun c => ⟨(((follow m c).toRForget_arrAt_iff (fgt := aside) (w := 10) rfl cfg0.N _).1 ((h.1 c).1 10)).trans (rows_final m c),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1.arr_in c 2 rfl).trans (follow_A m c 2)).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1.arr_in c 7 rfl).trans (follow_A m c 7)).trans (V_main_arg6 m c),
    ((h.1.arr_in c 8 rfl).trans (follow_A m c 8)).trans (V_main_arg7 m c),
    ((h.1.arr_in c 9 rfl).trans (follow_A m c 9)).trans (V_main_arg8 m c)⟩, h.2⟩) (launched_followed m ρ)

end Cert.GlaTile

end
-- ==== Proof.GlaEqual.lean ====
/- The gated linear attention: the reference's rows are the layer's, and so the kernel's. -/
module

public import proofs.«01_k».proof.Proof.GlaRefRows
public import proofs.«01_k».proof.Proof.GlaRefLoop
public import proofs.«01_k».proof.Proof.GlaLaunch

@[expose] public section

set_option maxRecDepth 16384

noncomputable section

namespace Cert.GlaRef

open Idealize.ShloMosaic Idealize.ShloMosaic.TcCoe Idealize.ShloMosaic.StableHlo
open Idealize.SL.Sem
open Idealize.ShloMosaic.Tactic
open Cert.GlaReferenceIdeal Cert.GlaReferenceIdeal.Gen Cert.GlaReferenceIdeal.Value Cert.ConvFfn Cert.GlaTile
open scoped BigOperators

section Rows
variable (W : Valuation τ sig (Elt Ideal))

/-- What the chunks add to the states and multiply them by. -/
def adds : FVec Ideal S64x8x4x128x256 .f32 := added (ks W) (bs W) (last (bs W)) (vs W)
def muls : FVec Ideal S64x8x4x128 .f32 := decays (last (bs W))

/-- A chunk takes the layer's states on as the loop's trip does. -/
theorem chunk_step (b : Fin 8) (h : Fin 4) (a : Fin 128) (e : Fin 256) (n : Fin 64) (S : Heads) :
    muls W (ix4 n b h a) * S h a e + adds W (ix5 n b h a e) = nextS (weightsOf W) (chunkOf (rows W b.val) n.val) S h a e := by
  unfold nextS nextAt adds muls
  rw [decays_apply, added_apply, mul_comm]
  simp only [bs_apply, ks_apply, vs_apply]

/-- The states the loop carries are the layer's. -/
theorem carried_eq (b : Fin 8) (h : Fin 4) (a : Fin 128) (e : Fin 256) (n : ℕ) (hn : n ≤ 64) :
    carried (adds W) (muls W) b h a e n = statesAt (weightsOf W) (rows W b.val) empty n h a e := by
  induction n with
  | zero => rw [carried, statesAt, empty]
  | succ n ih =>
    rw [carried, statesAt, dif_pos (by omega), ih (by omega)]
    exact chunk_step W b h a e ⟨n, by omega⟩ _

/-- The heads' rows are the layer's. -/
theorem mixed_row (St : FVec Ideal S64x8x4x128x256 .f32)
    (hS : ∀ (n : Fin 64) (b : Fin 8) (h : Fin 4) (a : Fin 128) (e : Fin 256), St (ix5 n b h a e) = statesAt (weightsOf W) (rows W b.val) empty n.val h a e)
    (b : Fin 8) (h : Fin 4) (n i : Fin 64) (e : Fin 256) :
    mixed (within (scores (grown (qs W) (bs W)) (shrunk (ks W) (bs W))) (vs W)) (grown (qs W) (bs W)) St (ix5 b h n i e)
      = mixAt (bOf (weightsOf W) (chunkOf (rows W b.val) n.val)) (fun i => kRow (weightsOf W) (chunkOf (rows W b.val) n.val i))
        (fun i => qRow (weightsOf W) (chunkOf (rows W b.val) n.val i)) (fun i e => vRow (weightsOf W) (chunkOf (rows W b.val) n.val i) (at256 h e))
        (statesAt (weightsOf W) (rows W b.val) empty n.val h) h i e := by
  rw [mixed_apply, within_apply, add_comm]
  unfold mixAt scoreAt
  simp only [scores_apply, grown_apply, hS, bs_apply, ks_apply, vs_apply, qs_apply]

/-- A column among 1024 is the column of its head at its place there. -/
theorem column (e : Fin 1024) : at256 (hd e) (pl e) = e := Fin.ext (by simp only [at256, hd, pl]; omega)

/-- The gated rows are the layer's. -/
theorem gated_row (St : FVec Ideal S64x8x4x128x256 .f32)
    (hS : ∀ (n : Fin 64) (b : Fin 8) (h : Fin 4) (a : Fin 128) (e : Fin 256), St (ix5 n b h a e) = statesAt (weightsOf W) (rows W b.val) empty n.val h a e)
    (b : Fin 8) (s : Fin 4096) (e : Fin 1024) :
    normed (ordered (mixed (within (scores (grown (qs W) (bs W)) (shrunk (ks W) (bs W))) (vs W)) (grown (qs W) (bs W)) St)) (W (Proc.devRef .tc main_arg5)) (ix3 b s e)
      * swished (extractStridedSlice S8x4096x1024 ![0, 0, 2048] (projected W) slices_S8x4096x3088_S8x4096x1024_0_0_2048) (ix3 b s e)
      = yOf (weightsOf W) (chunkOf (rows W b.val) (s.val / 64)) (statesAt (weightsOf W) (rows W b.val) empty (s.val / 64)) ⟨s.val % 64, by omega⟩ (hd e) (pl e) := by
  rw [normed_apply, swished_apply, out_apply]
  unfold yOf gatedAt oRow
  simp only [ordered_apply, mixed_row W St hS]
  rw [column, mul_assoc]
  refine congrArg₂ (· * ·) rfl ?_
  rw [mul_comm]
  refine congrArg₂ (· * ·) ?_ ?_
  · have hr : chunkOf (rows W b.val) (s.val / 64) ⟨s.val % 64, by omega⟩ = rows W b.val s.val := congrArg (rows W b.val) (by dsimp only; omega)
    rw [hr]
  · rfl

/-- The reference's rows are the layer's. -/
theorem result_row (St : FVec Ideal S64x8x4x128x256 .f32)
    (hS : ∀ (n : Fin 64) (b : Fin 8) (h : Fin 4) (a : Fin 128) (e : Fin 256), St (ix5 n b h a e) = statesAt (weightsOf W) (rows W b.val) empty n.val h a e)
    (r : Fin 32768) (d : Fin 1024) :
    result (W (Proc.devRef .tc main_arg0))
      (normed (ordered (mixed (within (scores (grown (qs W) (bs W)) (shrunk (ks W) (bs W))) (vs W)) (grown (qs W) (bs W)) St)) (W (Proc.devRef .tc main_arg5)))
      (swished (extractStridedSlice S8x4096x1024 ![0, 0, 2048] (projected W) slices_S8x4096x3088_S8x4096x1024_0_0_2048))
      (W (Proc.devRef .tc main_arg6)) (ix2 r d)
      = rowOut (weightsOf W) (rows W (r.val / 4096)) empty (r.val % 4096) d := by
  rw [result_apply]
  unfold rowOut outOf
  refine congrArg₂ (· + ·) ?_ (Finset.sum_congr rfl fun e _ => ?_)
  · refine (rowsOf_fin _ ⟨r.val / 4096, by omega⟩ ⟨r.val % 4096, by omega⟩ d).symm.trans ?_
    exact congrFun (congrArg (rows W (r.val / 4096)) (by dsimp only; omega)) d
  · rw [gated_row W St hS ⟨r.val / 4096, by omega⟩ ⟨r.val % 4096, by omega⟩ e]
    rfl

end Rows

variable (m : (ℓ : Loc nD τ sig) → Buf (Elt Ideal) ℓ) (c : Dev nD)

/-- The reference's launch, as contents. -/
abbrev launched : Valuation τ sig (Elt Ideal) := launchContents m c

/-- What the loop finds is what the operations before it compute. -/
theorem entry_eq : entryContents preI m c = entry (launched m c) := by
  simp only [entryContents, afterL_cons, afterL_nil]
  rfl

/-- The states the loop records are the layer's. -/
theorem recorded (n : Fin 64) (b : Fin 8) (h : Fin 4) (a : Fin 128) (e : Fin 256) :
    (atK m 64 c (Proc.devRef .tc main_v60_4) : FVec Ideal S64x8x4x128x256 .f32) (ix5 n b h a e)
      = statesAt (weightsOf (launched m c)) (rows (launched m c) b.val) empty n.val h a e := by
  have H : Held (adds (launched m c)) (muls (launched m c)) 0 (entryContents preI m c) := by
    rw [entry_eq]
    refine ⟨entry_v60_0 _, entry_v60_1 _, fun b h a e => ?_, fun n b h a e => ?_⟩
    · unfold entry
      rw [chunks_v60_3]
      pointwise
      rfl
    · unfold entry
      rw [chunks_v60_4]
      pointwise
      rfl
  have hc : ∀ k, STEP^[k] (entryContents preI m c) (Proc.devRef .tc main_v60_2) = fun _ => Scf.iv 0#32 1#32 k := fun k =>
    (atK_agree m c k main_v60_2 (by decide)).symm.trans (atK_ctr m c k)
  have K := held _ _ _ H hc 64 le_rfl
  rw [atK_agree m c 64 main_v60_4 (by decide), K.before, if_pos n.isLt, carried_eq _ _ _ _ _ _ (le_of_lt n.isLt)]

/-- The contents the loop is left with. -/
def left : Valuation τ sig (Elt Ideal) := after condOps (atK m 64 c)

/-- The loop leaves every buffer it does not write. -/
theorem left_same (r : Ref sig .tc) (h : r ∉ writtenTrip) : left m c (Proc.devRef .tc r) = entry (launched m c) (Proc.devRef .tc r) := by
  have h' := h
  simp only [writtenTrip, List.mem_append, not_or] at h'
  exact (after_of_writes_sub condOps _ condOps_writes h'.1.1.1.1.1).trans ((trips_same m c r h 64).trans (congrFun (entry_eq m c) _))

/-- The operations before the loop leave every buffer they do not write. -/
theorem entry_argument (W : Valuation τ sig (Elt Ideal)) (r : Ref sig .tc) (h : r ∉ writtenBefore) : entry W (Proc.devRef .tc r) = W (Proc.devRef .tc r) := by
  simp only [writtenBefore, List.mem_append, not_or] at h
  obtain ⟨⟨⟨⟨⟨⟨⟨⟨h0, h1⟩, h2⟩, h3⟩, h4⟩, h5⟩, h6⟩, h7⟩, h8⟩ := h
  unfold entry
  rw [keep8 _ r h8, keep7 _ r h7, keep6 _ r h6, keep5 _ r h5, keep4 _ r h4, keep3 _ r h3, keep2 _ r h2, keep1 _ r h1, keep0 _ r h0]

/-- What the reference's result holds. -/
theorem result_read : finalContents condOps preI bodyI postI 64 m c (Proc.devRef .tc main_v85)
    = result (launched m c (Proc.devRef .tc main_arg0))
      (normed (ordered (mixed (within (scores (grown (qs (launched m c)) (bs (launched m c))) (shrunk (ks (launched m c)) (bs (launched m c)))) (vs (launched m c)))
        (grown (qs (launched m c)) (bs (launched m c))) (atK m 64 c (Proc.devRef .tc main_v60_4)))) (launched m c (Proc.devRef .tc main_arg5)))
      (swished (extractStridedSlice S8x4096x1024 ![0, 0, 2048] (projected (launched m c)) slices_S8x4096x3088_S8x4096x1024_0_0_2048))
      (launched m c (Proc.devRef .tc main_arg6)) := by
  have e : finalContents condOps preI bodyI postI 64 m c = s11 (s10 (s9 (left m c))) := by
    simp only [finalContents, afterL_cons, afterL_nil]
    rfl
  rw [e, after_v85, keep10 _ main_arg0 (by decide), keep9 _ main_arg0 (by decide), left_same m c main_arg0 (by decide), entry_argument _ main_arg0 (by decide),
    keep10 _ main_v79 (by decide), after_v79, left_same m c main_v48 (by decide), left_same m c main_v40 (by decide), left_same m c main_arg5 (by decide),
    entry_argument _ main_arg5 (by decide), entry_v48, entry_v40, after_v80, keep9 _ main_v18 (by decide), left_same m c main_v18 (by decide), entry_v18,
    keep10 _ main_arg6 (by decide), keep9 _ main_arg6 (by decide), left_same m c main_arg6 (by decide), entry_argument _ main_arg6 (by decide)]
  rw [show left m c (Proc.devRef .tc main_v60_4) = atK m 64 c (Proc.devRef .tc main_v60_4) from cond_keeps _ main_v60_4 (by decide)]

/-- The reference's result, a row at a time. -/
theorem result_rows (r : Fin 32768) (d : Fin 1024) : (finalContents condOps preI bodyI postI 64 m c (Proc.devRef .tc main_v85) : S32768x1024.Idx → EReal) (ix2 r d)
    = rowOut (weightsOf (launched m c)) (rows (launched m c) (r.val / 4096)) empty (r.val % 4096) d := by
  rw [result_read]
  exact result_row _ _ (recorded m c) r d

/-- Every run of the reference ends with the layer's rows in its result, and with its arguments as they were. -/
theorem reference (ρ : Dev nD → PrngReg) : θ_run (defs (F := Ideal)) (onTc (τ := τ) (main (F := Ideal))) ⟨m, fun _ => 0, ρ⟩ (fun r => ∀ c : Dev nD,
      r.2.mem ((c.tc : Thread nD τ).loc main_v85) = finalContents condOps preI bodyI postI 64 m c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨h c main_v85 rfl, (h c main_arg0 rfl).trans (kept m c main_arg0 (by decide) (by decide) (by decide)),
    (h c main_arg1 rfl).trans (kept m c main_arg1 (by decide) (by decide) (by decide)),
    (h c main_arg2 rfl).trans (kept m c main_arg2 (by decide) (by decide) (by decide)),
    (h c main_arg3 rfl).trans (kept m c main_arg3 (by decide) (by decide) (by decide)),
    (h c main_arg4 rfl).trans (kept m c main_arg4 (by decide) (by decide) (by decide)),
    (h c main_arg5 rfl).trans (kept m c main_arg5 (by decide) (by decide) (by decide)),
    (h c main_arg6 rfl).trans (kept m c main_arg6 (by decide) (by decide) (by decide)),
    (h c main_arg7 rfl).trans (kept m c main_arg7 (by decide) (by decide) (by decide)),
    (h c main_arg8 rfl).trans (kept m c main_arg8 (by decide) (by decide) (by decide))⟩) (run_fold m ρ)

/-- On equal arguments the reference's result and the kernel's are one array. -/
theorem same (n : (ℓ : Loc Cert.GlaIdeal.nD Cert.GlaIdeal.τ Cert.GlaIdeal.sig) → Buf (Elt Ideal) ℓ) (c : Dev Cert.GlaIdeal.nD)
    (e0 : m ((c.tc : Thread nD τ).loc main_arg0) = n ((c.tc : Thread Cert.GlaIdeal.nD Cert.GlaIdeal.τ).loc Cert.GlaIdeal.main_arg0))
    (e1 : m ((c.tc : Thread nD τ).loc main_arg1) = n ((c.tc : Thread Cert.GlaIdeal.nD Cert.GlaIdeal.τ).loc Cert.GlaIdeal.main_arg1))
    (e2 : m ((c.tc : Thread nD τ).loc main_arg2) = n ((c.tc : Thread Cert.GlaIdeal.nD Cert.GlaIdeal.τ).loc Cert.GlaIdeal.main_arg2))
    (e3 : m ((c.tc : Thread nD τ).loc main_arg3) = n ((c.tc : Thread Cert.GlaIdeal.nD Cert.GlaIdeal.τ).loc Cert.GlaIdeal.main_arg3))
    (e4 : m ((c.tc : Thread nD τ).loc main_arg4) = n ((c.tc : Thread Cert.GlaIdeal.nD Cert.GlaIdeal.τ).loc Cert.GlaIdeal.main_arg4))
    (e5 : m ((c.tc : Thread nD τ).loc main_arg5) = n ((c.tc : Thread Cert.GlaIdeal.nD Cert.GlaIdeal.τ).loc Cert.GlaIdeal.main_arg5))
    (e6 : m ((c.tc : Thread nD τ).loc main_arg6) = n ((c.tc : Thread Cert.GlaIdeal.nD Cert.GlaIdeal.τ).loc Cert.GlaIdeal.main_arg6)) :
    finalContents condOps preI bodyI postI 64 m c (Proc.devRef .tc main_v85) = wholeRows n c := by
  have hw : weightsOf (launched m c) = WK n c := by
    show weights (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) = _
    rw [e1, e2, e3, e4, e5, e6]
  have hx : rows (launched m c) = xK n c := by
    funext b
    show rowsOf (m ((c.tc : Thread nD τ).loc main_arg0)) b = _
    rw [e0]
  funext i
  obtain ⟨r, d, rfl⟩ : ∃ r d, i = ix2 (n0 := 32768) (n1 := 1024) r d := ⟨i 0, i 1, eq_ix2 i⟩
  refine (result_rows m c r d).trans ?_
  rw [hw, hx]
  rfl

end Cert.GlaRef

end
-- ==== Proof.lean ====
/- The certificate, assembled: the kernel's run and the reference's, and the equation of what their result arrays hold. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Equal
public import proofs.«01_k».proof.Proof.GlaBits
public import proofs.«01_k».proof.Proof.GlaEqual

@[expose] public section

noncomputable section

namespace Cert.Proof

open Idealize.ShloMosaic Idealize.SL.Sem

/-- The reference runs, keeps its arguments and leaves every counter at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On equal arguments the kernel and the reference end with equal results. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨e0, e1, e2, e3, e4, e5, e6⟩ := hagree c
  exact (h c).1.trans (Cert.ConvFfn.result_eq m m' c e0 e1 e2 e3 e4 e5 e6)

/-- The attention's reference runs, keeps its arguments and leaves every counter at zero. -/
theorem quiescent_GlaReferenceIdeal : quiescent_GlaReferenceIdeal := fun m ρ _ =>
  (θ_run Cert.GlaReferenceIdeal.defs _ _).mono (fun r h => ⟨h, sem_eq_zero_of_no_sems (by decide) r.2⟩)
    (Cert.GlaReferenceIdeal.Value.arguments_kept (F := Ideal) m ρ)

/-- On equal arguments the attention and its reference end with equal results. -/
theorem algebraic_GlaIdeal_GlaReferenceIdeal : algebraic_GlaIdeal_GlaReferenceIdeal := by
  intro m ρ m' ρ' _ hagree
  refine ⟨fun c => Cert.GlaTile.wholeRows m c, (θ_run Cert.GlaIdeal.defs _ _).mono (fun _ h => h.1) (Cert.GlaTile.value m ρ), ?_⟩
  refine (θ_run Cert.GlaReferenceIdeal.defs _ _).mono (fun _ h c => ⟨?_, (h c).2⟩) (Cert.GlaRef.reference m' ρ')
  obtain ⟨e0, e1, e2, e3, e4, e5, e6, _⟩ := hagree c
  exact (h c).1.trans (Cert.GlaRef.same m' m c e0 e1 e2 e3 e4 e5 e6)

/-- Everything claimed. -/
theorem claim : Cert.Claim := ⟨Cert.Kernel.Gen.facts, Cert.KernelIdeal.Gen.facts, Cert.ReferenceIdeal.Gen.facts,
  Cert.Gla.Gen.facts, Cert.GlaIdeal.Gen.facts, Cert.GlaReferenceIdeal.Gen.facts,
  fun m ρ _ => Cert.Kernel.Gen.frame m ρ, fun m ρ _ => Cert.KernelIdeal.Gen.frame m ρ, quiescent_ReferenceIdeal,
  Cert.GlaTile.frame_bits, fun m ρ _ => Cert.GlaTile.frame m ρ, quiescent_GlaReferenceIdeal,
  (trivial : preserves_Kernel_KernelIdeal), algebraic_KernelIdeal_ReferenceIdeal, (trivial : preserves_Gla_GlaIdeal),
  algebraic_GlaIdeal_GlaReferenceIdeal⟩

end Cert.Proof

end
